-- ==== Defs.lean ====
def Pre_Y (m : (ℓ : Loc Cert.Y.nD Cert.Y.τ Cert.Y.sig) → Buf (Elt Bits) ℓ) : Prop :=
  True

def Pre_YIdeal (m : (ℓ : Loc Cert.YIdeal.nD Cert.YIdeal.τ Cert.YIdeal.sig) → Buf (Elt Ideal) ℓ) : Prop :=
  True

def Pre_YRefIdeal (m : (ℓ : Loc Cert.YRefIdeal.nD Cert.YRefIdeal.τ Cert.YRefIdeal.sig) → Buf (Elt Ideal) ℓ) : Prop :=
  True

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_WDownIdeal_finite_w_down [hPre_finite_w_down : Cert.Pre_finite_w_down.Facts] (m : (ℓ : Loc Cert.WDownIdeal.nD Cert.WDownIdeal.τ Cert.WDownIdeal.sig) → Buf (Elt Ideal) ℓ) : Prop :=
  ∀ c : Dev Cert.WDownIdeal.nD,
    (Cert.Pre_finite_w_down.fn (F := Ideal) (m ((c.tc : Thread Cert.WDownIdeal.nD Cert.WDownIdeal.τ).loc Cert.WDownIdeal.main_arg0)) (m ((c.tc : Thread Cert.WDownIdeal.nD Cert.WDownIdeal.τ).loc Cert.WDownIdeal.main_arg1)) (m ((c.tc : Thread Cert.WDownIdeal.nD Cert.WDownIdeal.τ).loc Cert.WDownIdeal.main_arg2))) = (fun _ => 1#1)

def Pre_WDownRefIdeal (m : (ℓ : Loc Cert.WDownRefIdeal.nD Cert.WDownRefIdeal.τ Cert.WDownRefIdeal.sig) → Buf (Elt Ideal) ℓ) : Prop :=
  True

def Pre_WDownRefIdeal_finite_w_down [hPre_finite_w_down : Cert.Pre_finite_w_down.Facts] (m : (ℓ : Loc Cert.WDownRefIdeal.nD Cert.WDownRefIdeal.τ Cert.WDownRefIdeal.sig) → Buf (Elt Ideal) ℓ) : Prop :=
  ∀ c : Dev Cert.WDownRefIdeal.nD,
    (Cert.Pre_finite_w_down.fn (F := Ideal) (m ((c.tc : Thread Cert.WDownRefIdeal.nD Cert.WDownRefIdeal.τ).loc Cert.WDownRefIdeal.main_arg0)) (m ((c.tc : Thread Cert.WDownRefIdeal.nD Cert.WDownRefIdeal.τ).loc Cert.WDownRefIdeal.main_arg1)) (m ((c.tc : Thread Cert.WDownRefIdeal.nD Cert.WDownRefIdeal.τ).loc Cert.WDownRefIdeal.main_arg2))) = (fun _ => 1#1)

def Pre_DX (m : (ℓ : Loc Cert.DX.nD Cert.DX.τ Cert.DX.sig) → Buf (Elt Bits) ℓ) : Prop :=
  True

def Pre_DXIdeal (m : (ℓ : Loc Cert.DXIdeal.nD Cert.DXIdeal.τ Cert.DXIdeal.sig) → Buf (Elt Ideal) ℓ) : Prop :=
  True

def Pre_DXIdeal_finite_dx [hPre_finite_dx : Cert.Pre_finite_dx.Facts] (m : (ℓ : Loc Cert.DXIdeal.nD Cert.DXIdeal.τ Cert.DXIdeal.sig) → Buf (Elt Ideal) ℓ) : Prop :=
  ∀ c : Dev Cert.DXIdeal.nD,
    (Cert.Pre_finite_dx.fn (F := Ideal) (m ((c.tc : Thread Cert.DXIdeal.nD Cert.DXIdeal.τ).loc Cert.DXIdeal.main_arg0)) (m ((c.tc : Thread Cert.DXIdeal.nD Cert.DXIdeal.τ).loc Cert.DXIdeal.main_arg1)) (m ((c.tc : Thread Cert.DXIdeal.nD Cert.DXIdeal.τ).loc Cert.DXIdeal.main_arg2))) = (fun _ => 1#1)

def Pre_DXRefIdeal (m : (ℓ : Loc Cert.DXRefIdeal.nD Cert.DXRefIdeal.τ Cert.DXRefIdeal.sig) → Buf (Elt Ideal) ℓ) : Prop :=
  True

def Pre_DXRefIdeal_finite_dx [hPre_finite_dx : Cert.Pre_finite_dx.Facts] (m : (ℓ : Loc Cert.DXRefIdeal.nD Cert.DXRefIdeal.τ Cert.DXRefIdeal.sig) → Buf (Elt Ideal) ℓ) : Prop :=
  ∀ c : Dev Cert.DXRefIdeal.nD,
    (Cert.Pre_finite_dx.fn (F := Ideal) (m ((c.tc : Thread Cert.DXRefIdeal.nD Cert.DXRefIdeal.τ).loc Cert.DXRefIdeal.main_arg0)) (m ((c.tc : Thread Cert.DXRefIdeal.nD Cert.DXRefIdeal.τ).loc Cert.DXRefIdeal.main_arg1)) (m ((c.tc : Thread Cert.DXRefIdeal.nD Cert.DXRefIdeal.τ).loc Cert.DXRefIdeal.main_arg2))) = (fun _ => 1#1)

def Pre_WGateUp (m : (ℓ : Loc Cert.WGateUp.nD Cert.WGateUp.τ Cert.WGateUp.sig) → Buf (Elt Bits) ℓ) : Prop :=
  True

def Pre_WGateUpIdeal (m : (ℓ : Loc Cert.WGateUpIdeal.nD Cert.WGateUpIdeal.τ Cert.WGateUpIdeal.sig) → Buf (Elt Ideal) ℓ) : Prop :=
  True

def Pre_WGateUpIdeal_finite_w_gate_up [hPre_finite_w_gate_up : Cert.Pre_finite_w_gate_up.Facts] (m : (ℓ : Loc Cert.WGateUpIdeal.nD Cert.WGateUpIdeal.τ Cert.WGateUpIdeal.sig) → Buf (Elt Ideal) ℓ) : Prop :=
  ∀ c : Dev Cert.WGateUpIdeal.nD,
    (Cert.Pre_finite_w_gate_up.fn (F := Ideal) (m ((c.tc : Thread Cert.WGateUpIdeal.nD Cert.WGateUpIdeal.τ).loc Cert.WGateUpIdeal.main_arg0)) (m ((c.tc : Thread Cert.WGateUpIdeal.nD Cert.WGateUpIdeal.τ).loc Cert.WGateUpIdeal.main_arg1)) (m ((c.tc : Thread Cert.WGateUpIdeal.nD Cert.WGateUpIdeal.τ).loc Cert.WGateUpIdeal.main_arg2))) = (fun _ => 1#1)

def Pre_WGateUpRefIdeal (m : (ℓ : Loc Cert.WGateUpRefIdeal.nD Cert.WGateUpRefIdeal.τ Cert.WGateUpRefIdeal.sig) → Buf (Elt Ideal) ℓ) : Prop :=
  True

def Pre_WGateUpRefIdeal_finite_w_gate_up [hPre_finite_w_gate_up : Cert.Pre_finite_w_gate_up.Facts] (m : (ℓ : Loc Cert.WGateUpRefIdeal.nD Cert.WGateUpRefIdeal.τ Cert.WGateUpRefIdeal.sig) → Buf (Elt Ideal) ℓ) : Prop :=
  ∀ c : Dev Cert.WGateUpRefIdeal.nD,
    (Cert.Pre_finite_w_gate_up.fn (F := Ideal) (m ((c.tc : Thread Cert.WGateUpRefIdeal.nD Cert.WGateUpRefIdeal.τ).loc Cert.WGateUpRefIdeal.main_arg0)) (m ((c.tc : Thread Cert.WGateUpRefIdeal.nD Cert.WGateUpRefIdeal.τ).loc Cert.WGateUpRefIdeal.main_arg1)) (m ((c.tc : Thread Cert.WGateUpRefIdeal.nD Cert.WGateUpRefIdeal.τ).loc Cert.WGateUpRefIdeal.main_arg2))) = (fun _ => 1#1)

def quiescent_Y [hY : Cert.Y.Facts] : Prop :=
  ∀ (m : (ℓ : Loc Cert.Y.nD Cert.Y.τ Cert.Y.sig) → Buf (Elt Bits) ℓ) (g : Dev Cert.Y.nD → PrngReg), Pre_Y m →
    θ_run (Cert.Y.defs (F := Bits)) (onTc (τ := Cert.Y.τ) (Cert.Y.main (F := Bits))) ⟨m, fun _ => 0, g⟩ (fun r => (∀ c : Dev Cert.Y.nD,
      r.2.mem ((c.tc : Thread Cert.Y.nD Cert.Y.τ).loc Cert.Y.main_arg0) = m ((c.tc : Thread Cert.Y.nD Cert.Y.τ).loc Cert.Y.main_arg0)
      ∧ r.2.mem ((c.tc : Thread Cert.Y.nD Cert.Y.τ).loc Cert.Y.main_arg1) = m ((c.tc : Thread Cert.Y.nD Cert.Y.τ).loc Cert.Y.main_arg1))
      ∧ r.2.sem = fun _ => 0)

def quiescent_YIdeal [hYIdeal : Cert.YIdeal.Facts] : Prop :=
  ∀ (m : (ℓ : Loc Cert.YIdeal.nD Cert.YIdeal.τ Cert.YIdeal.sig) → Buf (Elt Ideal) ℓ) (g : Dev Cert.YIdeal.nD → PrngReg), Pre_YIdeal m →
    θ_run (Cert.YIdeal.defs (F := Ideal)) (onTc (τ := Cert.YIdeal.τ) (Cert.YIdeal.main (F := Ideal))) ⟨m, fun _ => 0, g⟩ (fun r => (∀ c : Dev Cert.YIdeal.nD,
      r.2.mem ((c.tc : Thread Cert.YIdeal.nD Cert.YIdeal.τ).loc Cert.YIdeal.main_arg0) = m ((c.tc : Thread Cert.YIdeal.nD Cert.YIdeal.τ).loc Cert.YIdeal.main_arg0)
      ∧ r.2.mem ((c.tc : Thread Cert.YIdeal.nD Cert.YIdeal.τ).loc Cert.YIdeal.main_arg1) = m ((c.tc : Thread Cert.YIdeal.nD Cert.YIdeal.τ).loc Cert.YIdeal.main_arg1))
      ∧ r.2.sem = fun _ => 0)

def quiescent_YRefIdeal [hYRefIdeal : Cert.YRefIdeal.Facts] : Prop :=
  ∀ (m : (ℓ : Loc Cert.YRefIdeal.nD Cert.YRefIdeal.τ Cert.YRefIdeal.sig) → Buf (Elt Ideal) ℓ) (g : Dev Cert.YRefIdeal.nD → PrngReg), Pre_YRefIdeal m →
    θ_run (Cert.YRefIdeal.defs (F := Ideal)) (onTc (τ := Cert.YRefIdeal.τ) (Cert.YRefIdeal.main (F := Ideal))) ⟨m, fun _ => 0, g⟩ (fun r => (∀ c : Dev Cert.YRefIdeal.nD,
      r.2.mem ((c.tc : Thread Cert.YRefIdeal.nD Cert.YRefIdeal.τ).loc Cert.YRefIdeal.main_arg0) = m ((c.tc : Thread Cert.YRefIdeal.nD Cert.YRefIdeal.τ).loc Cert.YRefIdeal.main_arg0)
      ∧ r.2.mem ((c.tc : Thread Cert.YRefIdeal.nD Cert.YRefIdeal.τ).loc Cert.YRefIdeal.main_arg1) = m ((c.tc : Thread Cert.YRefIdeal.nD Cert.YRefIdeal.τ).loc Cert.YRefIdeal.main_arg1))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1)
      ∧ r.2.mem ((c.tc : Thread Cert.WDown.nD Cert.WDown.τ).loc Cert.WDown.main_arg2) = m ((c.tc : Thread Cert.WDown.nD Cert.WDown.τ).loc Cert.WDown.main_arg2))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1)
      ∧ r.2.mem ((c.tc : Thread Cert.WDownIdeal.nD Cert.WDownIdeal.τ).loc Cert.WDownIdeal.main_arg2) = m ((c.tc : Thread Cert.WDownIdeal.nD Cert.WDownIdeal.τ).loc Cert.WDownIdeal.main_arg2))
      ∧ r.2.sem = fun _ => 0)

def quiescent_WDownIdeal_pre_finite_w_down [hWDownIdeal : Cert.WDownIdeal.Facts] [hPre_finite_w_down : Cert.Pre_finite_w_down.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal_finite_w_down m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1)
      ∧ r.2.mem ((c.tc : Thread Cert.WDownIdeal.nD Cert.WDownIdeal.τ).loc Cert.WDownIdeal.main_arg2) = m ((c.tc : Thread Cert.WDownIdeal.nD Cert.WDownIdeal.τ).loc Cert.WDownIdeal.main_arg2))
      ∧ r.2.sem = fun _ => 0)

def quiescent_WDownRefIdeal [hWDownRefIdeal : Cert.WDownRefIdeal.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1)
      ∧ r.2.mem ((c.tc : Thread Cert.WDownRefIdeal.nD Cert.WDownRefIdeal.τ).loc Cert.WDownRefIdeal.main_arg2) = m ((c.tc : Thread Cert.WDownRefIdeal.nD Cert.WDownRefIdeal.τ).loc Cert.WDownRefIdeal.main_arg2))
      ∧ r.2.sem = fun _ => 0)

def quiescent_WDownRefIdeal_pre_finite_w_down [hWDownRefIdeal : Cert.WDownRefIdeal.Facts] [hPre_finite_w_down : Cert.Pre_finite_w_down.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal_finite_w_down m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1)
      ∧ r.2.mem ((c.tc : Thread Cert.WDownRefIdeal.nD Cert.WDownRefIdeal.τ).loc Cert.WDownRefIdeal.main_arg2) = m ((c.tc : Thread Cert.WDownRefIdeal.nD Cert.WDownRefIdeal.τ).loc Cert.WDownRefIdeal.main_arg2))
      ∧ r.2.sem = fun _ => 0)

def quiescent_DX [hDX : Cert.DX.Facts] : Prop :=
  ∀ (m : (ℓ : Loc Cert.DX.nD Cert.DX.τ Cert.DX.sig) → Buf (Elt Bits) ℓ) (g : Dev Cert.DX.nD → PrngReg), Pre_DX m →
    θ_run (Cert.DX.defs (F := Bits)) (onTc (τ := Cert.DX.τ) (Cert.DX.main (F := Bits))) ⟨m, fun _ => 0, g⟩ (fun r => (∀ c : Dev Cert.DX.nD,
      r.2.mem ((c.tc : Thread Cert.DX.nD Cert.DX.τ).loc Cert.DX.main_arg0) = m ((c.tc : Thread Cert.DX.nD Cert.DX.τ).loc Cert.DX.main_arg0)
      ∧ r.2.mem ((c.tc : Thread Cert.DX.nD Cert.DX.τ).loc Cert.DX.main_arg1) = m ((c.tc : Thread Cert.DX.nD Cert.DX.τ).loc Cert.DX.main_arg1)
      ∧ r.2.mem ((c.tc : Thread Cert.DX.nD Cert.DX.τ).loc Cert.DX.main_arg2) = m ((c.tc : Thread Cert.DX.nD Cert.DX.τ).loc Cert.DX.main_arg2))
      ∧ r.2.sem = fun _ => 0)

def quiescent_DXIdeal [hDXIdeal : Cert.DXIdeal.Facts] : Prop :=
  ∀ (m : (ℓ : Loc Cert.DXIdeal.nD Cert.DXIdeal.τ Cert.DXIdeal.sig) → Buf (Elt Ideal) ℓ) (g : Dev Cert.DXIdeal.nD → PrngReg), Pre_DXIdeal m →
    θ_run (Cert.DXIdeal.defs (F := Ideal)) (onTc (τ := Cert.DXIdeal.τ) (Cert.DXIdeal.main (F := Ideal))) ⟨m, fun _ => 0, g⟩ (fun r => (∀ c : Dev Cert.DXIdeal.nD,
      r.2.mem ((c.tc : Thread Cert.DXIdeal.nD Cert.DXIdeal.τ).loc Cert.DXIdeal.main_arg0) = m ((c.tc : Thread Cert.DXIdeal.nD Cert.DXIdeal.τ).loc Cert.DXIdeal.main_arg0)
      ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
      ∧ r.2.mem ((c.tc : Thread Cert.DXIdeal.nD Cert.DXIdeal.τ).loc Cert.DXIdeal.main_arg2) = m ((c.tc : Thread Cert.DXIdeal.nD Cert.DXIdeal.τ).loc Cert.DXIdeal.main_arg2))
      ∧ r.2.sem = fun _ => 0)

def quiescent_DXIdeal_pre_finite_dx [hDXIdeal : Cert.DXIdeal.Facts] [hPre_finite_dx : Cert.Pre_finite_dx.Facts] : Prop :=
  ∀ (m : (ℓ : Loc Cert.DXIdeal.nD Cert.DXIdeal.τ Cert.DXIdeal.sig) → Buf (Elt Ideal) ℓ) (g : Dev Cert.DXIdeal.nD → PrngReg), Pre_DXIdeal_finite_dx m →
    θ_run (Cert.DXIdeal.defs (F := Ideal)) (onTc (τ := Cert.DXIdeal.τ) (Cert.DXIdeal.main (F := Ideal))) ⟨m, fun _ => 0, g⟩ (fun r => (∀ c : Dev Cert.DXIdeal.nD,
      r.2.mem ((c.tc : Thread Cert.DXIdeal.nD Cert.DXIdeal.τ).loc Cert.DXIdeal.main_arg0) = m ((c.tc : Thread Cert.DXIdeal.nD Cert.DXIdeal.τ).loc Cert.DXIdeal.main_arg0)
      ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
      ∧ r.2.mem ((c.tc : Thread Cert.DXIdeal.nD Cert.DXIdeal.τ).loc Cert.DXIdeal.main_arg2) = m ((c.tc : Thread Cert.DXIdeal.nD Cert.DXIdeal.τ).loc Cert.DXIdeal.main_arg2))
      ∧ r.2.sem = fun _ => 0)

def quiescent_DXRefIdeal [hDXRefIdeal : Cert.DXRefIdeal.Facts] : Prop :=
  ∀ (m : (ℓ : Loc Cert.DXRefIdeal.nD Cert.DXRefIdeal.τ Cert.DXRefIdeal.sig) → Buf (Elt Ideal) ℓ) (g : Dev Cert.DXRefIdeal.nD → PrngReg), Pre_DXRefIdeal m →
    θ_run (Cert.DXRefIdeal.defs (F := Ideal)) (onTc (τ := Cert.DXRefIdeal.τ) (Cert.DXRefIdeal.main (F := Ideal))) ⟨m, fun _ => 0, g⟩ (fun r => (∀ c : Dev Cert.DXRefIdeal.nD,
      r.2.mem ((c.tc : Thread Cert.DXRefIdeal.nD Cert.DXRefIdeal.τ).loc Cert.DXRefIdeal.main_arg0) = m ((c.tc : Thread Cert.DXRefIdeal.nD Cert.DXRefIdeal.τ).loc Cert.DXRefIdeal.main_arg0)
      ∧ r.2.mem ((c.tc : Thread Cert.DXRefIdeal.nD Cert.DXRefIdeal.τ).loc Cert.DXRefIdeal.main_arg1) = m ((c.tc : Thread Cert.DXRefIdeal.nD Cert.DXRefIdeal.τ).loc Cert.DXRefIdeal.main_arg1)
      ∧ r.2.mem ((c.tc : Thread Cert.DXRefIdeal.nD Cert.DXRefIdeal.τ).loc Cert.DXRefIdeal.main_arg2) = m ((c.tc : Thread Cert.DXRefIdeal.nD Cert.DXRefIdeal.τ).loc Cert.DXRefIdeal.main_arg2))
      ∧ r.2.sem = fun _ => 0)

def quiescent_DXRefIdeal_pre_finite_dx [hDXRefIdeal : Cert.DXRefIdeal.Facts] [hPre_finite_dx : Cert.Pre_finite_dx.Facts] : Prop :=
  ∀ (m : (ℓ : Loc Cert.DXRefIdeal.nD Cert.DXRefIdeal.τ Cert.DXRefIdeal.sig) → Buf (Elt Ideal) ℓ) (g : Dev Cert.DXRefIdeal.nD → PrngReg), Pre_DXRefIdeal_finite_dx m →
    θ_run (Cert.DXRefIdeal.defs (F := Ideal)) (onTc (τ := Cert.DXRefIdeal.τ) (Cert.DXRefIdeal.main (F := Ideal))) ⟨m, fun _ => 0, g⟩ (fun r => (∀ c : Dev Cert.DXRefIdeal.nD,
      r.2.mem ((c.tc : Thread Cert.DXRefIdeal.nD Cert.DXRefIdeal.τ).loc Cert.DXRefIdeal.main_arg0) = m ((c.tc : Thread Cert.DXRefIdeal.nD Cert.DXRefIdeal.τ).loc Cert.DXRefIdeal.main_arg0)
      ∧ r.2.mem ((c.tc : Thread Cert.DXRefIdeal.nD Cert.DXRefIdeal.τ).loc Cert.DXRefIdeal.main_arg1) = m ((c.tc : Thread Cert.DXRefIdeal.nD Cert.DXRefIdeal.τ).loc Cert.DXRefIdeal.main_arg1)
      ∧ r.2.mem ((c.tc : Thread Cert.DXRefIdeal.nD Cert.DXRefIdeal.τ).loc Cert.DXRefIdeal.main_arg2) = m ((c.tc : Thread Cert.DXRefIdeal.nD Cert.DXRefIdeal.τ).loc Cert.DXRefIdeal.main_arg2))
      ∧ r.2.sem = fun _ => 0)

def quiescent_WGateUp [hWGateUp : Cert.WGateUp.Facts] : Prop :=
  ∀ (m : (ℓ : Loc Cert.WGateUp.nD Cert.WGateUp.τ Cert.WGateUp.sig) → Buf (Elt Bits) ℓ) (g : Dev Cert.WGateUp.nD → PrngReg), Pre_WGateUp m →
    θ_run (Cert.WGateUp.defs (F := Bits)) (onTc (τ := Cert.WGateUp.τ) (Cert.WGateUp.main (F := Bits))) ⟨m, fun _ => 0, g⟩ (fun r => (∀ c : Dev Cert.WGateUp.nD,
      r.2.mem ((c.tc : Thread Cert.WGateUp.nD Cert.WGateUp.τ).loc Cert.WGateUp.main_arg0) = m ((c.tc : Thread Cert.WGateUp.nD Cert.WGateUp.τ).loc Cert.WGateUp.main_arg0)
      ∧ r.2.mem ((c.tc : Thread Cert.WGateUp.nD Cert.WGateUp.τ).loc Cert.WGateUp.main_arg1) = m ((c.tc : Thread Cert.WGateUp.nD Cert.WGateUp.τ).loc Cert.WGateUp.main_arg1)
      ∧ r.2.mem ((c.tc : Thread Cert.WGateUp.nD Cert.WGateUp.τ).loc Cert.WGateUp.main_arg2) = m ((c.tc : Thread Cert.WGateUp.nD Cert.WGateUp.τ).loc Cert.WGateUp.main_arg2))
      ∧ r.2.sem = fun _ => 0)

def quiescent_WGateUpIdeal [hWGateUpIdeal : Cert.WGateUpIdeal.Facts] : Prop :=
  ∀ (m : (ℓ : Loc Cert.WGateUpIdeal.nD Cert.WGateUpIdeal.τ Cert.WGateUpIdeal.sig) → Buf (Elt Ideal) ℓ) (g : Dev Cert.WGateUpIdeal.nD → PrngReg), Pre_WGateUpIdeal m →
    θ_run (Cert.WGateUpIdeal.defs (F := Ideal)) (onTc (τ := Cert.WGateUpIdeal.τ) (Cert.WGateUpIdeal.main (F := Ideal))) ⟨m, fun _ => 0, g⟩ (fun r => (∀ c : Dev Cert.WGateUpIdeal.nD,
      r.2.mem ((c.tc : Thread Cert.WGateUpIdeal.nD Cert.WGateUpIdeal.τ).loc Cert.WGateUpIdeal.main_arg0) = m ((c.tc : Thread Cert.WGateUpIdeal.nD Cert.WGateUpIdeal.τ).loc Cert.WGateUpIdeal.main_arg0)
      ∧ r.2.mem ((c.tc : Thread Cert.WGateUpIdeal.nD Cert.WGateUpIdeal.τ).loc Cert.WGateUpIdeal.main_arg1) = m ((c.tc : Thread Cert.WGateUpIdeal.nD Cert.WGateUpIdeal.τ).loc Cert.WGateUpIdeal.main_arg1)
      ∧ r.2.mem ((c.tc : Thread Cert.WGateUpIdeal.nD Cert.WGateUpIdeal.τ).loc Cert.WGateUpIdeal.main_arg2) = m ((c.tc : Thread Cert.WGateUpIdeal.nD Cert.WGateUpIdeal.τ).loc Cert.WGateUpIdeal.main_arg2))
      ∧ r.2.sem = fun _ => 0)

def quiescent_WGateUpIdeal_pre_finite_w_gate_up [hWGateUpIdeal : Cert.WGateUpIdeal.Facts] [hPre_finite_w_gate_up : Cert.Pre_finite_w_gate_up.Facts] : Prop :=
  ∀ (m : (ℓ : Loc Cert.WGateUpIdeal.nD Cert.WGateUpIdeal.τ Cert.WGateUpIdeal.sig) → Buf (Elt Ideal) ℓ) (g : Dev Cert.WGateUpIdeal.nD → PrngReg), Pre_WGateUpIdeal_finite_w_gate_up m →
    θ_run (Cert.WGateUpIdeal.defs (F := Ideal)) (onTc (τ := Cert.WGateUpIdeal.τ) (Cert.WGateUpIdeal.main (F := Ideal))) ⟨m, fun _ => 0, g⟩ (fun r => (∀ c : Dev Cert.WGateUpIdeal.nD,
      r.2.mem ((c.tc : Thread Cert.WGateUpIdeal.nD Cert.WGateUpIdeal.τ).loc Cert.WGateUpIdeal.main_arg0) = m ((c.tc : Thread Cert.WGateUpIdeal.nD Cert.WGateUpIdeal.τ).loc Cert.WGateUpIdeal.main_arg0)
      ∧ r.2.mem ((c.tc : Thread Cert.WGateUpIdeal.nD Cert.WGateUpIdeal.τ).loc Cert.WGateUpIdeal.main_arg1) = m ((c.tc : Thread Cert.WGateUpIdeal.nD Cert.WGateUpIdeal.τ).loc Cert.WGateUpIdeal.main_arg1)
      ∧ r.2.mem ((c.tc : Thread Cert.WGateUpIdeal.nD Cert.WGateUpIdeal.τ).loc Cert.WGateUpIdeal.main_arg2) = m ((c.tc : Thread Cert.WGateUpIdeal.nD Cert.WGateUpIdeal.τ).loc Cert.WGateUpIdeal.main_arg2))
      ∧ r.2.sem = fun _ => 0)

def quiescent_WGateUpRefIdeal [hWGateUpRefIdeal : Cert.WGateUpRefIdeal.Facts] : Prop :=
  ∀ (m : (ℓ : Loc Cert.WGateUpRefIdeal.nD Cert.WGateUpRefIdeal.τ Cert.WGateUpRefIdeal.sig) → Buf (Elt Ideal) ℓ) (g : Dev Cert.WGateUpRefIdeal.nD → PrngReg), Pre_WGateUpRefIdeal m →
    θ_run (Cert.WGateUpRefIdeal.defs (F := Ideal)) (onTc (τ := Cert.WGateUpRefIdeal.τ) (Cert.WGateUpRefIdeal.main (F := Ideal))) ⟨m, fun _ => 0, g⟩ (fun r => (∀ c : Dev Cert.WGateUpRefIdeal.nD,
      r.2.mem ((c.tc : Thread Cert.WGateUpRefIdeal.nD Cert.WGateUpRefIdeal.τ).loc Cert.WGateUpRefIdeal.main_arg0) = m ((c.tc : Thread Cert.WGateUpRefIdeal.nD Cert.WGateUpRefIdeal.τ).loc Cert.WGateUpRefIdeal.main_arg0)
      ∧ r.2.mem ((c.tc : Thread Cert.WGateUpRefIdeal.nD Cert.WGateUpRefIdeal.τ).loc Cert.WGateUpRefIdeal.main_arg1) = m ((c.tc : Thread Cert.WGateUpRefIdeal.nD Cert.WGateUpRefIdeal.τ).loc Cert.WGateUpRefIdeal.main_arg1)
      ∧ r.2.mem ((c.tc : Thread Cert.WGateUpRefIdeal.nD Cert.WGateUpRefIdeal.τ).loc Cert.WGateUpRefIdeal.main_arg2) = m ((c.tc : Thread Cert.WGateUpRefIdeal.nD Cert.WGateUpRefIdeal.τ).loc Cert.WGateUpRefIdeal.main_arg2))
      ∧ r.2.sem = fun _ => 0)

def quiescent_WGateUpRefIdeal_pre_finite_w_gate_up [hWGateUpRefIdeal : Cert.WGateUpRefIdeal.Facts] [hPre_finite_w_gate_up : Cert.Pre_finite_w_gate_up.Facts] : Prop :=
  ∀ (m : (ℓ : Loc Cert.WGateUpRefIdeal.nD Cert.WGateUpRefIdeal.τ Cert.WGateUpRefIdeal.sig) → Buf (Elt Ideal) ℓ) (g : Dev Cert.WGateUpRefIdeal.nD → PrngReg), Pre_WGateUpRefIdeal_finite_w_gate_up m →
    θ_run (Cert.WGateUpRefIdeal.defs (F := Ideal)) (onTc (τ := Cert.WGateUpRefIdeal.τ) (Cert.WGateUpRefIdeal.main (F := Ideal))) ⟨m, fun _ => 0, g⟩ (fun r => (∀ c : Dev Cert.WGateUpRefIdeal.nD,
      r.2.mem ((c.tc : Thread Cert.WGateUpRefIdeal.nD Cert.WGateUpRefIdeal.τ).loc Cert.WGateUpRefIdeal.main_arg0) = m ((c.tc : Thread Cert.WGateUpRefIdeal.nD Cert.WGateUpRefIdeal.τ).loc Cert.WGateUpRefIdeal.main_arg0)
      ∧ r.2.mem ((c.tc : Thread Cert.WGateUpRefIdeal.nD Cert.WGateUpRefIdeal.τ).loc Cert.WGateUpRefIdeal.main_arg1) = m ((c.tc : Thread Cert.WGateUpRefIdeal.nD Cert.WGateUpRefIdeal.τ).loc Cert.WGateUpRefIdeal.main_arg1)
      ∧ r.2.mem ((c.tc : Thread Cert.WGateUpRefIdeal.nD Cert.WGateUpRefIdeal.τ).loc Cert.WGateUpRefIdeal.main_arg2) = m ((c.tc : Thread Cert.WGateUpRefIdeal.nD Cert.WGateUpRefIdeal.τ).loc Cert.WGateUpRefIdeal.main_arg2))
      ∧ r.2.sem = fun _ => 0)

def preserves_Y_YIdeal : Prop :=
  True

def algebraic_YIdeal_YRefIdeal [hYIdeal : Cert.YIdeal.Facts] [hYRefIdeal : Cert.YRefIdeal.Facts] : Prop :=
  ∀ (m : (ℓ : Loc Cert.YIdeal.nD Cert.YIdeal.τ Cert.YIdeal.sig) → Buf (Elt Ideal) ℓ) (g : Dev Cert.YIdeal.nD → PrngReg)
    (m' : (ℓ : Loc Cert.YRefIdeal.nD Cert.YRefIdeal.τ Cert.YRefIdeal.sig) → Buf (Elt Ideal) ℓ) (g' : Dev Cert.YRefIdeal.nD → PrngReg), Pre_YIdeal m →
    (∀ c : Dev Cert.YIdeal.nD,
      m' ((c.tc : Thread Cert.YRefIdeal.nD Cert.YRefIdeal.τ).loc Cert.YRefIdeal.main_arg0) = m ((c.tc : Thread Cert.YIdeal.nD Cert.YIdeal.τ).loc Cert.YIdeal.main_arg0)
      ∧ m' ((c.tc : Thread Cert.YRefIdeal.nD Cert.YRefIdeal.τ).loc Cert.YRefIdeal.main_arg1) = m ((c.tc : Thread Cert.YIdeal.nD Cert.YIdeal.τ).loc Cert.YIdeal.main_arg1)) →
    ∃ (v0 : (c : Dev Cert.YIdeal.nD) → Buf (Elt Ideal) ((c.tc : Thread Cert.YIdeal.nD Cert.YIdeal.τ).loc Cert.YIdeal.main_v0)),
      θ_run (Cert.YIdeal.defs (F := Ideal)) (onTc (τ := Cert.YIdeal.τ) (Cert.YIdeal.main (F := Ideal))) ⟨m, fun _ => 0, g⟩ (fun r => ∀ c : Dev Cert.YIdeal.nD,
          r.2.mem ((c.tc : Thread Cert.YIdeal.nD Cert.YIdeal.τ).loc Cert.YIdeal.main_v0) = v0 c
          ∧ r.2.mem ((c.tc : Thread Cert.YIdeal.nD Cert.YIdeal.τ).loc Cert.YIdeal.main_arg0) = m ((c.tc : Thread Cert.YIdeal.nD Cert.YIdeal.τ).loc Cert.YIdeal.main_arg0)
          ∧ r.2.mem ((c.tc : Thread Cert.YIdeal.nD Cert.YIdeal.τ).loc Cert.YIdeal.main_arg1) = m ((c.tc : Thread Cert.YIdeal.nD Cert.YIdeal.τ).loc Cert.YIdeal.main_arg1))
      ∧ θ_run (Cert.YRefIdeal.defs (F := Ideal)) (onTc (τ := Cert.YRefIdeal.τ) (Cert.YRefIdeal.main (F := Ideal))) ⟨m', fun _ => 0, g'⟩ (fun r => ∀ c : Dev Cert.YRefIdeal.nD,
          r.2.mem ((c.tc : Thread Cert.YRefIdeal.nD Cert.YRefIdeal.τ).loc Cert.YRefIdeal.main_v3) = v0 c
          ∧ r.2.mem ((c.tc : Thread Cert.YRefIdeal.nD Cert.YRefIdeal.τ).loc Cert.YRefIdeal.main_arg0) = m' ((c.tc : Thread Cert.YRefIdeal.nD Cert.YRefIdeal.τ).loc Cert.YRefIdeal.main_arg0)
          ∧ r.2.mem ((c.tc : Thread Cert.YRefIdeal.nD Cert.YRefIdeal.τ).loc Cert.YRefIdeal.main_arg1) = m' ((c.tc : Thread Cert.YRefIdeal.nD Cert.YRefIdeal.τ).loc Cert.YRefIdeal.main_arg1))

def preserves_WDown_WDownIdeal : Prop :=
  IdealRules.bf16_pair.BufferStatement Cert.WDownIdeal.S160x2x128 Cert.WDownIdeal.S160x1x128
  ∧ IdealRules.named_const.Statement Cert.WDownIdeal.κ "bwd_rot" .f32 0x3EA0E7F4#32 ((11863283 / 37748736 : ℝ) : EReal)
  ∧ IdealRules.bf16_pair.PackStatement Cert.WDownIdeal.S8x128
  ∧ IdealRules.bf16_pair.Statement Cert.WDownIdeal.S8x2x128 Cert.WDownIdeal.S8x1x128
  ∧ IdealRules.bf16_pair.Statement Cert.WDownIdeal.S16x2x128 Cert.WDownIdeal.S16x1x128
  ∧ IdealRules.bf16_pair.Statement Cert.WDownIdeal.S256x128 Cert.WDownIdeal.S128x128

def algebraic_WDownIdeal_WDownRefIdeal_pre_finite_w_down [hWDownIdeal : Cert.WDownIdeal.Facts] [hWDownRefIdeal : Cert.WDownRefIdeal.Facts] [hPre_finite_w_down : Cert.Pre_finite_w_down.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.WDownRefIdeal.nD Cert.WDownRefIdeal.τ Cert.WDownRefIdeal.sig) → Buf (Elt Ideal) ℓ) (g' : Dev Cert.WDownRefIdeal.nD → PrngReg), Pre_WDownIdeal_finite_w_down m →
    (∀ c : Dev Cert.WDownIdeal.nD,
      m' ((c.tc : Thread Cert.WDownRefIdeal.nD Cert.WDownRefIdeal.τ).loc Cert.WDownRefIdeal.main_arg0) = m ((c.tc : Thread Cert.WDownIdeal.nD Cert.WDownIdeal.τ).loc Cert.WDownIdeal.main_arg0)
      ∧ m' ((c.tc : Thread Cert.WDownRefIdeal.nD Cert.WDownRefIdeal.τ).loc Cert.WDownRefIdeal.main_arg1) = m ((c.tc : Thread Cert.WDownIdeal.nD Cert.WDownIdeal.τ).loc Cert.WDownIdeal.main_arg1)
      ∧ m' ((c.tc : Thread Cert.WDownRefIdeal.nD Cert.WDownRefIdeal.τ).loc Cert.WDownRefIdeal.main_arg2) = m ((c.tc : Thread Cert.WDownIdeal.nD Cert.WDownIdeal.τ).loc Cert.WDownIdeal.main_arg2)) →
    ∃ (v0 : (c : Dev Cert.WDownIdeal.nD) → Buf (Elt Ideal) ((c.tc : Thread Cert.WDownIdeal.nD Cert.WDownIdeal.τ).loc Cert.WDownIdeal.main_v0)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v0) = v0 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1)
          ∧ r.2.mem ((c.tc : Thread Cert.WDownIdeal.nD Cert.WDownIdeal.τ).loc Cert.WDownIdeal.main_arg2) = m ((c.tc : Thread Cert.WDownIdeal.nD Cert.WDownIdeal.τ).loc Cert.WDownIdeal.main_arg2))
      ∧ θ_run (Cert.WDownRefIdeal.defs (F := Ideal)) (onTc (τ := Cert.WDownRefIdeal.τ) (Cert.WDownRefIdeal.main (F := Ideal))) ⟨m', fun _ => 0, g'⟩ (fun r => ∀ c : Dev Cert.WDownRefIdeal.nD,
          r.2.mem ((c.tc : Thread Cert.WDownRefIdeal.nD Cert.WDownRefIdeal.τ).loc Cert.WDownRefIdeal.main_v37) = v0 c
          ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
          ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1)
          ∧ r.2.mem ((c.tc : Thread Cert.WDownRefIdeal.nD Cert.WDownRefIdeal.τ).loc Cert.WDownRefIdeal.main_arg2) = m' ((c.tc : Thread Cert.WDownRefIdeal.nD Cert.WDownRefIdeal.τ).loc Cert.WDownRefIdeal.main_arg2))

def preserves_DX_DXIdeal : Prop :=
  IdealRules.bf16_pair.BufferStatement Cert.DXIdeal.S160x2x128 Cert.DXIdeal.S160x1x128
  ∧ IdealRules.named_const.Statement Cert.DXIdeal.κ "bwd_rot" .f32 0x3EA0E7F4#32 ((11863283 / 37748736 : ℝ) : EReal)
  ∧ IdealRules.bf16_pair.PackStatement Cert.DXIdeal.S8x128
  ∧ IdealRules.bf16_pair.Statement Cert.DXIdeal.S8x2x128 Cert.DXIdeal.S8x1x128
  ∧ IdealRules.bf16_pair.Statement Cert.DXIdeal.S16x2x128 Cert.DXIdeal.S16x1x128
  ∧ IdealRules.bf16_pair.Statement Cert.DXIdeal.S256x128 Cert.DXIdeal.S128x128

def algebraic_DXIdeal_DXRefIdeal_pre_finite_dx [hDXIdeal : Cert.DXIdeal.Facts] [hDXRefIdeal : Cert.DXRefIdeal.Facts] [hPre_finite_dx : Cert.Pre_finite_dx.Facts] : Prop :=
  ∀ (m : (ℓ : Loc Cert.DXIdeal.nD Cert.DXIdeal.τ Cert.DXIdeal.sig) → Buf (Elt Ideal) ℓ) (g : Dev Cert.DXIdeal.nD → PrngReg)
    (m' : (ℓ : Loc Cert.DXRefIdeal.nD Cert.DXRefIdeal.τ Cert.DXRefIdeal.sig) → Buf (Elt Ideal) ℓ) (g' : Dev Cert.DXRefIdeal.nD → PrngReg), Pre_DXIdeal_finite_dx m →
    (∀ c : Dev Cert.DXIdeal.nD,
      m' ((c.tc : Thread Cert.DXRefIdeal.nD Cert.DXRefIdeal.τ).loc Cert.DXRefIdeal.main_arg0) = m ((c.tc : Thread Cert.DXIdeal.nD Cert.DXIdeal.τ).loc Cert.DXIdeal.main_arg0)
      ∧ m' ((c.tc : Thread Cert.DXRefIdeal.nD Cert.DXRefIdeal.τ).loc Cert.DXRefIdeal.main_arg1) = m ((c.tc : Thread Cert.DXIdeal.nD Cert.DXIdeal.τ).loc Cert.DXIdeal.main_arg1)
      ∧ m' ((c.tc : Thread Cert.DXRefIdeal.nD Cert.DXRefIdeal.τ).loc Cert.DXRefIdeal.main_arg2) = m ((c.tc : Thread Cert.DXIdeal.nD Cert.DXIdeal.τ).loc Cert.DXIdeal.main_arg2)) →
    ∃ (v0 : (c : Dev Cert.DXIdeal.nD) → Buf (Elt Ideal) ((c.tc : Thread Cert.DXIdeal.nD Cert.DXIdeal.τ).loc Cert.DXIdeal.main_v0)),
      θ_run (Cert.DXIdeal.defs (F := Ideal)) (onTc (τ := Cert.DXIdeal.τ) (Cert.DXIdeal.main (F := Ideal))) ⟨m, fun _ => 0, g⟩ (fun r => ∀ c : Dev Cert.DXIdeal.nD,
          r.2.mem ((c.tc : Thread Cert.DXIdeal.nD Cert.DXIdeal.τ).loc Cert.DXIdeal.main_v0) = v0 c
          ∧ r.2.mem ((c.tc : Thread Cert.DXIdeal.nD Cert.DXIdeal.τ).loc Cert.DXIdeal.main_arg0) = m ((c.tc : Thread Cert.DXIdeal.nD Cert.DXIdeal.τ).loc Cert.DXIdeal.main_arg0)
          ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
          ∧ r.2.mem ((c.tc : Thread Cert.DXIdeal.nD Cert.DXIdeal.τ).loc Cert.DXIdeal.main_arg2) = m ((c.tc : Thread Cert.DXIdeal.nD Cert.DXIdeal.τ).loc Cert.DXIdeal.main_arg2))
      ∧ θ_run (Cert.DXRefIdeal.defs (F := Ideal)) (onTc (τ := Cert.DXRefIdeal.τ) (Cert.DXRefIdeal.main (F := Ideal))) ⟨m', fun _ => 0, g'⟩ (fun r => ∀ c : Dev Cert.DXRefIdeal.nD,
          r.2.mem ((c.tc : Thread Cert.DXRefIdeal.nD Cert.DXRefIdeal.τ).loc Cert.DXRefIdeal.main_v37) = v0 c
          ∧ r.2.mem ((c.tc : Thread Cert.DXRefIdeal.nD Cert.DXRefIdeal.τ).loc Cert.DXRefIdeal.main_arg0) = m' ((c.tc : Thread Cert.DXRefIdeal.nD Cert.DXRefIdeal.τ).loc Cert.DXRefIdeal.main_arg0)
          ∧ r.2.mem ((c.tc : Thread Cert.DXRefIdeal.nD Cert.DXRefIdeal.τ).loc Cert.DXRefIdeal.main_arg1) = m' ((c.tc : Thread Cert.DXRefIdeal.nD Cert.DXRefIdeal.τ).loc Cert.DXRefIdeal.main_arg1)
          ∧ r.2.mem ((c.tc : Thread Cert.DXRefIdeal.nD Cert.DXRefIdeal.τ).loc Cert.DXRefIdeal.main_arg2) = m' ((c.tc : Thread Cert.DXRefIdeal.nD Cert.DXRefIdeal.τ).loc Cert.DXRefIdeal.main_arg2))

def preserves_WGateUp_WGateUpIdeal : Prop :=
  IdealRules.bf16_pair.BufferStatement Cert.WGateUpIdeal.S160x2x128 Cert.WGateUpIdeal.S160x1x128
  ∧ IdealRules.named_const.Statement Cert.WGateUpIdeal.κ "bwd_rot" .f32 0x3EA0E7F4#32 ((11863283 / 37748736 : ℝ) : EReal)
  ∧ IdealRules.bf16_pair.PackStatement Cert.WGateUpIdeal.S8x128
  ∧ IdealRules.bf16_pair.Statement Cert.WGateUpIdeal.S8x2x128 Cert.WGateUpIdeal.S8x1x128
  ∧ IdealRules.bf16_pair.Statement Cert.WGateUpIdeal.S16x2x128 Cert.WGateUpIdeal.S16x1x128
  ∧ IdealRules.bf16_pair.Statement Cert.WGateUpIdeal.S256x128 Cert.WGateUpIdeal.S128x128

def algebraic_WGateUpIdeal_WGateUpRefIdeal_pre_finite_w_gate_up [hWGateUpIdeal : Cert.WGateUpIdeal.Facts] [hWGateUpRefIdeal : Cert.WGateUpRefIdeal.Facts] [hPre_finite_w_gate_up : Cert.Pre_finite_w_gate_up.Facts] : Prop :=
  ∀ (m : (ℓ : Loc Cert.WGateUpIdeal.nD Cert.WGateUpIdeal.τ Cert.WGateUpIdeal.sig) → Buf (Elt Ideal) ℓ) (g : Dev Cert.WGateUpIdeal.nD → PrngReg)
    (m' : (ℓ : Loc Cert.WGateUpRefIdeal.nD Cert.WGateUpRefIdeal.τ Cert.WGateUpRefIdeal.sig) → Buf (Elt Ideal) ℓ) (g' : Dev Cert.WGateUpRefIdeal.nD → PrngReg), Pre_WGateUpIdeal_finite_w_gate_up m →
    (∀ c : Dev Cert.WGateUpIdeal.nD,
      m' ((c.tc : Thread Cert.WGateUpRefIdeal.nD Cert.WGateUpRefIdeal.τ).loc Cert.WGateUpRefIdeal.main_arg0) = m ((c.tc : Thread Cert.WGateUpIdeal.nD Cert.WGateUpIdeal.τ).loc Cert.WGateUpIdeal.main_arg0)
      ∧ m' ((c.tc : Thread Cert.WGateUpRefIdeal.nD Cert.WGateUpRefIdeal.τ).loc Cert.WGateUpRefIdeal.main_arg1) = m ((c.tc : Thread Cert.WGateUpIdeal.nD Cert.WGateUpIdeal.τ).loc Cert.WGateUpIdeal.main_arg1)
      ∧ m' ((c.tc : Thread Cert.WGateUpRefIdeal.nD Cert.WGateUpRefIdeal.τ).loc Cert.WGateUpRefIdeal.main_arg2) = m ((c.tc : Thread Cert.WGateUpIdeal.nD Cert.WGateUpIdeal.τ).loc Cert.WGateUpIdeal.main_arg2)) →
    ∃ (v0 : (c : Dev Cert.WGateUpIdeal.nD) → Buf (Elt Ideal) ((c.tc : Thread Cert.WGateUpIdeal.nD Cert.WGateUpIdeal.τ).loc Cert.WGateUpIdeal.main_v0)),
      θ_run (Cert.WGateUpIdeal.defs (F := Ideal)) (onTc (τ := Cert.WGateUpIdeal.τ) (Cert.WGateUpIdeal.main (F := Ideal))) ⟨m, fun _ => 0, g⟩ (fun r => ∀ c : Dev Cert.WGateUpIdeal.nD,
          r.2.mem ((c.tc : Thread Cert.WGateUpIdeal.nD Cert.WGateUpIdeal.τ).loc Cert.WGateUpIdeal.main_v0) = v0 c
          ∧ r.2.mem ((c.tc : Thread Cert.WGateUpIdeal.nD Cert.WGateUpIdeal.τ).loc Cert.WGateUpIdeal.main_arg0) = m ((c.tc : Thread Cert.WGateUpIdeal.nD Cert.WGateUpIdeal.τ).loc Cert.WGateUpIdeal.main_arg0)
          ∧ r.2.mem ((c.tc : Thread Cert.WGateUpIdeal.nD Cert.WGateUpIdeal.τ).loc Cert.WGateUpIdeal.main_arg1) = m ((c.tc : Thread Cert.WGateUpIdeal.nD Cert.WGateUpIdeal.τ).loc Cert.WGateUpIdeal.main_arg1)
          ∧ r.2.mem ((c.tc : Thread Cert.WGateUpIdeal.nD Cert.WGateUpIdeal.τ).loc Cert.WGateUpIdeal.main_arg2) = m ((c.tc : Thread Cert.WGateUpIdeal.nD Cert.WGateUpIdeal.τ).loc Cert.WGateUpIdeal.main_arg2))
      ∧ θ_run (Cert.WGateUpRefIdeal.defs (F := Ideal)) (onTc (τ := Cert.WGateUpRefIdeal.τ) (Cert.WGateUpRefIdeal.main (F := Ideal))) ⟨m', fun _ => 0, g'⟩ (fun r => ∀ c : Dev Cert.WGateUpRefIdeal.nD,
          r.2.mem ((c.tc : Thread Cert.WGateUpRefIdeal.nD Cert.WGateUpRefIdeal.τ).loc Cert.WGateUpRefIdeal.main_v37) = v0 c
          ∧ r.2.mem ((c.tc : Thread Cert.WGateUpRefIdeal.nD Cert.WGateUpRefIdeal.τ).loc Cert.WGateUpRefIdeal.main_arg0) = m' ((c.tc : Thread Cert.WGateUpRefIdeal.nD Cert.WGateUpRefIdeal.τ).loc Cert.WGateUpRefIdeal.main_arg0)
          ∧ r.2.mem ((c.tc : Thread Cert.WGateUpRefIdeal.nD Cert.WGateUpRefIdeal.τ).loc Cert.WGateUpRefIdeal.main_arg1) = m' ((c.tc : Thread Cert.WGateUpRefIdeal.nD Cert.WGateUpRefIdeal.τ).loc Cert.WGateUpRefIdeal.main_arg1)
          ∧ r.2.mem ((c.tc : Thread Cert.WGateUpRefIdeal.nD Cert.WGateUpRefIdeal.τ).loc Cert.WGateUpRefIdeal.main_arg2) = m' ((c.tc : Thread Cert.WGateUpRefIdeal.nD Cert.WGateUpRefIdeal.τ).loc Cert.WGateUpRefIdeal.main_arg2))

def Claim : Prop :=
  ∃ (hY : Cert.Y.Facts) (hYIdeal : Cert.YIdeal.Facts) (hYRefIdeal : Cert.YRefIdeal.Facts) (hWDown : Cert.WDown.Facts) (hWDownIdeal : Cert.WDownIdeal.Facts) (hWDownRefIdeal : Cert.WDownRefIdeal.Facts) (hDX : Cert.DX.Facts) (hDXIdeal : Cert.DXIdeal.Facts) (hDXRefIdeal : Cert.DXRefIdeal.Facts) (hWGateUp : Cert.WGateUp.Facts) (hWGateUpIdeal : Cert.WGateUpIdeal.Facts) (hWGateUpRefIdeal : Cert.WGateUpRefIdeal.Facts) (hPre_finite_w_down : Cert.Pre_finite_w_down.Facts) (hPre_finite_dx : Cert.Pre_finite_dx.Facts) (hPre_finite_w_gate_up : Cert.Pre_finite_w_gate_up.Facts),
    quiescent_Y (hY := hY)
    ∧ quiescent_YIdeal (hYIdeal := hYIdeal)
    ∧ quiescent_YRefIdeal (hYRefIdeal := hYRefIdeal)
    ∧ quiescent_WDown (hWDown := hWDown)
    ∧ quiescent_WDownIdeal (hWDownIdeal := hWDownIdeal)
    ∧ quiescent_WDownIdeal_pre_finite_w_down (hWDownIdeal := hWDownIdeal) (hPre_finite_w_down := hPre_finite_w_down)
    ∧ quiescent_WDownRefIdeal (hWDownRefIdeal := hWDownRefIdeal)
    ∧ quiescent_WDownRefIdeal_pre_finite_w_down (hWDownRefIdeal := hWDownRefIdeal) (hPre_finite_w_down := hPre_finite_w_down)
    ∧ quiescent_DX (hDX := hDX)
    ∧ quiescent_DXIdeal (hDXIdeal := hDXIdeal)
    ∧ quiescent_DXIdeal_pre_finite_dx (hDXIdeal := hDXIdeal) (hPre_finite_dx := hPre_finite_dx)
    ∧ quiescent_DXRefIdeal (hDXRefIdeal := hDXRefIdeal)
    ∧ quiescent_DXRefIdeal_pre_finite_dx (hDXRefIdeal := hDXRefIdeal) (hPre_finite_dx := hPre_finite_dx)
    ∧ quiescent_WGateUp (hWGateUp := hWGateUp)
    ∧ quiescent_WGateUpIdeal (hWGateUpIdeal := hWGateUpIdeal)
    ∧ quiescent_WGateUpIdeal_pre_finite_w_gate_up (hWGateUpIdeal := hWGateUpIdeal) (hPre_finite_w_gate_up := hPre_finite_w_gate_up)
    ∧ quiescent_WGateUpRefIdeal (hWGateUpRefIdeal := hWGateUpRefIdeal)
    ∧ quiescent_WGateUpRefIdeal_pre_finite_w_gate_up (hWGateUpRefIdeal := hWGateUpRefIdeal) (hPre_finite_w_gate_up := hPre_finite_w_gate_up)
    ∧ preserves_Y_YIdeal
    ∧ algebraic_YIdeal_YRefIdeal (hYIdeal := hYIdeal) (hYRefIdeal := hYRefIdeal)
    ∧ preserves_WDown_WDownIdeal
    ∧ algebraic_WDownIdeal_WDownRefIdeal_pre_finite_w_down (hWDownIdeal := hWDownIdeal) (hWDownRefIdeal := hWDownRefIdeal) (hPre_finite_w_down := hPre_finite_w_down)
    ∧ preserves_DX_DXIdeal
    ∧ algebraic_DXIdeal_DXRefIdeal_pre_finite_dx (hDXIdeal := hDXIdeal) (hDXRefIdeal := hDXRefIdeal) (hPre_finite_dx := hPre_finite_dx)
    ∧ preserves_WGateUp_WGateUpIdeal
    ∧ algebraic_WGateUpIdeal_WGateUpRefIdeal_pre_finite_w_gate_up (hWGateUpIdeal := hWGateUpIdeal) (hWGateUpRefIdeal := hWGateUpRefIdeal) (hPre_finite_w_gate_up := hPre_finite_w_gate_up)
-- ==== Pre_finite_dx.lean ====
abbrev S11264x2048 : Shape := ⟨2, ![11264, 2048]⟩
abbrev S11264x4608 : Shape := ⟨2, ![11264, 4608]⟩
abbrev S64x4608 : Shape := ⟨2, ![64, 4608]⟩
abbrev S_ : Shape := ⟨0, ![]⟩

class Facts : Prop where
  bcast_S_S11264x2048 : S_.BroadcastsInDim S11264x2048 (![] : Fin 0 → Fin S11264x2048.rank)
  reducesTo_S11264x2048_S_d0_1 : S11264x2048.ReducesTo [0, 1] S_
  h_S_ : 0 < S_.numel
  bcast_S_S11264x4608 : S_.BroadcastsInDim S11264x4608 (![] : Fin 0 → Fin S11264x4608.rank)
  reducesTo_S11264x4608_S_d0_1 : S11264x4608.ReducesTo [0, 1] S_

variable [Facts]

def fn {F : FTy → Type} [FloatOps F] (main_arg0 : FVec F S11264x2048 .bf16) (main_arg1 : FVec F S11264x4608 .bf16) (main_arg2 : IVec S64x4608 32) : IVec S_ 1 :=
  let main_v0 : FVec F S11264x2048 .bf16 := Host.absf main_arg0
  let main_cst : FVec F S_ .bf16 := constant S_ .bf16 0x7F80#16
  let main_v1 : FVec F S11264x2048 .bf16 := broadcastInDim S11264x2048 ![] bcast_S_S11264x2048 main_cst
  let main_v2 : IVec S11264x2048 1 := cmpf .olt main_v0 main_v1
  let main_c : IVec S_ 1 := constantI S_ 1 1#1
  let main_v3 : IVec S_ 1 := (fun x v => Host.reduce IntOp.andi x v reducesTo_S11264x2048_S_d0_1 h_S_) main_v2 main_c
  let main_v4 : FVec F S11264x4608 .bf16 := Host.absf main_arg1
  let main_cst_0 : FVec F S_ .bf16 := constant S_ .bf16 0x7F80#16
  let main_v5 : FVec F S11264x4608 .bf16 := broadcastInDim S11264x4608 ![] bcast_S_S11264x4608 main_cst_0
  let main_v6 : IVec S11264x4608 1 := cmpf .olt main_v4 main_v5
  let main_c_1 : IVec S_ 1 := constantI S_ 1 1#1
  let main_v7 : IVec S_ 1 := (fun x v => Host.reduce IntOp.andi x v reducesTo_S11264x4608_S_d0_1 h_S_) main_v6 main_c_1
  let main_v8 : IVec S_ 1 := andi main_v3 main_v7
  main_v8
-- ==== Pre_finite_w_down.lean ====
abbrev S4608x5632 : Shape := ⟨2, ![4608, 5632]⟩
abbrev S4608x2048 : Shape := ⟨2, ![4608, 2048]⟩
abbrev S176x2048 : Shape := ⟨2, ![176, 2048]⟩
abbrev S_ : Shape := ⟨0, ![]⟩

class Facts : Prop where
  bcast_S_S4608x5632 : S_.BroadcastsInDim S4608x5632 (![] : Fin 0 → Fin S4608x5632.rank)
  reducesTo_S4608x5632_S_d0_1 : S4608x5632.ReducesTo [0, 1] S_
  h_S_ : 0 < S_.numel
  bcast_S_S4608x2048 : S_.BroadcastsInDim S4608x2048 (![] : Fin 0 → Fin S4608x2048.rank)
  reducesTo_S4608x2048_S_d0_1 : S4608x2048.ReducesTo [0, 1] S_

variable [Facts]

def fn {F : FTy → Type} [FloatOps F] (main_arg0 : FVec F S4608x5632 .bf16) (main_arg1 : FVec F S4608x2048 .bf16) (main_arg2 : IVec S176x2048 32) : IVec S_ 1 :=
  let main_v0 : FVec F S4608x5632 .bf16 := Host.absf main_arg0
  let main_cst : FVec F S_ .bf16 := constant S_ .bf16 0x7F80#16
  let main_v1 : FVec F S4608x5632 .bf16 := broadcastInDim S4608x5632 ![] bcast_S_S4608x5632 main_cst
  let main_v2 : IVec S4608x5632 1 := cmpf .olt main_v0 main_v1
  let main_c : IVec S_ 1 := constantI S_ 1 1#1
  let main_v3 : IVec S_ 1 := (fun x v => Host.reduce IntOp.andi x v reducesTo_S4608x5632_S_d0_1 h_S_) main_v2 main_c
  let main_v4 : FVec F S4608x2048 .bf16 := Host.absf main_arg1
  let main_cst_0 : FVec F S_ .bf16 := constant S_ .bf16 0x7F80#16
  let main_v5 : FVec F S4608x2048 .bf16 := broadcastInDim S4608x2048 ![] bcast_S_S4608x2048 main_cst_0
  let main_v6 : IVec S4608x2048 1 := cmpf .olt main_v4 main_v5
  let main_c_1 : IVec S_ 1 := constantI S_ 1 1#1
  let main_v7 : IVec S_ 1 := (fun x v => Host.reduce IntOp.andi x v reducesTo_S4608x2048_S_d0_1 h_S_) main_v6 main_c_1
  let main_v8 : IVec S_ 1 := andi main_v3 main_v7
  main_v8
-- ==== Pre_finite_w_gate_up.lean ====
abbrev S4608x2048 : Shape := ⟨2, ![4608, 2048]⟩
abbrev S4608x11264 : Shape := ⟨2, ![4608, 11264]⟩
abbrev S64x11264 : Shape := ⟨2, ![64, 11264]⟩
abbrev S_ : Shape := ⟨0, ![]⟩

class Facts : Prop where
  bcast_S_S4608x2048 : S_.BroadcastsInDim S4608x2048 (![] : Fin 0 → Fin S4608x2048.rank)
  reducesTo_S4608x2048_S_d0_1 : S4608x2048.ReducesTo [0, 1] S_
  h_S_ : 0 < S_.numel
  bcast_S_S4608x11264 : S_.BroadcastsInDim S4608x11264 (![] : Fin 0 → Fin S4608x11264.rank)
  reducesTo_S4608x11264_S_d0_1 : S4608x11264.ReducesTo [0, 1] S_

variable [Facts]

def fn {F : FTy → Type} [FloatOps F] (main_arg0 : FVec F S4608x2048 .bf16) (main_arg1 : FVec F S4608x11264 .bf16) (main_arg2 : IVec S64x11264 32) : IVec S_ 1 :=
  let main_v0 : FVec F S4608x2048 .bf16 := Host.absf main_arg0
  let main_cst : FVec F S_ .bf16 := constant S_ .bf16 0x7F80#16
  let main_v1 : FVec F S4608x2048 .bf16 := broadcastInDim S4608x2048 ![] bcast_S_S4608x2048 main_cst
  let main_v2 : IVec S4608x2048 1 := cmpf .olt main_v0 main_v1
  let main_c : IVec S_ 1 := constantI S_ 1 1#1
  let main_v3 : IVec S_ 1 := (fun x v => Host.reduce IntOp.andi x v reducesTo_S4608x2048_S_d0_1 h_S_) main_v2 main_c
  let main_v4 : FVec F S4608x11264 .bf16 := Host.absf main_arg1
  let main_cst_0 : FVec F S_ .bf16 := constant S_ .bf16 0x7F80#16
  let main_v5 : FVec F S4608x11264 .bf16 := broadcastInDim S4608x11264 ![] bcast_S_S4608x11264 main_cst_0
  let main_v6 : IVec S4608x11264 1 := cmpf .olt main_v4 main_v5
  let main_c_1 : IVec S_ 1 := constantI S_ 1 1#1
  let main_v7 : IVec S_ 1 := (fun x v => Host.reduce IntOp.andi x v reducesTo_S4608x11264_S_d0_1 h_S_) main_v6 main_c_1
  let main_v8 : IVec S_ 1 := andi main_v3 main_v7
  main_v8
-- ==== Y.lean ====
abbrev S5632x4608 : Shape := ⟨2, ![5632, 4608]⟩
abbrev S5632x2048 : Shape := ⟨2, ![5632, 2048]⟩
abbrev S4608x2048 : Shape := ⟨2, ![4608, 2048]⟩
abbrev S1408x768 : Shape := ⟨2, ![1408, 768]⟩
abbrev S1408x2048 : Shape := ⟨2, ![1408, 2048]⟩
abbrev S768x2048 : Shape := ⟨2, ![768, 2048]⟩

abbrev nBuf : Space → Nat
  | .hbm => 3
  | .vmem => 7
  | .smem => 0
  | _ => 0

abbrev bufTy : (tb : Table) → Fin (tcTables nBuf tb) → BufTy
  | .hbm, ⟨0, _⟩ => ⟨S5632x4608, .bf16⟩
  | .hbm, ⟨1, _⟩ => ⟨S5632x2048, .bf16⟩
  | .hbm, ⟨2, _⟩ => ⟨S4608x2048, .bf16⟩
  | .local _ .vmem, ⟨0, _⟩ => ⟨S1408x768, .bf16⟩
  | .local _ .vmem, ⟨1, _⟩ => ⟨S1408x768, .bf16⟩
  | .local _ .vmem, ⟨2, _⟩ => ⟨S1408x2048, .bf16⟩
  | .local _ .vmem, ⟨3, _⟩ => ⟨S1408x2048, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .f32⟩
  | _, _ => ⟨S5632x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YRefIdeal.lean ====
abbrev S5632x4608 : Shape := ⟨2, ![5632, 4608]⟩
abbrev S5632x2048 : Shape := ⟨2, ![5632, 2048]⟩
abbrev S4608x5632 : Shape := ⟨2, ![4608, 5632]⟩
abbrev S2048x5632 : Shape := ⟨2, ![2048, 5632]⟩
abbrev S4608x2048 : Shape := ⟨2, ![4608, 2048]⟩

abbrev nBuf : Space → Nat
  | .hbm => 6
  | .vmem => 0
  | .smem => 0
  | _ => 0

abbrev bufTy : (tb : Table) → Fin (tcTables nBuf tb) → BufTy
  | .hbm, ⟨0, _⟩ => ⟨S5632x4608, .bf16⟩
  | .hbm, ⟨1, _⟩ => ⟨S5632x2048, .bf16⟩
  | .hbm, ⟨2, _⟩ => ⟨S4608x5632, .bf16⟩
  | .hbm, ⟨3, _⟩ => ⟨S2048x5632, .bf16⟩
  | .hbm, ⟨4, _⟩ => ⟨S4608x2048, .f32⟩
  | .hbm, ⟨5, _⟩ => ⟨S4608x2048, .bf16⟩
  | _, _ => ⟨S5632x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WDown.lean ====
abbrev S4608x5632 : Shape := ⟨2, ![4608, 5632]⟩
abbrev S4608x2048 : Shape := ⟨2, ![4608, 2048]⟩
abbrev S176x2048 : Shape := ⟨2, ![176, 2048]⟩
abbrev S2048x5632 : Shape := ⟨2, ![2048, 5632]⟩
abbrev S1536x512 : Shape := ⟨2, ![1536, 512]⟩
abbrev S1536x2048 : Shape := ⟨2, ![1536, 2048]⟩
abbrev S16x2048 : Shape := ⟨2, ![16, 2048]⟩
abbrev S2048x512 : Shape := ⟨2, ![2048, 512]⟩
abbrev S512x2048 : Shape := ⟨2, ![512, 2048]⟩
abbrev S288x128 : Shape := ⟨2, ![288, 128]⟩
abbrev S160x128 : Shape := ⟨2, ![160, 128]⟩
abbrev S8x128 : Shape := ⟨2, ![8, 128]⟩
abbrev S256x128 : Shape := ⟨2, ![256, 128]⟩
abbrev S32x128 : Shape := ⟨2, ![32, 128]⟩
abbrev S16x128 : Shape := ⟨2, ![16, 128]⟩
abbrev S128x128 : Shape := ⟨2, ![128, 128]⟩
abbrev S128x256 : Shape := ⟨2, ![128, 256]⟩

abbrev nBuf : Space → Nat
  | .hbm => 4
  | .vmem => 11
  | .smem => 0
  | _ => 0

abbrev bufTy : (tb : Table) → Fin (tcTables nBuf tb) → BufTy
  | .hbm, ⟨0, _⟩ => ⟨S4608x5632, .bf16⟩
  | .hbm, ⟨1, _⟩ => ⟨S4608x2048, .bf16⟩
  | .hbm, ⟨2, _⟩ => ⟨S176x2048, .i32⟩
  | .hbm, ⟨3, _⟩ => ⟨S2048x5632, .bf16⟩
  | .local _ .vmem, ⟨0, _⟩ => ⟨S1536x512, .bf16⟩
  | .local _ .vmem, ⟨1, _⟩ => ⟨S1536x512, .bf16⟩
  | .local _ .vmem, ⟨2, _⟩ => ⟨S1536x2048, .bf16⟩
  | .local _ .vmem, ⟨3, _⟩ => ⟨S1536x2048, .bf16⟩
  | .local _ .vmem, ⟨4, _⟩ => ⟨S16x2048, .i32⟩
  | .local _ .vmem, ⟨5, _⟩ => ⟨S16x2048, .i32⟩
  | .local _ .vmem, ⟨6, _⟩ => ⟨S2048x512, .bf16⟩
  | .local _ .vmem, ⟨7, _⟩ => ⟨S2048x512, .bf16⟩
  | .local _ .vmem, ⟨8, _⟩ => ⟨S512x2048, .f32⟩
  | .local _ .vmem, ⟨9, _⟩ => ⟨S288x128, .f32⟩
  | .local _ .vmem, ⟨10, _⟩ => ⟨S160x128, .i32⟩
  | _, _ => ⟨S4608x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨3, ![11, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

@[reducible] def k0_t1_loop : Scf.Loop 32 :=
  let c0_i32_9 : BitVec 32 := 0#32
  let c32_i32 : BitVec 32 := 32#32
  let v14 : BitVec 32 := Scalar.addi c0_i32_9 c32_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c0_i32_11 : BitVec 32 := 0#32
  let v16 : BitVec 1 := Scalar.cmpi .sgt arg10 c0_i32_11
  let v17 : BitVec 32 := Scalar.extui v16
  let c0_i32_12 : BitVec 32 := 0#32
  let v18 : BitVec 1 := Scalar.cmpi .slt arg10 c0_i32_12
  let v19 : BitVec 32 := Scalar.extui v18
  let v20 : BitVec 32 := Scalar.subi v17 v19
  let c16_i32 : BitVec 32 := 16#32
  let c0_i32_13 : BitVec 32 := 0#32
  let v21 : BitVec 1 := Scalar.cmpi .sgt c16_i32 c0_i32_13
  let v22 : BitVec 32 := Scalar.extui v21
  let c0_i32_14 : BitVec 32 := 0#32
  let v23 : BitVec 1 := Scalar.cmpi .slt c16_i32 c0_i32_14
  let v24 : BitVec 32 := Scalar.extui v23
  let v25 : BitVec 32 := Scalar.subi v22 v24
  let v26 : BitVec 1 := Scalar.cmpi .ne v20 v25
  let v27 : BitVec 32 := Scalar.remsi arg10 c16_i32
  let c0_i32_15 : BitVec 32 := 0#32
  let v28 : BitVec 1 := Scalar.cmpi .ne v27 c0_i32_15
  let v29 : BitVec 1 := Scalar.andi v26 v28
  let v15 : BitVec 32 := Scalar.divsi arg10 c16_i32
  let c1_i32_16 : BitVec 32 := 1#32
  let v30 : BitVec 32 := Scalar.subi v15 c1_i32_16
  let v31 : BitVec 32 := Scalar.select v29 v30 v15
  let c256_i32 : BitVec 32 := 256#32
  let v42 : BitVec 32 := Scalar.muli v31 c256_i32
  v42
def k0_mult2 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c16_i32_17 : BitVec 32 := 16#32
  let c0_i32_18 : BitVec 32 := 0#32
  let v32 : BitVec 1 := Scalar.cmpi .eq c16_i32_17 c0_i32_18
  let c1_i32_19 : BitVec 32 := 1#32
  let v33 : BitVec 32 := Scalar.select v32 c1_i32_19 c16_i32_17
  let v34 : BitVec 32 := Scalar.remsi arg10 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c128_i32 : BitVec 32 := 128#32
  let v44 : BitVec 32 := Scalar.muli v41 c128_i32
  v44
def k0_mult3 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c0_i32_11 : BitVec 32 := 0#32
  let v16 : BitVec 1 := Scalar.cmpi .sgt arg10 c0_i32_11
  let v17 : BitVec 32 := Scalar.extui v16
  let c0_i32_12 : BitVec 32 := 0#32
  let v18 : BitVec 1 := Scalar.cmpi .slt arg10 c0_i32_12
  let v19 : BitVec 32 := Scalar.extui v18
  let v20 : BitVec 32 := Scalar.subi v17 v19
  let c16_i32 : BitVec 32 := 16#32
  let c0_i32_13 : BitVec 32 := 0#32
  let v21 : BitVec 1 := Scalar.cmpi .sgt c16_i32 c0_i32_13
  let v22 : BitVec 32 := Scalar.extui v21
  let c0_i32_14 : BitVec 32 := 0#32
  let v23 : BitVec 1 := Scalar.cmpi .slt c16_i32 c0_i32_14
  let v24 : BitVec 32 := Scalar.extui v23
  let v25 : BitVec 32 := Scalar.subi v22 v24
  let v26 : BitVec 1 := Scalar.cmpi .ne v20 v25
  let v27 : BitVec 32 := Scalar.remsi arg10 c16_i32
  let c0_i32_15 : BitVec 32 := 0#32
  let v28 : BitVec 1 := Scalar.cmpi .ne v27 c0_i32_15
  let v29 : BitVec 1 := Scalar.andi v26 v28
  let v15 : BitVec 32 := Scalar.divsi arg10 c16_i32
  let c1_i32_16 : BitVec 32 := 1#32
  let v30 : BitVec 32 := Scalar.subi v15 c1_i32_16
  let v31 : BitVec 32 := Scalar.select v29 v30 v15
  let c8_i32 : BitVec 32 := 8#32
  let v46 : BitVec 32 := Scalar.muli v31 c8_i32
  v46
def k0_off1 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c0_i32_11 : BitVec 32 := 0#32
  let v16 : BitVec 1 := Scalar.cmpi .sgt arg10 c0_i32_11
  let v17 : BitVec 32 := Scalar.extui v16
  let c0_i32_12 : BitVec 32 := 0#32
  let v18 : BitVec 1 := Scalar.cmpi .slt arg10 c0_i32_12
  let v19 : BitVec 32 := Scalar.extui v18
  let v20 : BitVec 32 := Scalar.subi v17 v19
  let c16_i32 : BitVec 32 := 16#32
  let c0_i32_13 : BitVec 32 := 0#32
  let v21 : BitVec 1 := Scalar.cmpi .sgt c16_i32 c0_i32_13
  let v22 : BitVec 32 := Scalar.extui v21
  let c0_i32_14 : BitVec 32 := 0#32
  let v23 : BitVec 1 := Scalar.cmpi .slt c16_i32 c0_i32_14
  let v24 : BitVec 32 := Scalar.extui v23
  let v25 : BitVec 32 := Scalar.subi v22 v24
  let v26 : BitVec 1 := Scalar.cmpi .ne v20 v25
  let v27 : BitVec 32 := Scalar.remsi arg10 c16_i32
  let c0_i32_15 : BitVec 32 := 0#32
  let v28 : BitVec 1 := Scalar.cmpi .ne v27 c0_i32_15
  let v29 : BitVec 1 := Scalar.andi v26 v28
  let v15 : BitVec 32 := Scalar.divsi arg10 c16_i32
  let c1_i32_16 : BitVec 32 := 1#32
  let v30 : BitVec 32 := Scalar.subi v15 c1_i32_16
  let v31 : BitVec 32 := Scalar.select v29 v30 v15
  let c8_i32 : BitVec 32 := 8#32
  let v46 : BitVec 32 := Scalar.muli v31 c8_i32
  let v47 : BitVec 32 := v46
  let v48 : Index := Scalar.indexCast v47
  let c16_i32_17 : BitVec 32 := 16#32
  let c0_i32_18 : BitVec 32 := 0#32
  let v32 : BitVec 1 := Scalar.cmpi .eq c16_i32_17 c0_i32_18
  let c1_i32_19 : BitVec 32 := 1#32
  let v33 : BitVec 32 := Scalar.select v32 c1_i32_19 c16_i32_17
  let v34 : BitVec 32 := Scalar.remsi arg10 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c128_i32 : BitVec 32 := 128#32
  let v44 : BitVec 32 := Scalar.muli v41 c128_i32
  let v45 : BitVec 32 := v44
  let v49 : Index := Scalar.indexCast v45
  ![v48.toNat, v49.toNat]
def k0_off2 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c0_i32_11 : BitVec 32 := 0#32
  let v16 : BitVec 1 := Scalar.cmpi .sgt arg10 c0_i32_11
  let v17 : BitVec 32 := Scalar.extui v16
  let c0_i32_12 : BitVec 32 := 0#32
  let v18 : BitVec 1 := Scalar.cmpi .slt arg10 c0_i32_12
  let v19 : BitVec 32 := Scalar.extui v18
  let v20 : BitVec 32 := Scalar.subi v17 v19
  let c16_i32 : BitVec 32 := 16#32
  let c0_i32_13 : BitVec 32 := 0#32
  let v21 : BitVec 1 := Scalar.cmpi .sgt c16_i32 c0_i32_13
  let v22 : BitVec 32 := Scalar.extui v21
  let c0_i32_14 : BitVec 32 := 0#32
  let v23 : BitVec 1 := Scalar.cmpi .slt c16_i32 c0_i32_14
  let v24 : BitVec 32 := Scalar.extui v23
  let v25 : BitVec 32 := Scalar.subi v22 v24
  let v26 : BitVec 1 := Scalar.cmpi .ne v20 v25
  let v27 : BitVec 32 := Scalar.remsi arg10 c16_i32
  let c0_i32_15 : BitVec 32 := 0#32
  let v28 : BitVec 1 := Scalar.cmpi .ne v27 c0_i32_15
  let v29 : BitVec 1 := Scalar.andi v26 v28
  let v15 : BitVec 32 := Scalar.divsi arg10 c16_i32
  let c1_i32_16 : BitVec 32 := 1#32
  let v30 : BitVec 32 := Scalar.subi v15 c1_i32_16
  let v31 : BitVec 32 := Scalar.select v29 v30 v15
  let c256_i32 : BitVec 32 := 256#32
  let v42 : BitVec 32 := Scalar.muli v31 c256_i32
  let v43 : BitVec 32 := v42
  let v51 : Index := Scalar.indexCast v43
  let c16_i32_17 : BitVec 32 := 16#32
  let c0_i32_18 : BitVec 32 := 0#32
  let v32 : BitVec 1 := Scalar.cmpi .eq c16_i32_17 c0_i32_18
  let c1_i32_19 : BitVec 32 := 1#32
  let v33 : BitVec 32 := Scalar.select v32 c1_i32_19 c16_i32_17
  let v34 : BitVec 32 := Scalar.remsi arg10 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c128_i32 : BitVec 32 := 128#32
  let v44 : BitVec 32 := Scalar.muli v41 c128_i32
  let v45 : BitVec 32 := v44
  let v52 : Index := Scalar.indexCast v45
  ![v51.toNat, v52.toNat]
def k0_off3 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c16_i32_17 : BitVec 32 := 16#32
  let c0_i32_18 : BitVec 32 := 0#32
  let v32 : BitVec 1 := Scalar.cmpi .eq c16_i32_17 c0_i32_18
  let c1_i32_19 : BitVec 32 := 1#32
  let v33 : BitVec 32 := Scalar.select v32 c1_i32_19 c16_i32_17
  let v34 : BitVec 32 := Scalar.remsi arg10 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c128_i32 : BitVec 32 := 128#32
  let v44 : BitVec 32 := Scalar.muli v41 c128_i32
  let v45 : BitVec 32 := v44
  let v609 : Index := Scalar.indexCast v45
  let c0_i32_11 : BitVec 32 := 0#32
  let v16 : BitVec 1 := Scalar.cmpi .sgt arg10 c0_i32_11
  let v17 : BitVec 32 := Scalar.extui v16
  let c0_i32_12 : BitVec 32 := 0#32
  let v18 : BitVec 1 := Scalar.cmpi .slt arg10 c0_i32_12
  let v19 : BitVec 32 := Scalar.extui v18
  let v20 : BitVec 32 := Scalar.subi v17 v19
  let c16_i32 : BitVec 32 := 16#32
  let c0_i32_13 : BitVec 32 := 0#32
  let v21 : BitVec 1 := Scalar.cmpi .sgt c16_i32 c0_i32_13
  let v22 : BitVec 32 := Scalar.extui v21
  let c0_i32_14 : BitVec 32 := 0#32
  let v23 : BitVec 1 := Scalar.cmpi .slt c16_i32 c0_i32_14
  let v24 : BitVec 32 := Scalar.extui v23
  let v25 : BitVec 32 := Scalar.subi v22 v24
  let v26 : BitVec 1 := Scalar.cmpi .ne v20 v25
  let v27 : BitVec 32 := Scalar.remsi arg10 c16_i32
  let c0_i32_15 : BitVec 32 := 0#32
  let v28 : BitVec 1 := Scalar.cmpi .ne v27 c0_i32_15
  let v29 : BitVec 1 := Scalar.andi v26 v28
  let v15 : BitVec 32 := Scalar.divsi arg10 c16_i32
  let c1_i32_16 : BitVec 32 := 1#32
  let v30 : BitVec 32 := Scalar.subi v15 c1_i32_16
  let v31 : BitVec 32 := Scalar.select v29 v30 v15
  let c256_i32 : BitVec 32 := 256#32
  let v42 : BitVec 32 := Scalar.muli v31 c256_i32
  let v43 : BitVec 32 := v42
  let v610 : Index := Scalar.indexCast v43
  ![v609.toNat, v610.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WDownIdeal.lean ====
abbrev S160x2x128 : Shape := ⟨3, ![160, 2, 128]⟩
abbrev S160x1x128 : Shape := ⟨3, ![160, 1, 128]⟩
abbrev S8x2x128 : Shape := ⟨3, ![8, 2, 128]⟩
abbrev S8x1x128 : Shape := ⟨3, ![8, 1, 128]⟩
abbrev S16x2x128 : Shape := ⟨3, ![16, 2, 128]⟩
abbrev S16x1x128 : Shape := ⟨3, ![16, 1, 128]⟩
  | .local _ .vmem, ⟨10, _⟩ => ⟨S160x2x128, .bf16⟩
variable {F : FTy → Type} [FloatOps F] [Named F]
def κ : String → Option EReal := fun
  | "bwd_rot" => some ((11863283 / 37748736 : ℝ) : EReal)
  | _ => none
-- ==== WDownRefIdeal.lean ====
abbrev S4608x5632 : Shape := ⟨2, ![4608, 5632]⟩
abbrev S4608x2048 : Shape := ⟨2, ![4608, 2048]⟩
abbrev S176x2048 : Shape := ⟨2, ![176, 2048]⟩
abbrev S2048x4608 : Shape := ⟨2, ![2048, 4608]⟩
abbrev S5632x4608 : Shape := ⟨2, ![5632, 4608]⟩
abbrev S2048x176 : Shape := ⟨2, ![2048, 176]⟩
abbrev S2048x176x1 : Shape := ⟨3, ![2048, 176, 1]⟩
abbrev S32 : Shape := ⟨1, ![32]⟩
abbrev S1x1x32 : Shape := ⟨3, ![1, 1, 32]⟩
abbrev S2048x176x32 : Shape := ⟨3, ![2048, 176, 32]⟩
abbrev S_ : Shape := ⟨0, ![]⟩
abbrev S2048x5632 : Shape := ⟨2, ![2048, 5632]⟩
abbrev S32x1 : Shape := ⟨2, ![32, 1]⟩
abbrev S1x32 : Shape := ⟨2, ![1, 32]⟩
abbrev S32x32 : Shape := ⟨2, ![32, 32]⟩

abbrev nBuf : Space → Nat
  | .hbm => 48
  | .vmem => 0
  | .smem => 0
  | _ => 0

abbrev bufTy : (tb : Table) → Fin (tcTables nBuf tb) → BufTy
  | .hbm, ⟨0, _⟩ => ⟨S4608x5632, .bf16⟩
  | .hbm, ⟨1, _⟩ => ⟨S4608x2048, .bf16⟩
  | .hbm, ⟨2, _⟩ => ⟨S176x2048, .i32⟩
  | .hbm, ⟨3, _⟩ => ⟨S2048x4608, .bf16⟩
  | .hbm, ⟨4, _⟩ => ⟨S5632x4608, .bf16⟩
  | .hbm, ⟨5, _⟩ => ⟨S2048x176, .i32⟩
  | .hbm, ⟨6, _⟩ => ⟨S2048x176x1, .i32⟩
  | .hbm, ⟨7, _⟩ => ⟨S32, .i32⟩
  | .hbm, ⟨8, _⟩ => ⟨S1x1x32, .i32⟩
  | .hbm, ⟨9, _⟩ => ⟨S2048x176x32, .i32⟩
  | .hbm, ⟨10, _⟩ => ⟨S2048x176x32, .i32⟩
  | .hbm, ⟨11, _⟩ => ⟨S2048x176x32, .i32⟩
  | .hbm, ⟨12, _⟩ => ⟨S_, .i32⟩
  | .hbm, ⟨13, _⟩ => ⟨S2048x176x32, .i32⟩
  | .hbm, ⟨14, _⟩ => ⟨S2048x176x32, .i32⟩
  | .hbm, ⟨15, _⟩ => ⟨S2048x5632, .i32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x176x32, .f32⟩
  | .hbm, ⟨25, _⟩ => ⟨S32, .i32⟩
  | .hbm, ⟨26, _⟩ => ⟨S32x1, .i32⟩
  | .hbm, ⟨27, _⟩ => ⟨S1x32, .i32⟩
  | .hbm, ⟨28, _⟩ => ⟨S32x32, .i32⟩
  | .hbm, ⟨29, _⟩ => ⟨S32x32, .i32⟩
  | .hbm, ⟨30, _⟩ => ⟨S32x32, .i32⟩
  | .hbm, ⟨31, _⟩ => ⟨S32x32, .i32⟩
  | .hbm, ⟨32, _⟩ => ⟨S_, .i32⟩
  | .hbm, ⟨33, _⟩ => ⟨S32x32, .i32⟩
  | .hbm, ⟨34, _⟩ => ⟨S32x32, .i32⟩
  | .hbm, ⟨35, _⟩ => ⟨S_, .i32⟩
  | .hbm, ⟨36, _⟩ => ⟨S32x32, .i32⟩
  | .hbm, ⟨37, _⟩ => ⟨S32x32, .i32⟩
  | .hbm, ⟨38, _⟩ => ⟨S_, .i32⟩
  | .hbm, ⟨39, _⟩ => ⟨S32x32, .i32⟩
  | .hbm, ⟨40, _⟩ => ⟨S32x32, .i32⟩
  | .hbm, ⟨41, _⟩ => ⟨S32x32, .f32⟩
  | .hbm, ⟨42, _⟩ => ⟨S_, .f32⟩
  | .hbm, ⟨43, _⟩ => ⟨S32x32, .f32⟩
  | .hbm, ⟨44, _⟩ => ⟨S32x32, .f32⟩
  | .hbm, ⟨45, _⟩ => ⟨S2048x176x32, .f32⟩
  | .hbm, ⟨46, _⟩ => ⟨S2048x5632, .f32⟩
  | .hbm, ⟨47, _⟩ => ⟨S2048x5632, .bf16⟩
  | _, _ => ⟨S4608x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== DX.lean ====
abbrev S11264x2048 : Shape := ⟨2, ![11264, 2048]⟩
abbrev S11264x4608 : Shape := ⟨2, ![11264, 4608]⟩
abbrev S64x4608 : Shape := ⟨2, ![64, 4608]⟩
abbrev S4608x2048 : Shape := ⟨2, ![4608, 2048]⟩
abbrev S1024x2048 : Shape := ⟨2, ![1024, 2048]⟩
abbrev S1024x768 : Shape := ⟨2, ![1024, 768]⟩
abbrev S64x768 : Shape := ⟨2, ![64, 768]⟩
abbrev S768x2048 : Shape := ⟨2, ![768, 2048]⟩
abbrev S2048x768 : Shape := ⟨2, ![2048, 768]⟩
abbrev S288x128 : Shape := ⟨2, ![288, 128]⟩
abbrev S160x128 : Shape := ⟨2, ![160, 128]⟩
abbrev S8x128 : Shape := ⟨2, ![8, 128]⟩
abbrev S256x128 : Shape := ⟨2, ![256, 128]⟩
abbrev S32x128 : Shape := ⟨2, ![32, 128]⟩
abbrev S16x128 : Shape := ⟨2, ![16, 128]⟩
abbrev S128x128 : Shape := ⟨2, ![128, 128]⟩
abbrev S128x256 : Shape := ⟨2, ![128, 256]⟩

abbrev nBuf : Space → Nat
  | .hbm => 4
  | .vmem => 11
  | .smem => 0
  | _ => 0

abbrev bufTy : (tb : Table) → Fin (tcTables nBuf tb) → BufTy
  | .hbm, ⟨0, _⟩ => ⟨S11264x2048, .bf16⟩
  | .hbm, ⟨1, _⟩ => ⟨S11264x4608, .bf16⟩
  | .hbm, ⟨2, _⟩ => ⟨S64x4608, .i32⟩
  | .hbm, ⟨3, _⟩ => ⟨S4608x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x768, .bf16⟩
  | .local _ .vmem, ⟨3, _⟩ => ⟨S1024x768, .bf16⟩
  | .local _ .vmem, ⟨4, _⟩ => ⟨S64x768, .i32⟩
  | .local _ .vmem, ⟨5, _⟩ => ⟨S64x768, .i32⟩
  | .local _ .vmem, ⟨6, _⟩ => ⟨S768x2048, .bf16⟩
  | .local _ .vmem, ⟨7, _⟩ => ⟨S768x2048, .bf16⟩
  | .local _ .vmem, ⟨8, _⟩ => ⟨S2048x768, .f32⟩
  | .local _ .vmem, ⟨9, _⟩ => ⟨S288x128, .f32⟩
  | .local _ .vmem, ⟨10, _⟩ => ⟨S160x128, .i32⟩
  | _, _ => ⟨S11264x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨3, ![1, 6, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

@[reducible] def k0_t1_loop : Scf.Loop 32 :=
  let c0_i32_9 : BitVec 32 := 0#32
  let c48_i32 : BitVec 32 := 48#32
  let v14 : BitVec 32 := Scalar.addi c0_i32_9 c48_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c0_i32_11 : BitVec 32 := 0#32
  let v16 : BitVec 1 := Scalar.cmpi .sgt arg10 c0_i32_11
  let v17 : BitVec 32 := Scalar.extui v16
  let c0_i32_12 : BitVec 32 := 0#32
  let v18 : BitVec 1 := Scalar.cmpi .slt arg10 c0_i32_12
  let v19 : BitVec 32 := Scalar.extui v18
  let v20 : BitVec 32 := Scalar.subi v17 v19
  let c6_i32 : BitVec 32 := 6#32
  let c0_i32_13 : BitVec 32 := 0#32
  let v21 : BitVec 1 := Scalar.cmpi .sgt c6_i32 c0_i32_13
  let v22 : BitVec 32 := Scalar.extui v21
  let c0_i32_14 : BitVec 32 := 0#32
  let v23 : BitVec 1 := Scalar.cmpi .slt c6_i32 c0_i32_14
  let v24 : BitVec 32 := Scalar.extui v23
  let v25 : BitVec 32 := Scalar.subi v22 v24
  let v26 : BitVec 1 := Scalar.cmpi .ne v20 v25
  let v27 : BitVec 32 := Scalar.remsi arg10 c6_i32
  let c0_i32_15 : BitVec 32 := 0#32
  let v28 : BitVec 1 := Scalar.cmpi .ne v27 c0_i32_15
  let v29 : BitVec 1 := Scalar.andi v26 v28
  let v15 : BitVec 32 := Scalar.divsi arg10 c6_i32
  let c1_i32_16 : BitVec 32 := 1#32
  let v30 : BitVec 32 := Scalar.subi v15 c1_i32_16
  let v31 : BitVec 32 := Scalar.select v29 v30 v15
  let c256_i32 : BitVec 32 := 256#32
  let v42 : BitVec 32 := Scalar.muli v31 c256_i32
  v42
def k0_mult2 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c6_i32_17 : BitVec 32 := 6#32
  let c0_i32_18 : BitVec 32 := 0#32
  let v32 : BitVec 1 := Scalar.cmpi .eq c6_i32_17 c0_i32_18
  let c1_i32_19 : BitVec 32 := 1#32
  let v33 : BitVec 32 := Scalar.select v32 c1_i32_19 c6_i32_17
  let v34 : BitVec 32 := Scalar.remsi arg10 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c128_i32 : BitVec 32 := 128#32
  let v44 : BitVec 32 := Scalar.muli v41 c128_i32
  v44
def k0_mult3 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c0_i32_11 : BitVec 32 := 0#32
  let v16 : BitVec 1 := Scalar.cmpi .sgt arg10 c0_i32_11
  let v17 : BitVec 32 := Scalar.extui v16
  let c0_i32_12 : BitVec 32 := 0#32
  let v18 : BitVec 1 := Scalar.cmpi .slt arg10 c0_i32_12
  let v19 : BitVec 32 := Scalar.extui v18
  let v20 : BitVec 32 := Scalar.subi v17 v19
  let c6_i32 : BitVec 32 := 6#32
  let c0_i32_13 : BitVec 32 := 0#32
  let v21 : BitVec 1 := Scalar.cmpi .sgt c6_i32 c0_i32_13
  let v22 : BitVec 32 := Scalar.extui v21
  let c0_i32_14 : BitVec 32 := 0#32
  let v23 : BitVec 1 := Scalar.cmpi .slt c6_i32 c0_i32_14
  let v24 : BitVec 32 := Scalar.extui v23
  let v25 : BitVec 32 := Scalar.subi v22 v24
  let v26 : BitVec 1 := Scalar.cmpi .ne v20 v25
  let v27 : BitVec 32 := Scalar.remsi arg10 c6_i32
  let c0_i32_15 : BitVec 32 := 0#32
  let v28 : BitVec 1 := Scalar.cmpi .ne v27 c0_i32_15
  let v29 : BitVec 1 := Scalar.andi v26 v28
  let v15 : BitVec 32 := Scalar.divsi arg10 c6_i32
  let c1_i32_16 : BitVec 32 := 1#32
  let v30 : BitVec 32 := Scalar.subi v15 c1_i32_16
  let v31 : BitVec 32 := Scalar.select v29 v30 v15
  let c8_i32 : BitVec 32 := 8#32
  let v46 : BitVec 32 := Scalar.muli v31 c8_i32
  v46
def k0_off1 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c0_i32_11 : BitVec 32 := 0#32
  let v16 : BitVec 1 := Scalar.cmpi .sgt arg10 c0_i32_11
  let v17 : BitVec 32 := Scalar.extui v16
  let c0_i32_12 : BitVec 32 := 0#32
  let v18 : BitVec 1 := Scalar.cmpi .slt arg10 c0_i32_12
  let v19 : BitVec 32 := Scalar.extui v18
  let v20 : BitVec 32 := Scalar.subi v17 v19
  let c6_i32 : BitVec 32 := 6#32
  let c0_i32_13 : BitVec 32 := 0#32
  let v21 : BitVec 1 := Scalar.cmpi .sgt c6_i32 c0_i32_13
  let v22 : BitVec 32 := Scalar.extui v21
  let c0_i32_14 : BitVec 32 := 0#32
  let v23 : BitVec 1 := Scalar.cmpi .slt c6_i32 c0_i32_14
  let v24 : BitVec 32 := Scalar.extui v23
  let v25 : BitVec 32 := Scalar.subi v22 v24
  let v26 : BitVec 1 := Scalar.cmpi .ne v20 v25
  let v27 : BitVec 32 := Scalar.remsi arg10 c6_i32
  let c0_i32_15 : BitVec 32 := 0#32
  let v28 : BitVec 1 := Scalar.cmpi .ne v27 c0_i32_15
  let v29 : BitVec 1 := Scalar.andi v26 v28
  let v15 : BitVec 32 := Scalar.divsi arg10 c6_i32
  let c1_i32_16 : BitVec 32 := 1#32
  let v30 : BitVec 32 := Scalar.subi v15 c1_i32_16
  let v31 : BitVec 32 := Scalar.select v29 v30 v15
  let c8_i32 : BitVec 32 := 8#32
  let v46 : BitVec 32 := Scalar.muli v31 c8_i32
  let v47 : BitVec 32 := v46
  let v48 : Index := Scalar.indexCast v47
  let c6_i32_17 : BitVec 32 := 6#32
  let c0_i32_18 : BitVec 32 := 0#32
  let v32 : BitVec 1 := Scalar.cmpi .eq c6_i32_17 c0_i32_18
  let c1_i32_19 : BitVec 32 := 1#32
  let v33 : BitVec 32 := Scalar.select v32 c1_i32_19 c6_i32_17
  let v34 : BitVec 32 := Scalar.remsi arg10 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c128_i32 : BitVec 32 := 128#32
  let v44 : BitVec 32 := Scalar.muli v41 c128_i32
  let v45 : BitVec 32 := v44
  let v49 : Index := Scalar.indexCast v45
  ![v48.toNat, v49.toNat]
def k0_off2 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c0_i32_11 : BitVec 32 := 0#32
  let v16 : BitVec 1 := Scalar.cmpi .sgt arg10 c0_i32_11
  let v17 : BitVec 32 := Scalar.extui v16
  let c0_i32_12 : BitVec 32 := 0#32
  let v18 : BitVec 1 := Scalar.cmpi .slt arg10 c0_i32_12
  let v19 : BitVec 32 := Scalar.extui v18
  let v20 : BitVec 32 := Scalar.subi v17 v19
  let c6_i32 : BitVec 32 := 6#32
  let c0_i32_13 : BitVec 32 := 0#32
  let v21 : BitVec 1 := Scalar.cmpi .sgt c6_i32 c0_i32_13
  let v22 : BitVec 32 := Scalar.extui v21
  let c0_i32_14 : BitVec 32 := 0#32
  let v23 : BitVec 1 := Scalar.cmpi .slt c6_i32 c0_i32_14
  let v24 : BitVec 32 := Scalar.extui v23
  let v25 : BitVec 32 := Scalar.subi v22 v24
  let v26 : BitVec 1 := Scalar.cmpi .ne v20 v25
  let v27 : BitVec 32 := Scalar.remsi arg10 c6_i32
  let c0_i32_15 : BitVec 32 := 0#32
  let v28 : BitVec 1 := Scalar.cmpi .ne v27 c0_i32_15
  let v29 : BitVec 1 := Scalar.andi v26 v28
  let v15 : BitVec 32 := Scalar.divsi arg10 c6_i32
  let c1_i32_16 : BitVec 32 := 1#32
  let v30 : BitVec 32 := Scalar.subi v15 c1_i32_16
  let v31 : BitVec 32 := Scalar.select v29 v30 v15
  let c256_i32 : BitVec 32 := 256#32
  let v42 : BitVec 32 := Scalar.muli v31 c256_i32
  let v43 : BitVec 32 := v42
  let v51 : Index := Scalar.indexCast v43
  let c6_i32_17 : BitVec 32 := 6#32
  let c0_i32_18 : BitVec 32 := 0#32
  let v32 : BitVec 1 := Scalar.cmpi .eq c6_i32_17 c0_i32_18
  let c1_i32_19 : BitVec 32 := 1#32
  let v33 : BitVec 32 := Scalar.select v32 c1_i32_19 c6_i32_17
  let v34 : BitVec 32 := Scalar.remsi arg10 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c128_i32 : BitVec 32 := 128#32
  let v44 : BitVec 32 := Scalar.muli v41 c128_i32
  let v45 : BitVec 32 := v44
  let v52 : Index := Scalar.indexCast v45
  ![v51.toNat, v52.toNat]
def k0_off3 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c6_i32_17 : BitVec 32 := 6#32
  let c0_i32_18 : BitVec 32 := 0#32
  let v32 : BitVec 1 := Scalar.cmpi .eq c6_i32_17 c0_i32_18
  let c1_i32_19 : BitVec 32 := 1#32
  let v33 : BitVec 32 := Scalar.select v32 c1_i32_19 c6_i32_17
  let v34 : BitVec 32 := Scalar.remsi arg10 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let c128_i32 : BitVec 32 := 128#32
  let v44 : BitVec 32 := Scalar.muli v41 c128_i32
  let v45 : BitVec 32 := v44
  let v609 : Index := Scalar.indexCast v45
  let c0_i32_11 : BitVec 32 := 0#32
  let v16 : BitVec 1 := Scalar.cmpi .sgt arg10 c0_i32_11
  let v17 : BitVec 32 := Scalar.extui v16
  let c0_i32_12 : BitVec 32 := 0#32
  let v18 : BitVec 1 := Scalar.cmpi .slt arg10 c0_i32_12
  let v19 : BitVec 32 := Scalar.extui v18
  let v20 : BitVec 32 := Scalar.subi v17 v19
  let c6_i32 : BitVec 32 := 6#32
  let c0_i32_13 : BitVec 32 := 0#32
  let v21 : BitVec 1 := Scalar.cmpi .sgt c6_i32 c0_i32_13
  let v22 : BitVec 32 := Scalar.extui v21
  let c0_i32_14 : BitVec 32 := 0#32
  let v23 : BitVec 1 := Scalar.cmpi .slt c6_i32 c0_i32_14
  let v24 : BitVec 32 := Scalar.extui v23
  let v25 : BitVec 32 := Scalar.subi v22 v24
  let v26 : BitVec 1 := Scalar.cmpi .ne v20 v25
  let v27 : BitVec 32 := Scalar.remsi arg10 c6_i32
  let c0_i32_15 : BitVec 32 := 0#32
  let v28 : BitVec 1 := Scalar.cmpi .ne v27 c0_i32_15
  let v29 : BitVec 1 := Scalar.andi v26 v28
  let v15 : BitVec 32 := Scalar.divsi arg10 c6_i32
  let c1_i32_16 : BitVec 32 := 1#32
  let v30 : BitVec 32 := Scalar.subi v15 c1_i32_16
  let v31 : BitVec 32 := Scalar.select v29 v30 v15
  let c256_i32 : BitVec 32 := 256#32
  let v42 : BitVec 32 := Scalar.muli v31 c256_i32
  let v43 : BitVec 32 := v42
  let v610 : Index := Scalar.indexCast v43
  ![v609.toNat, v610.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S64x768 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DXIdeal.lean ====
abbrev S160x2x128 : Shape := ⟨3, ![160, 2, 128]⟩
abbrev S160x1x128 : Shape := ⟨3, ![160, 1, 128]⟩
abbrev S8x2x128 : Shape := ⟨3, ![8, 2, 128]⟩
abbrev S8x1x128 : Shape := ⟨3, ![8, 1, 128]⟩
abbrev S16x2x128 : Shape := ⟨3, ![16, 2, 128]⟩
abbrev S16x1x128 : Shape := ⟨3, ![16, 1, 128]⟩
  | .local _ .vmem, ⟨10, _⟩ => ⟨S160x2x128, .bf16⟩
variable {F : FTy → Type} [FloatOps F] [Named F]
def κ : String → Option EReal := fun
  | "bwd_rot" => some ((11863283 / 37748736 : ℝ) : EReal)
  | _ => none
-- ==== DXRefIdeal.lean ====
abbrev S11264x2048 : Shape := ⟨2, ![11264, 2048]⟩
abbrev S11264x4608 : Shape := ⟨2, ![11264, 4608]⟩
abbrev S64x4608 : Shape := ⟨2, ![64, 4608]⟩
abbrev S4608x11264 : Shape := ⟨2, ![4608, 11264]⟩
abbrev S2048x11264 : Shape := ⟨2, ![2048, 11264]⟩
abbrev S4608x64 : Shape := ⟨2, ![4608, 64]⟩
abbrev S4608x64x1 : Shape := ⟨3, ![4608, 64, 1]⟩
abbrev S32 : Shape := ⟨1, ![32]⟩
abbrev S1x1x32 : Shape := ⟨3, ![1, 1, 32]⟩
abbrev S4608x64x32 : Shape := ⟨3, ![4608, 64, 32]⟩
abbrev S_ : Shape := ⟨0, ![]⟩
abbrev S4608x2048 : Shape := ⟨2, ![4608, 2048]⟩
abbrev S32x1 : Shape := ⟨2, ![32, 1]⟩
abbrev S1x32 : Shape := ⟨2, ![1, 32]⟩
abbrev S32x32 : Shape := ⟨2, ![32, 32]⟩

abbrev nBuf : Space → Nat
  | .hbm => 48
  | .vmem => 0
  | .smem => 0
  | _ => 0

abbrev bufTy : (tb : Table) → Fin (tcTables nBuf tb) → BufTy
  | .hbm, ⟨0, _⟩ => ⟨S11264x2048, .bf16⟩
  | .hbm, ⟨1, _⟩ => ⟨S11264x4608, .bf16⟩
  | .hbm, ⟨2, _⟩ => ⟨S64x4608, .i32⟩
  | .hbm, ⟨3, _⟩ => ⟨S4608x11264, .bf16⟩
  | .hbm, ⟨4, _⟩ => ⟨S2048x11264, .bf16⟩
  | .hbm, ⟨5, _⟩ => ⟨S4608x64, .i32⟩
  | .hbm, ⟨6, _⟩ => ⟨S4608x64x1, .i32⟩
  | .hbm, ⟨7, _⟩ => ⟨S32, .i32⟩
  | .hbm, ⟨8, _⟩ => ⟨S1x1x32, .i32⟩
  | .hbm, ⟨9, _⟩ => ⟨S4608x64x32, .i32⟩
  | .hbm, ⟨10, _⟩ => ⟨S4608x64x32, .i32⟩
  | .hbm, ⟨11, _⟩ => ⟨S4608x64x32, .i32⟩
  | .hbm, ⟨12, _⟩ => ⟨S_, .i32⟩
  | .hbm, ⟨13, _⟩ => ⟨S4608x64x32, .i32⟩
  | .hbm, ⟨14, _⟩ => ⟨S4608x64x32, .i32⟩
  | .hbm, ⟨15, _⟩ => ⟨S4608x2048, .i32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4608x2048, .f32⟩
  | .hbm, ⟨20, _⟩ => ⟨S4608x2048, .f32⟩
  | .hbm, ⟨21, _⟩ => ⟨S4608x2048, .f32⟩
  | .hbm, ⟨22, _⟩ => ⟨S4608x2048, .f32⟩
  | .hbm, ⟨23, _⟩ => ⟨S4608x2048, .f32⟩
  | .hbm, ⟨24, _⟩ => ⟨S4608x64x32, .f32⟩
  | .hbm, ⟨25, _⟩ => ⟨S32, .i32⟩
  | .hbm, ⟨26, _⟩ => ⟨S32x1, .i32⟩
  | .hbm, ⟨27, _⟩ => ⟨S1x32, .i32⟩
  | .hbm, ⟨28, _⟩ => ⟨S32x32, .i32⟩
  | .hbm, ⟨29, _⟩ => ⟨S32x32, .i32⟩
  | .hbm, ⟨30, _⟩ => ⟨S32x32, .i32⟩
  | .hbm, ⟨31, _⟩ => ⟨S32x32, .i32⟩
  | .hbm, ⟨32, _⟩ => ⟨S_, .i32⟩
  | .hbm, ⟨33, _⟩ => ⟨S32x32, .i32⟩
  | .hbm, ⟨34, _⟩ => ⟨S32x32, .i32⟩
  | .hbm, ⟨35, _⟩ => ⟨S_, .i32⟩
  | .hbm, ⟨36, _⟩ => ⟨S32x32, .i32⟩
  | .hbm, ⟨37, _⟩ => ⟨S32x32, .i32⟩
  | .hbm, ⟨38, _⟩ => ⟨S_, .i32⟩
  | .hbm, ⟨39, _⟩ => ⟨S32x32, .i32⟩
  | .hbm, ⟨40, _⟩ => ⟨S32x32, .i32⟩
  | .hbm, ⟨41, _⟩ => ⟨S32x32, .f32⟩
  | .hbm, ⟨42, _⟩ => ⟨S_, .f32⟩
  | .hbm, ⟨43, _⟩ => ⟨S32x32, .f32⟩
  | .hbm, ⟨44, _⟩ => ⟨S32x32, .f32⟩
  | .hbm, ⟨45, _⟩ => ⟨S4608x64x32, .f32⟩
  | .hbm, ⟨46, _⟩ => ⟨S4608x2048, .f32⟩
  | .hbm, ⟨47, _⟩ => ⟨S4608x2048, .bf16⟩
  | _, _ => ⟨S11264x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== WGateUp.lean ====
abbrev S4608x2048 : Shape := ⟨2, ![4608, 2048]⟩
abbrev S4608x11264 : Shape := ⟨2, ![4608, 11264]⟩
abbrev S64x11264 : Shape := ⟨2, ![64, 11264]⟩
abbrev S11264x2048 : Shape := ⟨2, ![11264, 2048]⟩
abbrev S512x2048 : Shape := ⟨2, ![512, 2048]⟩
abbrev S512x1024 : Shape := ⟨2, ![512, 1024]⟩
abbrev S64x1024 : Shape := ⟨2, ![64, 1024]⟩
abbrev S1024x2048 : Shape := ⟨2, ![1024, 2048]⟩
abbrev S2048x1024 : Shape := ⟨2, ![2048, 1024]⟩
abbrev S288x128 : Shape := ⟨2, ![288, 128]⟩
abbrev S160x128 : Shape := ⟨2, ![160, 128]⟩
abbrev S8x128 : Shape := ⟨2, ![8, 128]⟩
abbrev S256x128 : Shape := ⟨2, ![256, 128]⟩
abbrev S32x128 : Shape := ⟨2, ![32, 128]⟩
abbrev S16x128 : Shape := ⟨2, ![16, 128]⟩
abbrev S128x128 : Shape := ⟨2, ![128, 128]⟩
abbrev S128x256 : Shape := ⟨2, ![128, 256]⟩

abbrev nBuf : Space → Nat
  | .hbm => 4
  | .vmem => 11
  | .smem => 0
  | _ => 0

abbrev bufTy : (tb : Table) → Fin (tcTables nBuf tb) → BufTy
  | .hbm, ⟨0, _⟩ => ⟨S4608x2048, .bf16⟩
  | .hbm, ⟨1, _⟩ => ⟨S4608x11264, .bf16⟩
  | .hbm, ⟨2, _⟩ => ⟨S64x11264, .i32⟩
  | .hbm, ⟨3, _⟩ => ⟨S11264x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S64x1024, .i32⟩
  | .local _ .vmem, ⟨5, _⟩ => ⟨S64x1024, .i32⟩
  | .local _ .vmem, ⟨6, _⟩ => ⟨S1024x2048, .bf16⟩
  | .local _ .vmem, ⟨7, _⟩ => ⟨S1024x2048, .bf16⟩
  | .local _ .vmem, ⟨8, _⟩ => ⟨S2048x1024, .f32⟩
  | .local _ .vmem, ⟨9, _⟩ => ⟨S288x128, .f32⟩
  | .local _ .vmem, ⟨10, _⟩ => ⟨S160x128, .i32⟩
  | _, _ => ⟨S4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨3, ![1, 11, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

@[reducible] def k0_t1_loop : Scf.Loop 32 :=
  let c0_i32_9 : BitVec 32 := 0#32
  let c64_i32 : BitVec 32 := 64#32
  let v14 : BitVec 32 := Scalar.addi c0_i32_9 c64_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c0_i32_12 : BitVec 32 := 0#32
  let v16 : BitVec 1 := Scalar.cmpi .sgt arg10 c0_i32_12
  let v17 : BitVec 32 := Scalar.extui v16
  let c0_i32_13 : BitVec 32 := 0#32
  let v18 : BitVec 1 := Scalar.cmpi .slt arg10 c0_i32_13
  let v19 : BitVec 32 := Scalar.extui v18
  let v20 : BitVec 32 := Scalar.subi v17 v19
  let c8_i32_11 : BitVec 32 := 8#32
  let c0_i32_14 : BitVec 32 := 0#32
  let v21 : BitVec 1 := Scalar.cmpi .sgt c8_i32_11 c0_i32_14
  let v22 : BitVec 32 := Scalar.extui v21
  let c0_i32_15 : BitVec 32 := 0#32
  let v23 : BitVec 1 := Scalar.cmpi .slt c8_i32_11 c0_i32_15
  let v24 : BitVec 32 := Scalar.extui v23
  let v25 : BitVec 32 := Scalar.subi v22 v24
  let v26 : BitVec 1 := Scalar.cmpi .ne v20 v25
  let v27 : BitVec 32 := Scalar.remsi arg10 c8_i32_11
  let c0_i32_16 : BitVec 32 := 0#32
  let v28 : BitVec 1 := Scalar.cmpi .ne v27 c0_i32_16
  let v29 : BitVec 1 := Scalar.andi v26 v28
  let v15 : BitVec 32 := Scalar.divsi arg10 c8_i32_11
  let c1_i32_17 : BitVec 32 := 1#32
  let v30 : BitVec 32 := Scalar.subi v15 c1_i32_17
  let v31 : BitVec 32 := Scalar.select v29 v30 v15
  let c256_i32 : BitVec 32 := 256#32
  let v42 : BitVec 32 := Scalar.muli v31 c256_i32
  v42
def k0_mult2 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c8_i32_18 : BitVec 32 := 8#32
  let c0_i32_19 : BitVec 32 := 0#32
  let v32 : BitVec 1 := Scalar.cmpi .eq c8_i32_18 c0_i32_19
  let c1_i32_20 : BitVec 32 := 1#32
  let v33 : BitVec 32 := Scalar.select v32 c1_i32_20 c8_i32_18
  let v34 : BitVec 32 := Scalar.remsi arg10 v33
  let c0_i32_22 : BitVec 32 := 0#32
  let v36 : BitVec 1 := Scalar.cmpi .slt v34 c0_i32_22
  let c0_i32_23 : BitVec 32 := 0#32
  let v37 : BitVec 1 := Scalar.cmpi .slt v33 c0_i32_23
  let v38 : BitVec 1 := Scalar.xori v36 v37
  let c0_i32_21 : BitVec 32 := 0#32
  let v35 : BitVec 1 := Scalar.cmpi .ne v34 c0_i32_21
  let v39 : BitVec 1 := Scalar.andi v38 v35
  let v40 : BitVec 32 := Scalar.addi v34 v33
  let v41 : BitVec 32 := Scalar.select v39 v40 v34
  let c128_i32 : BitVec 32 := 128#32
  let v44 : BitVec 32 := Scalar.muli v41 c128_i32
  v44
def k0_mult3 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c0_i32_12 : BitVec 32 := 0#32
  let v16 : BitVec 1 := Scalar.cmpi .sgt arg10 c0_i32_12
  let v17 : BitVec 32 := Scalar.extui v16
  let c0_i32_13 : BitVec 32 := 0#32
  let v18 : BitVec 1 := Scalar.cmpi .slt arg10 c0_i32_13
  let v19 : BitVec 32 := Scalar.extui v18
  let v20 : BitVec 32 := Scalar.subi v17 v19
  let c8_i32_11 : BitVec 32 := 8#32
  let c0_i32_14 : BitVec 32 := 0#32
  let v21 : BitVec 1 := Scalar.cmpi .sgt c8_i32_11 c0_i32_14
  let v22 : BitVec 32 := Scalar.extui v21
  let c0_i32_15 : BitVec 32 := 0#32
  let v23 : BitVec 1 := Scalar.cmpi .slt c8_i32_11 c0_i32_15
  let v24 : BitVec 32 := Scalar.extui v23
  let v25 : BitVec 32 := Scalar.subi v22 v24
  let v26 : BitVec 1 := Scalar.cmpi .ne v20 v25
  let v27 : BitVec 32 := Scalar.remsi arg10 c8_i32_11
  let c0_i32_16 : BitVec 32 := 0#32
  let v28 : BitVec 1 := Scalar.cmpi .ne v27 c0_i32_16
  let v29 : BitVec 1 := Scalar.andi v26 v28
  let v15 : BitVec 32 := Scalar.divsi arg10 c8_i32_11
  let c1_i32_17 : BitVec 32 := 1#32
  let v30 : BitVec 32 := Scalar.subi v15 c1_i32_17
  let v31 : BitVec 32 := Scalar.select v29 v30 v15
  let c8_i32_24 : BitVec 32 := 8#32
  let v46 : BitVec 32 := Scalar.muli v31 c8_i32_24
  v46
def k0_off1 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c0_i32_12 : BitVec 32 := 0#32
  let v16 : BitVec 1 := Scalar.cmpi .sgt arg10 c0_i32_12
  let v17 : BitVec 32 := Scalar.extui v16
  let c0_i32_13 : BitVec 32 := 0#32
  let v18 : BitVec 1 := Scalar.cmpi .slt arg10 c0_i32_13
  let v19 : BitVec 32 := Scalar.extui v18
  let v20 : BitVec 32 := Scalar.subi v17 v19
  let c8_i32_11 : BitVec 32 := 8#32
  let c0_i32_14 : BitVec 32 := 0#32
  let v21 : BitVec 1 := Scalar.cmpi .sgt c8_i32_11 c0_i32_14
  let v22 : BitVec 32 := Scalar.extui v21
  let c0_i32_15 : BitVec 32 := 0#32
  let v23 : BitVec 1 := Scalar.cmpi .slt c8_i32_11 c0_i32_15
  let v24 : BitVec 32 := Scalar.extui v23
  let v25 : BitVec 32 := Scalar.subi v22 v24
  let v26 : BitVec 1 := Scalar.cmpi .ne v20 v25
  let v27 : BitVec 32 := Scalar.remsi arg10 c8_i32_11
  let c0_i32_16 : BitVec 32 := 0#32
  let v28 : BitVec 1 := Scalar.cmpi .ne v27 c0_i32_16
  let v29 : BitVec 1 := Scalar.andi v26 v28
  let v15 : BitVec 32 := Scalar.divsi arg10 c8_i32_11
  let c1_i32_17 : BitVec 32 := 1#32
  let v30 : BitVec 32 := Scalar.subi v15 c1_i32_17
  let v31 : BitVec 32 := Scalar.select v29 v30 v15
  let c8_i32_24 : BitVec 32 := 8#32
  let v46 : BitVec 32 := Scalar.muli v31 c8_i32_24
  let v47 : BitVec 32 := v46
  let v48 : Index := Scalar.indexCast v47
  let c8_i32_18 : BitVec 32 := 8#32
  let c0_i32_19 : BitVec 32 := 0#32
  let v32 : BitVec 1 := Scalar.cmpi .eq c8_i32_18 c0_i32_19
  let c1_i32_20 : BitVec 32 := 1#32
  let v33 : BitVec 32 := Scalar.select v32 c1_i32_20 c8_i32_18
  let v34 : BitVec 32 := Scalar.remsi arg10 v33
  let c0_i32_22 : BitVec 32 := 0#32
  let v36 : BitVec 1 := Scalar.cmpi .slt v34 c0_i32_22
  let c0_i32_23 : BitVec 32 := 0#32
  let v37 : BitVec 1 := Scalar.cmpi .slt v33 c0_i32_23
  let v38 : BitVec 1 := Scalar.xori v36 v37
  let c0_i32_21 : BitVec 32 := 0#32
  let v35 : BitVec 1 := Scalar.cmpi .ne v34 c0_i32_21
  let v39 : BitVec 1 := Scalar.andi v38 v35
  let v40 : BitVec 32 := Scalar.addi v34 v33
  let v41 : BitVec 32 := Scalar.select v39 v40 v34
  let c128_i32 : BitVec 32 := 128#32
  let v44 : BitVec 32 := Scalar.muli v41 c128_i32
  let v45 : BitVec 32 := v44
  let v49 : Index := Scalar.indexCast v45
  ![v48.toNat, v49.toNat]
def k0_off2 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c0_i32_12 : BitVec 32 := 0#32
  let v16 : BitVec 1 := Scalar.cmpi .sgt arg10 c0_i32_12
  let v17 : BitVec 32 := Scalar.extui v16
  let c0_i32_13 : BitVec 32 := 0#32
  let v18 : BitVec 1 := Scalar.cmpi .slt arg10 c0_i32_13
  let v19 : BitVec 32 := Scalar.extui v18
  let v20 : BitVec 32 := Scalar.subi v17 v19
  let c8_i32_11 : BitVec 32 := 8#32
  let c0_i32_14 : BitVec 32 := 0#32
  let v21 : BitVec 1 := Scalar.cmpi .sgt c8_i32_11 c0_i32_14
  let v22 : BitVec 32 := Scalar.extui v21
  let c0_i32_15 : BitVec 32 := 0#32
  let v23 : BitVec 1 := Scalar.cmpi .slt c8_i32_11 c0_i32_15
  let v24 : BitVec 32 := Scalar.extui v23
  let v25 : BitVec 32 := Scalar.subi v22 v24
  let v26 : BitVec 1 := Scalar.cmpi .ne v20 v25
  let v27 : BitVec 32 := Scalar.remsi arg10 c8_i32_11
  let c0_i32_16 : BitVec 32 := 0#32
  let v28 : BitVec 1 := Scalar.cmpi .ne v27 c0_i32_16
  let v29 : BitVec 1 := Scalar.andi v26 v28
  let v15 : BitVec 32 := Scalar.divsi arg10 c8_i32_11
  let c1_i32_17 : BitVec 32 := 1#32
  let v30 : BitVec 32 := Scalar.subi v15 c1_i32_17
  let v31 : BitVec 32 := Scalar.select v29 v30 v15
  let c256_i32 : BitVec 32 := 256#32
  let v42 : BitVec 32 := Scalar.muli v31 c256_i32
  let v43 : BitVec 32 := v42
  let v51 : Index := Scalar.indexCast v43
  let c8_i32_18 : BitVec 32 := 8#32
  let c0_i32_19 : BitVec 32 := 0#32
  let v32 : BitVec 1 := Scalar.cmpi .eq c8_i32_18 c0_i32_19
  let c1_i32_20 : BitVec 32 := 1#32
  let v33 : BitVec 32 := Scalar.select v32 c1_i32_20 c8_i32_18
  let v34 : BitVec 32 := Scalar.remsi arg10 v33
  let c0_i32_22 : BitVec 32 := 0#32
  let v36 : BitVec 1 := Scalar.cmpi .slt v34 c0_i32_22
  let c0_i32_23 : BitVec 32 := 0#32
  let v37 : BitVec 1 := Scalar.cmpi .slt v33 c0_i32_23
  let v38 : BitVec 1 := Scalar.xori v36 v37
  let c0_i32_21 : BitVec 32 := 0#32
  let v35 : BitVec 1 := Scalar.cmpi .ne v34 c0_i32_21
  let v39 : BitVec 1 := Scalar.andi v38 v35
  let v40 : BitVec 32 := Scalar.addi v34 v33
  let v41 : BitVec 32 := Scalar.select v39 v40 v34
  let c128_i32 : BitVec 32 := 128#32
  let v44 : BitVec 32 := Scalar.muli v41 c128_i32
  let v45 : BitVec 32 := v44
  let v52 : Index := Scalar.indexCast v45
  ![v51.toNat, v52.toNat]
def k0_off3 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c8_i32_18 : BitVec 32 := 8#32
  let c0_i32_19 : BitVec 32 := 0#32
  let v32 : BitVec 1 := Scalar.cmpi .eq c8_i32_18 c0_i32_19
  let c1_i32_20 : BitVec 32 := 1#32
  let v33 : BitVec 32 := Scalar.select v32 c1_i32_20 c8_i32_18
  let v34 : BitVec 32 := Scalar.remsi arg10 v33
  let c0_i32_22 : BitVec 32 := 0#32
  let v36 : BitVec 1 := Scalar.cmpi .slt v34 c0_i32_22
  let c0_i32_23 : BitVec 32 := 0#32
  let v37 : BitVec 1 := Scalar.cmpi .slt v33 c0_i32_23
  let v38 : BitVec 1 := Scalar.xori v36 v37
  let c0_i32_21 : BitVec 32 := 0#32
  let v35 : BitVec 1 := Scalar.cmpi .ne v34 c0_i32_21
  let v39 : BitVec 1 := Scalar.andi v38 v35
  let v40 : BitVec 32 := Scalar.addi v34 v33
  let v41 : BitVec 32 := Scalar.select v39 v40 v34
  let c128_i32 : BitVec 32 := 128#32
  let v44 : BitVec 32 := Scalar.muli v41 c128_i32
  let v45 : BitVec 32 := v44
  let v609 : Index := Scalar.indexCast v45
  let c0_i32_12 : BitVec 32 := 0#32
  let v16 : BitVec 1 := Scalar.cmpi .sgt arg10 c0_i32_12
  let v17 : BitVec 32 := Scalar.extui v16
  let c0_i32_13 : BitVec 32 := 0#32
  let v18 : BitVec 1 := Scalar.cmpi .slt arg10 c0_i32_13
  let v19 : BitVec 32 := Scalar.extui v18
  let v20 : BitVec 32 := Scalar.subi v17 v19
  let c8_i32_11 : BitVec 32 := 8#32
  let c0_i32_14 : BitVec 32 := 0#32
  let v21 : BitVec 1 := Scalar.cmpi .sgt c8_i32_11 c0_i32_14
  let v22 : BitVec 32 := Scalar.extui v21
  let c0_i32_15 : BitVec 32 := 0#32
  let v23 : BitVec 1 := Scalar.cmpi .slt c8_i32_11 c0_i32_15
  let v24 : BitVec 32 := Scalar.extui v23
  let v25 : BitVec 32 := Scalar.subi v22 v24
  let v26 : BitVec 1 := Scalar.cmpi .ne v20 v25
  let v27 : BitVec 32 := Scalar.remsi arg10 c8_i32_11
  let c0_i32_16 : BitVec 32 := 0#32
  let v28 : BitVec 1 := Scalar.cmpi .ne v27 c0_i32_16
  let v29 : BitVec 1 := Scalar.andi v26 v28
  let v15 : BitVec 32 := Scalar.divsi arg10 c8_i32_11
  let c1_i32_17 : BitVec 32 := 1#32
  let v30 : BitVec 32 := Scalar.subi v15 c1_i32_17
  let v31 : BitVec 32 := Scalar.select v29 v30 v15
  let c256_i32 : BitVec 32 := 256#32
  let v42 : BitVec 32 := Scalar.muli v31 c256_i32
  let v43 : BitVec 32 := v42
  let v610 : Index := Scalar.indexCast v43
  ![v609.toNat, v610.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S64x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WGateUpIdeal.lean ====
abbrev S160x2x128 : Shape := ⟨3, ![160, 2, 128]⟩
abbrev S160x1x128 : Shape := ⟨3, ![160, 1, 128]⟩
abbrev S8x2x128 : Shape := ⟨3, ![8, 2, 128]⟩
abbrev S8x1x128 : Shape := ⟨3, ![8, 1, 128]⟩
abbrev S16x2x128 : Shape := ⟨3, ![16, 2, 128]⟩
abbrev S16x1x128 : Shape := ⟨3, ![16, 1, 128]⟩
  | .local _ .vmem, ⟨10, _⟩ => ⟨S160x2x128, .bf16⟩
variable {F : FTy → Type} [FloatOps F] [Named F]
def κ : String → Option EReal := fun
  | "bwd_rot" => some ((11863283 / 37748736 : ℝ) : EReal)
  | _ => none
-- ==== WGateUpRefIdeal.lean ====
abbrev S4608x2048 : Shape := ⟨2, ![4608, 2048]⟩
abbrev S4608x11264 : Shape := ⟨2, ![4608, 11264]⟩
abbrev S64x11264 : Shape := ⟨2, ![64, 11264]⟩
abbrev S11264x4608 : Shape := ⟨2, ![11264, 4608]⟩
abbrev S2048x4608 : Shape := ⟨2, ![2048, 4608]⟩
abbrev S11264x64 : Shape := ⟨2, ![11264, 64]⟩
abbrev S11264x64x1 : Shape := ⟨3, ![11264, 64, 1]⟩
abbrev S32 : Shape := ⟨1, ![32]⟩
abbrev S1x1x32 : Shape := ⟨3, ![1, 1, 32]⟩
abbrev S11264x64x32 : Shape := ⟨3, ![11264, 64, 32]⟩
abbrev S_ : Shape := ⟨0, ![]⟩
abbrev S11264x2048 : Shape := ⟨2, ![11264, 2048]⟩
abbrev S32x1 : Shape := ⟨2, ![32, 1]⟩
abbrev S1x32 : Shape := ⟨2, ![1, 32]⟩
abbrev S32x32 : Shape := ⟨2, ![32, 32]⟩

abbrev nBuf : Space → Nat
  | .hbm => 48
  | .vmem => 0
  | .smem => 0
  | _ => 0

abbrev bufTy : (tb : Table) → Fin (tcTables nBuf tb) → BufTy
  | .hbm, ⟨0, _⟩ => ⟨S4608x2048, .bf16⟩
  | .hbm, ⟨1, _⟩ => ⟨S4608x11264, .bf16⟩
  | .hbm, ⟨2, _⟩ => ⟨S64x11264, .i32⟩
  | .hbm, ⟨3, _⟩ => ⟨S11264x4608, .bf16⟩
  | .hbm, ⟨4, _⟩ => ⟨S2048x4608, .bf16⟩
  | .hbm, ⟨5, _⟩ => ⟨S11264x64, .i32⟩
  | .hbm, ⟨6, _⟩ => ⟨S11264x64x1, .i32⟩
  | .hbm, ⟨7, _⟩ => ⟨S32, .i32⟩
  | .hbm, ⟨8, _⟩ => ⟨S1x1x32, .i32⟩
  | .hbm, ⟨9, _⟩ => ⟨S11264x64x32, .i32⟩
  | .hbm, ⟨10, _⟩ => ⟨S11264x64x32, .i32⟩
  | .hbm, ⟨11, _⟩ => ⟨S11264x64x32, .i32⟩
  | .hbm, ⟨12, _⟩ => ⟨S_, .i32⟩
  | .hbm, ⟨13, _⟩ => ⟨S11264x64x32, .i32⟩
  | .hbm, ⟨14, _⟩ => ⟨S11264x64x32, .i32⟩
  | .hbm, ⟨15, _⟩ => ⟨S11264x2048, .i32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S11264x2048, .f32⟩
  | .hbm, ⟨20, _⟩ => ⟨S11264x2048, .f32⟩
  | .hbm, ⟨21, _⟩ => ⟨S11264x2048, .f32⟩
  | .hbm, ⟨22, _⟩ => ⟨S11264x2048, .f32⟩
  | .hbm, ⟨23, _⟩ => ⟨S11264x2048, .f32⟩
  | .hbm, ⟨24, _⟩ => ⟨S11264x64x32, .f32⟩
  | .hbm, ⟨25, _⟩ => ⟨S32, .i32⟩
  | .hbm, ⟨26, _⟩ => ⟨S32x1, .i32⟩
  | .hbm, ⟨27, _⟩ => ⟨S1x32, .i32⟩
  | .hbm, ⟨28, _⟩ => ⟨S32x32, .i32⟩
  | .hbm, ⟨29, _⟩ => ⟨S32x32, .i32⟩
  | .hbm, ⟨30, _⟩ => ⟨S32x32, .i32⟩
  | .hbm, ⟨31, _⟩ => ⟨S32x32, .i32⟩
  | .hbm, ⟨32, _⟩ => ⟨S_, .i32⟩
  | .hbm, ⟨33, _⟩ => ⟨S32x32, .i32⟩
  | .hbm, ⟨34, _⟩ => ⟨S32x32, .i32⟩
  | .hbm, ⟨35, _⟩ => ⟨S_, .i32⟩
  | .hbm, ⟨36, _⟩ => ⟨S32x32, .i32⟩
  | .hbm, ⟨37, _⟩ => ⟨S32x32, .i32⟩
  | .hbm, ⟨38, _⟩ => ⟨S_, .i32⟩
  | .hbm, ⟨39, _⟩ => ⟨S32x32, .i32⟩
  | .hbm, ⟨40, _⟩ => ⟨S32x32, .i32⟩
  | .hbm, ⟨41, _⟩ => ⟨S32x32, .f32⟩
  | .hbm, ⟨42, _⟩ => ⟨S_, .f32⟩
  | .hbm, ⟨43, _⟩ => ⟨S32x32, .f32⟩
  | .hbm, ⟨44, _⟩ => ⟨S32x32, .f32⟩
  | .hbm, ⟨45, _⟩ => ⟨S11264x64x32, .f32⟩
  | .hbm, ⟨46, _⟩ => ⟨S11264x2048, .f32⟩
  | .hbm, ⟨47, _⟩ => ⟨S11264x2048, .bf16⟩
  | _, _ => ⟨S4608x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Proof.YValue.lean ====
/- What the result array of the plain product holds after the run: block by block of four grid points, the zeroed
   accumulator plus the four partial products, which is the one product of the reference. -/
module

public import proofs.«01_k».proof.Proof.Gen.YIdeal.Frame
public import proofs.«01_k».proof.Proof.Gen.YRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.YIdeal.Value

open Cert.YIdeal Cert.YIdeal.Gen

variable (m : (ℓ : Loc nD τ sig) → Buf (Elt Ideal) ℓ)

/-- The reference's result: the product of the two operands, transposed first. -/
abbrev REF (X : FVec Ideal Cert.YRefIdeal.S5632x4608 .bf16) (Wt : FVec Ideal Cert.YRefIdeal.S5632x2048 .bf16) :
    FVec Ideal Cert.YRefIdeal.S4608x2048 .bf16 :=
  truncf .bf16 (Host.dotGeneral Cert.YRefIdeal.dot_S4608x5632_S2048x5632_S4608x2048_1_1_0_0_n_n none
    (transpose Cert.YRefIdeal.S4608x5632 [1, 0] X Cert.YRefIdeal.Gen.transposes_S5632x4608_S4608x5632_1_0)
    (transpose Cert.YRefIdeal.S2048x5632 [1, 0] Wt Cert.YRefIdeal.Gen.transposes_S5632x2048_S2048x5632_1_0))
    Cert.YRefIdeal.Gen.bitsLt_bf16_f32

/-- The reset stores zero. -/
theorem hzero (j) : k0_pay1 (F := Ideal) j = 0 := by pointwise [k0_pay1]

/-- One point adds the product of its two blocks, contracted over the rows of both. -/
theorem hpay (acc : Vec Ideal S768x2048 .f32) (a : Vec Ideal S1408x768 .bf16) (b : Vec Ideal S1408x2048 .bf16) (j) :
    k0_pay2 acc a b j = acc j + ∑ k : Fin 1408, a (ix2 k (j 0)) * b (ix2 k (j 1)) := by
  pointwise [k0_pay2]

/-- The reference at an index: one sum over all rows. -/
theorem href (X Wt j) : REF X Wt j = ∑ k : Fin 5632, X (ix2 k (j 0)) * Wt (ix2 k (j 1)) := by
  pointwise [REF]

/-- The windows' block indices at every point. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- At the last point of a run of four the output block is the accumulator. -/
theorem out_eq_acc (c : Dev nD) (t : Fin cfg0.N) (h0 : ¬ t.val % 4 = 0) (h3 : t.val % 4 = 3) (y : S768x2048.Idx) :
    (outsAt0 m c t.val t.isLt).1 y = (outsAt0 m c t.val t.isLt).2 y := by
  rw [outsAt0_C m c t h0 h3]; frame_out; rfl

/-- The result array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  have h0 : ¬ t.val % 4 = 0 := by omega
  rw [after0_2, out_eq_acc m c t h0 h3,
    Pipeline.eq_sum_fin_of_reset_step_apply_of_flush (fun n h => (outsAt0 m c n h).2) 4 (fun _ => 0) _
    (fun t h j => by
      rw [outsAt0_A m c t h (by omega)]; frame_out; rw [hpay, hzero])
    (fun t h j => by
      by_cases h' : t.val % 4 = 3
      · rw [outsAt0_C m c t h h']; frame_out; rw [read_unread_whole, hpay]
      · rw [outsAt0_B m c t h h']; frame_out; rw [read_unread_whole, hpay])
    t h3 _, zero_add, href]
  refine Fin.sum_mul_add_congr fun s k hl => ?_
  blk_point [iblk, V, idx t, idx ⟨_, Pipeline.run_point_lt_of_flush t ((flush0_2 t).mp hf) s⟩]

end Cert.YIdeal.Value

end
-- ==== Proof.WDownFrame.lean ====
module

public import proofs.«01_k».proof.Proof.Gen.WDown.Frame
public import proofs.«01_k».proof.Proof.Gen.WDown.Loops
public import Idealize.ShloMosaic.Lib.Pipeline.FrameBody
public import Idealize.ShloMosaic.Lib.Tactic

@[expose] public section

set_option maxRecDepth 16384

noncomputable section

namespace Cert.WDown.Rot

open Cert.WDown.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

section Body

variable (c : Dev nD) (i : grid0.Coords) (arg3 : Memref sig .tc .vmem S1536x512 .bf16) (harg3 : arg3.IsWhole) (arg4 : Memref sig .tc .vmem S1536x2048 .bf16) (harg4 : arg4.IsWhole) (arg5 : Memref sig .tc .vmem S16x2048 .i32) (harg5 : arg5.IsWhole) (arg6 : Memref sig .tc .vmem S2048x512 .bf16) (harg6 : arg6.IsWhole) (arg7 : Memref sig .tc .vmem S512x2048 .f32) (harg7 : arg7.IsWhole) (arg8 : Memref sig .tc .vmem S288x128 .f32) (harg8 : arg8.IsWhole) (arg9 : Memref sig .tc .vmem S160x128 .i32) (harg9 : arg9.IsWhole)

/-- What the write-out loop touches: the mask block, the output block, the accumulator and the two
    scratches; all but the mask block at whatever they hold. -/
abbrev Held (f5 : Buf (Elt F) (arg5.view.loc (c : Thread nD τ))) : sProp 𝕄 :=
  iprop((arg5.view.loc (c : Thread nD τ) ↦[arg5.view.set]{fullShare} f5) ∗ (∃ f, arg6.view.loc (c : Thread nD τ) ↦[arg6.view.set]{fullShare} f)
    ∗ (∃ f, arg7.view.loc (c : Thread nD τ) ↦[arg7.view.set]{fullShare} f) ∗ (∃ f, arg8.view.loc (c : Thread nD τ) ↦[arg8.view.set]{fullShare} f)
    ∗ (∃ f, arg9.view.loc (c : Thread nD τ) ↦[arg9.view.set]{fullShare} f))

set_option maxHeartbeats 4000000 in
/-- One trip of the write-out loop runs and gives back what it was handed. -/
theorem trip (k0_h2 : k0_cond2 i = 1#1) (f5 : Buf (Elt F) (arg5.view.loc (c : Thread nD τ))) (k : Fin k0_t1_loop.trips) :
    Held c arg5 arg6 arg7 arg8 arg9 f5 ⊢ wp frame (wpE (defs₀ (F := F)) Variants.none (c : Thread nD τ) none) Set.univ
      (k0_t1_body (F := F) i arg3 harg3 arg4 harg4 arg5 harg5 arg6 harg6 arg7 harg7 arg8 harg8 arg9 harg9 k0_h2 k ()) (fun _ => Held c arg5 arg6 arg7 arg8 arg9 f5) := by
  iintro ⟨H5, ⟨%f6, H6⟩, ⟨%f7, H7⟩, ⟨%f8, H8⟩, ⟨%f9, H9⟩⟩
  sl_unfold [k0_t1_body]
  sl_exec
  sl_step
  isplitl [H5]; · iexact H5
  isplitl [H6]; · iexists _; iexact H6
  isplitl [H7]; · iexists _; iexact H7
  isplitl [H8]; · iexists _; iexact H8
  iexists _; iexact H9

set_option warn.classDefReducibility false in
/-- The write-out loop's invariant: what it touches, at whatever it holds. -/
@[sl_loop] def loopInv (k0_h2 : k0_cond2 i = 1#1) (f5 : Buf (Elt F) (arg5.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 k0_h2 where
  inv _ _ := Held c arg5 arg6 arg7 arg8 arg9 f5
  step k _ := trip c i arg3 harg3 arg4 harg4 arg5 harg5 arg6 harg6 arg7 harg7 arg8 harg8 arg9 harg9 k0_h2 f5 k

/-- What the body is handed and hands back: the inputs' blocks, the other buffers at whatever they hold. -/
abbrev All (x0 : Vec F S1536x512 .bf16) (x1 : Vec F S1536x2048 .bf16) (x2 : Vec F S16x2048 .i32) : sProp 𝕄 :=
  iprop(owns (c : Thread nD τ) arg3 fullShare x0 ∗ owns (c : Thread nD τ) arg4 fullShare x1 ∗ owns (c : Thread nD τ) arg5 fullShare x2
    ∗ (∃ d, owns (c : Thread nD τ) arg6 fullShare d) ∗ (∃ d, owns (c : Thread nD τ) arg7 fullShare d)
    ∗ (∃ d, owns (c : Thread nD τ) arg8 fullShare d) ∗ (∃ d, owns (c : Thread nD τ) arg9 fullShare d))

set_option maxHeartbeats 4000000 in
/-- The body runs at every grid point, keeping its input blocks. -/
theorem body (x0 : Vec F S1536x512 .bf16) (x1 : Vec F S1536x2048 .bf16) (x2 : Vec F S16x2048 .i32) :
    All c arg3 arg4 arg5 arg6 arg7 arg8 arg9 x0 x1 x2 ⊢ wp frame (wpE (defs₀ (F := F)) Variants.none (c : Thread nD τ) none) Set.univ
      (cc0_matmul_rot i arg3 harg3 arg4 harg4 arg5 harg5 arg6 harg6 arg7 harg7 arg8 harg8 arg9 harg9) (fun _ => All c arg3 arg4 arg5 arg6 arg7 arg8 arg9 x0 x1 x2) := by
  unfold All owns
  by_cases hc0 : (Scalar.cmpi .ne (Scalar.extui (Scalar.cmpi .eq (BitVec.ofNat 32 (i 2).val) 0#32)) 0#32) = 1#1 <;>
  by_cases hc1 : k0_cond2 i = 1#1 <;>
  · simp only [cc0_matmul_rot_eq_skeleton]; unfold cc0_matmul_rot_skel
    iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩⟩
    sl_exec (disch := first | sl_exact hc0 | sl_exact hc1)
    sl_step
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    iexists _, _; isplitr; swap; · iexact H9
    ipureintro; rfl

end Body

variable (m : (ℓ : Loc nD τ sig) → Buf (Elt F) ℓ) (ρ : Dev nD → PrngReg)

/-- The proof data of the frame: each input's block where it is staged; nothing is said of the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

theorem A_eq (c : Dev nD) (w : Fin cfg0.W) : (dats m 0 c).A w = V m c (Pipeline.arrRef spec0 w) := rfl

/-- The output window is the one whose contents the frame says nothing about. -/
abbrev fgt : Fin cfg0.W → Bool := fun w => decide (w = 3)

/-- What the body is called with at point `t`: the two scratch-side resources, then each window's buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The launch's invariant, the scratches as memrefs owned at whatever they hold. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The body at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl),
    before0_2_of m (dats m 0 c) (A_eq m c 2) (fun _ => rfl)]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).after 0 t = iblk m c 0 t from rfl, show (dats m 0 c).after 1 t = iblk m c 1 t from rfl,
    show (dats m 0 c).after 2 t = iblk m c 2 t from rfl]
  iintro ⟨⟨⟨HS0, HS1, HS2⟩, Hg⟩, Ho, ⟨%d0, H0⟩, ⟨%d1, H1⟩, ⟨%d2, H2⟩, H3⟩
  iapply (wp_wand_r Idealize.ShloMosaic.frame (wpE (defs₀ (F := F)) Variants.none (c : Thread nD τ) none) Set.univ)
  isplitl [HS0 HS1 HS2 H0 H1 H2 H3]
  · iapply (body c (grid0.coords t) _ _ _ _ _ _ _ _ _ _ _ _ _ _ (iblk m c 0 t) (iblk m c 1 t) (iblk m c 2 t))
    isplitl [H0]; · iexact H0
    isplitl [H1]; · iexact H1
    isplitl [H2]; · iexact H2
    isplitl [H3]; · iexact H3
    isplitl [HS0]; · iexact HS0
    isplitl [HS1]; · iexact HS1
    iexact HS2
  · iintro %_ ⟨H0, H1, H2, H3, HS0, HS1, HS2⟩
    isplitl [HS0 HS1 HS2 Hg]
    · isplitr [Hg]
      · isplitl [HS0]; · iexact HS0
        isplitl [HS1]; · iexact HS1
        iexact HS2
      · iexact Hg
    isplitl [Ho]; · iexact Ho
    isplitl [H0]; · iexact H0
    isplitl [H1]; · iexact H1
    isplitl [H2]; · iexact H2
    iexact H3

/-- The pipeline's obligation of the body. -/
theorem body_obligation (c : Dev nD) : BodyObligation (dats (F := F) m 0 c) (defs₀ (F := F)) Variants.none () Set.univ fgt := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

set_option backward.isDefEq.respectTransparency.types false in
/-- The launch: every fair execution terminates, the inputs' arrays as they were, every counter back at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A staged input's array ends as it began. -/
theorem kept {r : PUnit × MemSt nD τ sig (Elt F)} (h : Pipeline.RDat.FramePost cfg0 (fun c => (dats m 0 c).toRForget fgt) (V m) r) (c : Dev nD)
    (w : Fin cfg0.W) (hw : fgt w = false) (hin : (cfg0.win w).isOut = false) :
    r.2.mem ((cfg0.spec w).arr.view.loc (c.tc : Thread nD τ)) = V m c (Pipeline.arrRef spec0 w) :=
  (((dats m 0 c).toRForget_arrAt_iff hw _ _).mp ((h c).1 w)).trans (((dats m 0 c).arrAt_in w hin _).trans (A_eq m c w))

/-- The frame: the argument arrays end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨kept m h.1 c 0 rfl rfl, kept m h.1 c 1 rfl rfl, kept m h.1 c 2 rfl rfl⟩, h.2⟩) (run_main m ρ)

end Cert.WDown.Rot

end
-- ==== Proof.WDownIdealFrame.lean ====
module

public import proofs.«01_k».proof.Proof.Gen.WDownIdeal.Frame
public import proofs.«01_k».proof.Proof.Gen.WDownIdeal.Loops
public import Idealize.ShloMosaic.Lib.Pipeline.FrameBody
public import Idealize.ShloMosaic.Lib.Tactic

@[expose] public section

set_option maxRecDepth 16384

noncomputable section

namespace Cert.WDownIdeal.Rot

open Cert.WDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

section Body

variable (c : Dev nD) (i : grid0.Coords) (arg3 : Memref sig .tc .vmem S1536x512 .bf16) (harg3 : arg3.IsWhole) (arg4 : Memref sig .tc .vmem S1536x2048 .bf16) (harg4 : arg4.IsWhole) (arg5 : Memref sig .tc .vmem S16x2048 .i32) (harg5 : arg5.IsWhole) (arg6 : Memref sig .tc .vmem S2048x512 .bf16) (harg6 : arg6.IsWhole) (arg7 : Memref sig .tc .vmem S512x2048 .f32) (harg7 : arg7.IsWhole) (arg8 : Memref sig .tc .vmem S288x128 .f32) (harg8 : arg8.IsWhole) (arg9 : Memref sig .tc .vmem S160x2x128 .bf16) (harg9 : arg9.IsWhole)

/-- What the write-out loop touches: the mask block, the output block, the accumulator and the two
    scratches; all but the mask block at whatever they hold. -/
abbrev Held (f5 : Buf (Elt F) (arg5.view.loc (c : Thread nD τ))) : sProp 𝕄 :=
  iprop((arg5.view.loc (c : Thread nD τ) ↦[arg5.view.set]{fullShare} f5) ∗ (∃ f, arg6.view.loc (c : Thread nD τ) ↦[arg6.view.set]{fullShare} f)
    ∗ (∃ f, arg7.view.loc (c : Thread nD τ) ↦[arg7.view.set]{fullShare} f) ∗ (∃ f, arg8.view.loc (c : Thread nD τ) ↦[arg8.view.set]{fullShare} f)
    ∗ (∃ f, arg9.view.loc (c : Thread nD τ) ↦[arg9.view.set]{fullShare} f))

set_option maxHeartbeats 4000000 in
/-- One trip of the write-out loop runs and gives back what it was handed. -/
theorem trip (k0_h2 : k0_cond2 i = 1#1) (f5 : Buf (Elt F) (arg5.view.loc (c : Thread nD τ))) (k : Fin k0_t1_loop.trips) :
    Held c arg5 arg6 arg7 arg8 arg9 f5 ⊢ wp frame (wpE (defs₀ (F := F)) Variants.none (c : Thread nD τ) none) Set.univ
      (k0_t1_body (F := F) i arg3 harg3 arg4 harg4 arg5 harg5 arg6 harg6 arg7 harg7 arg8 harg8 arg9 harg9 k0_h2 k ()) (fun _ => Held c arg5 arg6 arg7 arg8 arg9 f5) := by
  iintro ⟨H5, ⟨%f6, H6⟩, ⟨%f7, H7⟩, ⟨%f8, H8⟩, ⟨%f9, H9⟩⟩
  sl_unfold [k0_t1_body]
  sl_exec
  sl_step
  isplitl [H5]; · iexact H5
  isplitl [H6]; · iexists _; iexact H6
  isplitl [H7]; · iexists _; iexact H7
  isplitl [H8]; · iexists _; iexact H8
  iexists _; iexact H9

set_option warn.classDefReducibility false in
/-- The write-out loop's invariant: what it touches, at whatever it holds. -/
@[sl_loop] def loopInv (k0_h2 : k0_cond2 i = 1#1) (f5 : Buf (Elt F) (arg5.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 k0_h2 where
  inv _ _ := Held c arg5 arg6 arg7 arg8 arg9 f5
  step k _ := trip c i arg3 harg3 arg4 harg4 arg5 harg5 arg6 harg6 arg7 harg7 arg8 harg8 arg9 harg9 k0_h2 f5 k

/-- What the body is handed and hands back: the inputs' blocks, the other buffers at whatever they hold. -/
abbrev All (x0 : Vec F S1536x512 .bf16) (x1 : Vec F S1536x2048 .bf16) (x2 : Vec F S16x2048 .i32) : sProp 𝕄 :=
  iprop(owns (c : Thread nD τ) arg3 fullShare x0 ∗ owns (c : Thread nD τ) arg4 fullShare x1 ∗ owns (c : Thread nD τ) arg5 fullShare x2
    ∗ (∃ d, owns (c : Thread nD τ) arg6 fullShare d) ∗ (∃ d, owns (c : Thread nD τ) arg7 fullShare d)
    ∗ (∃ d, owns (c : Thread nD τ) arg8 fullShare d) ∗ (∃ d, owns (c : Thread nD τ) arg9 fullShare d))

set_option maxHeartbeats 4000000 in
/-- The body runs at every grid point, keeping its input blocks. -/
theorem body (x0 : Vec F S1536x512 .bf16) (x1 : Vec F S1536x2048 .bf16) (x2 : Vec F S16x2048 .i32) :
    All c arg3 arg4 arg5 arg6 arg7 arg8 arg9 x0 x1 x2 ⊢ wp frame (wpE (defs₀ (F := F)) Variants.none (c : Thread nD τ) none) Set.univ
      (cc0_matmul_rot i arg3 harg3 arg4 harg4 arg5 harg5 arg6 harg6 arg7 harg7 arg8 harg8 arg9 harg9) (fun _ => All c arg3 arg4 arg5 arg6 arg7 arg8 arg9 x0 x1 x2) := by
  unfold All owns
  by_cases hc0 : (Scalar.cmpi .ne (Scalar.extui (Scalar.cmpi .eq (BitVec.ofNat 32 (i 2).val) 0#32)) 0#32) = 1#1 <;>
  by_cases hc1 : k0_cond2 i = 1#1 <;>
  · simp only [cc0_matmul_rot_eq_skeleton]; unfold cc0_matmul_rot_skel
    iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩⟩
    sl_exec (disch := first | sl_exact hc0 | sl_exact hc1)
    sl_step
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    iexists _, _; isplitr; swap; · iexact H9
    ipureintro; rfl

end Body

variable (m : (ℓ : Loc nD τ sig) → Buf (Elt F) ℓ) (ρ : Dev nD → PrngReg)

/-- The proof data of the frame: each input's block where it is staged; nothing is said of the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

theorem A_eq (c : Dev nD) (w : Fin cfg0.W) : (dats m 0 c).A w = V m c (Pipeline.arrRef spec0 w) := rfl

/-- The output window is the one whose contents the frame says nothing about. -/
abbrev fgt : Fin cfg0.W → Bool := fun w => decide (w = 3)

/-- What the body is called with at point `t`: the two scratch-side resources, then each window's buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The launch's invariant, the scratches as memrefs owned at whatever they hold. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The body at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl),
    before0_2_of m (dats m 0 c) (A_eq m c 2) (fun _ => rfl)]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).after 0 t = iblk m c 0 t from rfl, show (dats m 0 c).after 1 t = iblk m c 1 t from rfl,
    show (dats m 0 c).after 2 t = iblk m c 2 t from rfl]
  iintro ⟨⟨⟨HS0, HS1, HS2⟩, Hg⟩, Ho, ⟨%d0, H0⟩, ⟨%d1, H1⟩, ⟨%d2, H2⟩, H3⟩
  iapply (wp_wand_r Idealize.ShloMosaic.frame (wpE (defs₀ (F := F)) Variants.none (c : Thread nD τ) none) Set.univ)
  isplitl [HS0 HS1 HS2 H0 H1 H2 H3]
  · iapply (body c (grid0.coords t) _ _ _ _ _ _ _ _ _ _ _ _ _ _ (iblk m c 0 t) (iblk m c 1 t) (iblk m c 2 t))
    isplitl [H0]; · iexact H0
    isplitl [H1]; · iexact H1
    isplitl [H2]; · iexact H2
    isplitl [H3]; · iexact H3
    isplitl [HS0]; · iexact HS0
    isplitl [HS1]; · iexact HS1
    iexact HS2
  · iintro %_ ⟨H0, H1, H2, H3, HS0, HS1, HS2⟩
    isplitl [HS0 HS1 HS2 Hg]
    · isplitr [Hg]
      · isplitl [HS0]; · iexact HS0
        isplitl [HS1]; · iexact HS1
        iexact HS2
      · iexact Hg
    isplitl [Ho]; · iexact Ho
    isplitl [H0]; · iexact H0
    isplitl [H1]; · iexact H1
    isplitl [H2]; · iexact H2
    iexact H3

/-- The pipeline's obligation of the body. -/
theorem body_obligation (c : Dev nD) : BodyObligation (dats (F := F) m 0 c) (defs₀ (F := F)) Variants.none () Set.univ fgt := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

set_option backward.isDefEq.respectTransparency.types false in
/-- The launch: every fair execution terminates, the inputs' arrays as they were, every counter back at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A staged input's array ends as it began. -/
theorem kept {r : PUnit × MemSt nD τ sig (Elt F)} (h : Pipeline.RDat.FramePost cfg0 (fun c => (dats m 0 c).toRForget fgt) (V m) r) (c : Dev nD)
    (w : Fin cfg0.W) (hw : fgt w = false) (hin : (cfg0.win w).isOut = false) :
    r.2.mem ((cfg0.spec w).arr.view.loc (c.tc : Thread nD τ)) = V m c (Pipeline.arrRef spec0 w) :=
  (((dats m 0 c).toRForget_arrAt_iff hw _ _).mp ((h c).1 w)).trans (((dats m 0 c).arrAt_in w hin _).trans (A_eq m c w))

/-- The frame: the argument arrays end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨kept m h.1 c 0 rfl rfl, kept m h.1 c 1 rfl rfl, kept m h.1 c 2 rfl rfl⟩, h.2⟩) (run_main m ρ)

end Cert.WDownIdeal.Rot

end
-- ==== Proof.RotStage.lean ====
/- The two staging buffers of the rotated products, whatever the product's own extents. The first holds eight groups of 32
   rows at a pitch of 36 rows and is read one row of every group at a time; the second receives sixteen rows of packed pairs
   of every group, at a pitch of 20, and is read one group at a time. Both are read back as the functions they were written
   from. -/
module

public import Idealize.ShloMosaic.Lib.Pipeline.ReadBack
public import Idealize.ShloMosaic.Lib.Pipeline.Value
public import Idealize.ShloMosaic.Lib.Pointwise
public import Idealize.ShloMosaic.Lib.Bf16PairInverse

@[expose] public section

set_option maxRecDepth 16384

noncomputable section

open Idealize.ShloMosaic

namespace Cert.RotStage

variable {Val : EltTy → Type} [∀ e, Nonempty (Val e)] {e : EltTy} {sig : RefSig} {κ : Kind} {sp : Space}

/-- Group `g` of the first buffer: 32 rows from row 36·g. -/
def groupRect (g : Fin 8) : Rect (⟨2, ![288, 128]⟩ : Shape) :=
  Rect.unit ![36 * g.val, 0] (⟨2, ![32, 128]⟩ : Shape).size fun a => by
    match a with
    | ⟨0, _⟩ => show 36 * g.val + 32 ≤ 288; omega
    | ⟨1, _⟩ => show 0 + 128 ≤ 128; omega

/-- Row `j` of every group of the first buffer. -/
def rowsRect (j : Fin 32) : LoadRect (⟨2, ![288, 128]⟩ : Shape) where
  off := ![j.val, 0]
  size := (⟨2, ![8, 128]⟩ : Shape).size
  stride := ![36, 1]
  inb a := by
    match a with
    | ⟨0, _⟩ => exact Or.inr (show j.val + 36 * (8 - 1) < 288 by omega)
    | ⟨1, _⟩ => exact Or.inr (show 0 + 1 * (128 - 1) < 128 by omega)

/-- The eight stores into the first buffer, newest first. -/
abbrev groups (W : Fin 8 → (⟨2, ![32, 128]⟩ : Shape).Idx → Val e) : List (View.Piece Val (⟨2, ![288, 128]⟩ : Shape) e) :=
  [⟨groupRect 7, W 7⟩, ⟨groupRect 6, W 6⟩, ⟨groupRect 5, W 5⟩, ⟨groupRect 4, W 4⟩, ⟨groupRect 3, W 3⟩, ⟨groupRect 2, W 2⟩,
    ⟨groupRect 1, W 1⟩, ⟨groupRect 0, W 0⟩]

/-- Every store of `groups W` is group `g`'s for some `g`, and every group is among them. -/
theorem mem_groups (W : Fin 8 → (⟨2, ![32, 128]⟩ : Shape).Idx → Val e) (p : View.Piece Val (⟨2, ![288, 128]⟩ : Shape) e) :
    p ∈ groups W ↔ ∃ g, p = ⟨groupRect g, W g⟩ := by
  constructor
  · intro h
    simp only [List.mem_cons, List.not_mem_nil, or_false] at h
    rcases h with h | h | h | h | h | h | h | h <;> exact ⟨_, h⟩
  · rintro ⟨g, rfl⟩
    fin_cases g <;> simp

/-- Row `j` of every group, read back: group `g`'s own row `j`. -/
theorem read_rows (v : View sig κ sp (⟨2, ![288, 128]⟩ : Shape) e) (W : Fin 8 → (⟨2, ![32, 128]⟩ : Shape).Idx → Val e) (j : Fin 32)
    (g : Fin 8) (n : Fin 128) : v.readCov (groups W) (rowsRect j) (ix2 g n) = W g (ix2 j n) := by
  rw [View.readCov_eq_canon']
  have key := View.canon_apply_of_pieces
    (fun y : (⟨2, ![288, 128]⟩ : Shape).Idx => if h : (y 0).val % 36 < 32 ∧ (y 0).val / 36 < 8 then
      W ⟨(y 0).val / 36, h.2⟩ (ix2 ⟨(y 0).val % 36, h.1⟩ ⟨(y 1).val, (y 1).isLt⟩) else Classical.arbitrary _)
    (groups W) (by
      intro p hp x
      obtain ⟨g, rfl⟩ := (mem_groups W p).1 hp
      have e0 : ((groupRect g).emb x 0).val = 36 * g.val + 1 * (x 0).val := rfl
      have e1 : ((groupRect g).emb x 1).val = 0 + 1 * (x 1).val := rfl
      have hx : (x 0).val < 32 := (x 0).isLt
      have hg := g.isLt
      have hm : ((groupRect g).emb x 0).val % 36 = (x 0).val := by omega
      have hd : ((groupRect g).emb x 0).val / 36 = g.val := by omega
      have hc : ((groupRect g).emb x 0).val % 36 < 32 ∧ ((groupRect g).emb x 0).val / 36 < 8 := by omega
      rw [dif_pos hc]
      have a : (⟨((groupRect g).emb x 0).val / 36, hc.2⟩ : Fin 8) = g := Fin.ext hd
      rw [a]
      refine congrArg (W g) ((ix2_eta (n0 := 32) (n1 := 128) x).symm.trans ?_)
      congr 1
      · exact Fin.ext hm.symm
      · refine Fin.ext ?_
        show (x 1).val = ((groupRect g).emb x 1).val
        omega)
    ((rowsRect j).idx (ix2 g n))
    ⟨⟨groupRect g, W g⟩, (mem_groups W _).2 ⟨g, rfl⟩, by
      rw [LoadRect.mem_set]
      intro a
      match a with
      | ⟨0, _⟩ => exact ⟨j.val, j.isLt, show j.val + 36 * g.val = 36 * g.val + 1 * j.val by omega⟩
      | ⟨1, _⟩ => exact ⟨n.val, n.isLt, show 0 + 1 * n.val = 0 + 1 * n.val by omega⟩⟩
  refine key.trans ?_
  have e0 : ((rowsRect j).idx (ix2 g n) 0).val = j.val + 36 * g.val := rfl
  have e1 : ((rowsRect j).idx (ix2 g n) 1).val = 0 + 1 * n.val := rfl
  have hm : ((rowsRect j).idx (ix2 g n) 0).val % 36 = j.val := by omega
  have hd : ((rowsRect j).idx (ix2 g n) 0).val / 36 = g.val := by omega
  have hc : ((rowsRect j).idx (ix2 g n) 0).val % 36 < 32 ∧ ((rowsRect j).idx (ix2 g n) 0).val / 36 < 8 := by omega
  rw [dif_pos hc]
  have a : (⟨((rowsRect j).idx (ix2 g n) 0).val / 36, hc.2⟩ : Fin 8) = g := Fin.ext hd
  rw [a]
  congr 1
  congr 1
  · exact Fin.ext hm
  · refine Fin.ext ?_
    show ((rowsRect j).idx (ix2 g n) 1).val = n.val
    omega

/-- Row `p` of every group of the second buffer, eight rows of pairs at a pitch of 20. -/
def pairRect (p : Fin 16) : Rect (⟨3, ![160, 2, 128]⟩ : Shape) where
  off := ![p.val, 0, 0]
  size := (⟨3, ![8, 2, 128]⟩ : Shape).size
  stride := ![20, 1, 1]
  inb a := by
    match a with
    | ⟨0, _⟩ => exact Or.inr (show p.val + 20 * (8 - 1) < 160 by omega)
    | ⟨1, _⟩ => exact Or.inr (show 0 + 1 * (2 - 1) < 2 by omega)
    | ⟨2, _⟩ => exact Or.inr (show 0 + 1 * (128 - 1) < 128 by omega)
  stride_pos a := by
    match a with
    | ⟨0, _⟩ => exact (by decide : 0 < 20)
    | ⟨1, _⟩ => exact Nat.one_pos
    | ⟨2, _⟩ => exact Nat.one_pos

/-- Group `g` of the second buffer: its sixteen rows of pairs. -/
def packRect (g : Fin 8) : Rect (⟨3, ![160, 2, 128]⟩ : Shape) :=
  Rect.unit ![20 * g.val, 0, 0] (⟨3, ![16, 2, 128]⟩ : Shape).size fun a => by
    match a with
    | ⟨0, _⟩ => show 20 * g.val + 16 ≤ 160; omega
    | ⟨1, _⟩ => show 0 + 2 ≤ 2; omega
    | ⟨2, _⟩ => show 0 + 128 ≤ 128; omega

/-- The sixteen stores into the second buffer, newest first. -/
abbrev pairs (W : Fin 16 → (⟨3, ![8, 2, 128]⟩ : Shape).Idx → Val e) : List (View.Piece Val (⟨3, ![160, 2, 128]⟩ : Shape) e) :=
  [⟨pairRect 15, W 15⟩, ⟨pairRect 14, W 14⟩, ⟨pairRect 13, W 13⟩, ⟨pairRect 12, W 12⟩, ⟨pairRect 11, W 11⟩, ⟨pairRect 10, W 10⟩,
    ⟨pairRect 9, W 9⟩, ⟨pairRect 8, W 8⟩, ⟨pairRect 7, W 7⟩, ⟨pairRect 6, W 6⟩, ⟨pairRect 5, W 5⟩, ⟨pairRect 4, W 4⟩,
    ⟨pairRect 3, W 3⟩, ⟨pairRect 2, W 2⟩, ⟨pairRect 1, W 1⟩, ⟨pairRect 0, W 0⟩]

/-- Every store of `pairs W` is row `p`'s for some `p`, and every row is among them. -/
theorem mem_pairs (W : Fin 16 → (⟨3, ![8, 2, 128]⟩ : Shape).Idx → Val e) (q : View.Piece Val (⟨3, ![160, 2, 128]⟩ : Shape) e) :
    q ∈ pairs W ↔ ∃ p, q = ⟨pairRect p, W p⟩ := by
  constructor
  · intro h
    simp only [List.mem_cons, List.not_mem_nil, or_false] at h
    rcases h with h | h | h | h | h | h | h | h | h | h | h | h | h | h | h | h <;> exact ⟨_, h⟩
  · rintro ⟨p, rfl⟩
    fin_cases p <;> simp

/-- Group `g`, read back: row `p` of it is group `g` of what store `p` wrote, whatever the buffer held before. -/
theorem read_pack (v : View sig κ sp (⟨3, ![160, 2, 128]⟩ : Shape) e) (f : v.ty.Contents Val)
    (W : Fin 16 → (⟨3, ![8, 2, 128]⟩ : Shape).Idx → Val e) (g : Fin 8) (p : Fin 16) (b : Fin 2) (n : Fin 128) :
    v.readAt Val (packRect g).toLoadRect (v.writes Val f (pairs W)) (ix3 p b n) = W p (ix3 g b n) := by
  have hcov : ∃ q ∈ pairs W, (packRect g).toLoadRect.idx (ix3 p b n) ∈ q.1.set :=
    ⟨⟨pairRect p, W p⟩, (mem_pairs W _).2 ⟨p, rfl⟩, by
      rw [LoadRect.mem_set]
      intro a
      match a with
      | ⟨0, _⟩ => exact ⟨g.val, g.isLt, show 20 * g.val + 1 * p.val = p.val + 20 * g.val by omega⟩
      | ⟨1, _⟩ => exact ⟨b.val, b.isLt, show 0 + 1 * b.val = 0 + 1 * b.val by omega⟩
      | ⟨2, _⟩ => exact ⟨n.val, n.isLt, show 0 + 1 * n.val = 0 + 1 * n.val by omega⟩⟩
  refine (View.readAt_apply ..).trans ((View.read_writes_apply_eq_canon v f _ _ hcov).trans ?_)
  have key := View.canon_apply_of_pieces
    (fun y : (⟨3, ![160, 2, 128]⟩ : Shape).Idx => if h : (y 0).val % 20 < 16 ∧ (y 0).val / 20 < 8 then
      W ⟨(y 0).val % 20, h.1⟩ (ix3 ⟨(y 0).val / 20, h.2⟩ ⟨(y 1).val, (y 1).isLt⟩ ⟨(y 2).val, (y 2).isLt⟩) else Classical.arbitrary _)
    (pairs W) (by
      intro q hq x
      obtain ⟨p, rfl⟩ := (mem_pairs W q).1 hq
      have e0 : ((pairRect p).emb x 0).val = p.val + 20 * (x 0).val := rfl
      have e1 : ((pairRect p).emb x 1).val = 0 + 1 * (x 1).val := rfl
      have e2 : ((pairRect p).emb x 2).val = 0 + 1 * (x 2).val := rfl
      have hx : (x 0).val < 8 := (x 0).isLt
      have hp := p.isLt
      have hm : ((pairRect p).emb x 0).val % 20 = p.val := by omega
      have hd : ((pairRect p).emb x 0).val / 20 = (x 0).val := by omega
      have hc : ((pairRect p).emb x 0).val % 20 < 16 ∧ ((pairRect p).emb x 0).val / 20 < 8 := by omega
      rw [dif_pos hc]
      have a : (⟨((pairRect p).emb x 0).val % 20, hc.1⟩ : Fin 16) = p := Fin.ext hm
      rw [a]
      refine congrArg (W p) ((ix3_eta (n0 := 8) (n1 := 2) (n2 := 128) x).symm.trans ?_)
      congr 1
      · exact Fin.ext hd.symm
      · refine Fin.ext ?_
        show (x 1).val = ((pairRect p).emb x 1).val
        omega
      · refine Fin.ext ?_
        show (x 2).val = ((pairRect p).emb x 2).val
        omega)
    _ hcov
  refine key.trans ?_
  have e0 : ((packRect g).toLoadRect.idx (ix3 p b n) 0).val = 20 * g.val + 1 * p.val := rfl
  have e1 : ((packRect g).toLoadRect.idx (ix3 p b n) 1).val = 0 + 1 * b.val := rfl
  have e2 : ((packRect g).toLoadRect.idx (ix3 p b n) 2).val = 0 + 1 * n.val := rfl
  have hp := p.isLt
  have hg := g.isLt
  have hm : ((packRect g).toLoadRect.idx (ix3 p b n) 0).val % 20 = p.val := by omega
  have hd : ((packRect g).toLoadRect.idx (ix3 p b n) 0).val / 20 = g.val := by omega
  have hc : ((packRect g).toLoadRect.idx (ix3 p b n) 0).val % 20 < 16 ∧ ((packRect g).toLoadRect.idx (ix3 p b n) 0).val / 20 < 8 := by
    omega
  rw [dif_pos hc]
  have a : (⟨((packRect g).toLoadRect.idx (ix3 p b n) 0).val % 20, hc.1⟩ : Fin 16) = p := Fin.ext hm
  rw [a]
  congr 1
  congr 1
  · exact Fin.ext hd
  · refine Fin.ext ?_
    show ((packRect g).toLoadRect.idx (ix3 p b n) 1).val = b.val
    omega
  · refine Fin.ext ?_
    show ((packRect g).toLoadRect.idx (ix3 p b n) 2).val = n.val
    omega

section Layout

variable {α : Type}

/-- Two rows of eight groups interleaved, at an index of the first half of a pair: the first row. -/
theorem pair_lo (lo hi : (⟨2, ![8, 128]⟩ : Shape).Idx → α) (h₁ h₂ : (⟨2, ![8, 128]⟩ : Shape).ShapeCasts ⟨3, ![8, 1, 128]⟩)
    (h : (⟨3, ![8, 2, 128]⟩ : Shape).Bitcasts 16 ⟨3, ![8, 1, 128]⟩ 32) (g : Fin 8) (n : Fin 128) :
    interleaveRows ⟨3, ![8, 2, 128]⟩ (shapeCast ⟨3, ![8, 1, 128]⟩ lo h₁) (shapeCast ⟨3, ![8, 1, 128]⟩ hi h₂) h (ix3 g 0 n) = lo (ix2 g n) := by
  pointwise

/-- At an index of the second half of a pair: the second row. -/
theorem pair_hi (lo hi : (⟨2, ![8, 128]⟩ : Shape).Idx → α) (h₁ h₂ : (⟨2, ![8, 128]⟩ : Shape).ShapeCasts ⟨3, ![8, 1, 128]⟩)
    (h : (⟨3, ![8, 2, 128]⟩ : Shape).Bitcasts 16 ⟨3, ![8, 1, 128]⟩ 32) (g : Fin 8) (n : Fin 128) :
    interleaveRows ⟨3, ![8, 2, 128]⟩ (shapeCast ⟨3, ![8, 1, 128]⟩ lo h₁) (shapeCast ⟨3, ![8, 1, 128]⟩ hi h₂) h (ix3 g 1 n) = hi (ix2 g n) := by
  pointwise

set_option maxHeartbeats 2000000 in
/-- Eight groups of sixteen rows of pairs, put below one another, as 256 rows and transposed: column 32·g + 2·p + b is half `b`
    of row `p` of group `g`. -/
theorem unpack_at (R : Fin 8 → (⟨3, ![16, 2, 128]⟩ : Shape).Idx → α)
   (hb : (⟨3, ![16, 2, 128]⟩ : Shape).Bitcasts 16 ⟨3, ![16, 1, 128]⟩ 32) (hs : (⟨3, ![16, 1, 128]⟩ : Shape).ShapeCasts ⟨2, ![16, 128]⟩)
   (part : Fin 2 → Fin 8 → (⟨2, ![16, 128]⟩ : Shape).Idx → α)
   (hp : part = fun b g => shapeCast ⟨2, ![16, 128]⟩ (rowsOfParity b ⟨3, ![16, 1, 128]⟩ (R g) hb) hs)
   (hc) (hi : (⟨2, ![256, 128]⟩ : Shape).Bitcasts 16 ⟨2, ![128, 128]⟩ 32) (ht)
  (g : Fin 8) (p : Fin 16) (b : Fin 2) (n : Fin 128) :
    transpose (⟨2, ![128, 256]⟩ : Shape) [1, 0] (interleaveRows ⟨2, ![256, 128]⟩
      (concatenate ⟨2, ![128, 128]⟩ 0 [⟨⟨2, ![16, 128]⟩, part 0 0⟩, ⟨⟨2, ![16, 128]⟩, part 0 1⟩, ⟨⟨2, ![16, 128]⟩, part 0 2⟩, ⟨⟨2, ![16, 128]⟩, part 0 3⟩, ⟨⟨2, ![16, 128]⟩, part 0 4⟩, ⟨⟨2, ![16, 128]⟩, part 0 5⟩, ⟨⟨2, ![16, 128]⟩, part 0 6⟩, ⟨⟨2, ![16, 128]⟩, part 0 7⟩] hc)
      (concatenate ⟨2, ![128, 128]⟩ 0 [⟨⟨2, ![16, 128]⟩, part 1 0⟩, ⟨⟨2, ![16, 128]⟩, part 1 1⟩, ⟨⟨2, ![16, 128]⟩, part 1 2⟩, ⟨⟨2, ![16, 128]⟩, part 1 3⟩, ⟨⟨2, ![16, 128]⟩, part 1 4⟩, ⟨⟨2, ![16, 128]⟩, part 1 5⟩, ⟨⟨2, ![16, 128]⟩, part 1 6⟩, ⟨⟨2, ![16, 128]⟩, part 1 7⟩] hc) hi) ht
      (ix2 n ⟨32 * g.val + 2 * p.val + b.val, by omega⟩) = R g (ix3 p b n) := by
  subst hp
  obtain ⟨g, hg⟩ := g
  fin_cases b <;>
  · pointwise
    first | rw [if_pos (by omega)] | rw [if_neg (by omega)]
    interval_cases g <;>
    · repeat first | rw [dif_pos (by omega)] | rw [dif_neg (by omega)]
      refine congrArg (fun q => R _ (ix3 q _ n)) (Fin.ext ?_)
      show _ = p.val
      dsimp only
      omega

end Layout

end Cert.RotStage

end
-- ==== Proof.RotMath.lean ====
/- The mathematics the three rotated products share: the butterfly of 32 entries, and what one entry of a result is as a
   function of the mask words and of the product. -/
module

public import Idealize.ShloMosaic.Lib.Pointwise
public import Idealize.ShloMosaic.PureOps.Ideal
public import Idealize.ShloMosaic.Lib.IdealHost

@[expose] public section

noncomputable section

open Idealize.ShloMosaic

namespace Cert.Rot

/-- One butterfly stage: entries `h` apart become their sum and their difference. -/
def stage (h : ℕ) (x : ℕ → EReal) (j : ℕ) : EReal := if j / h % 2 = 0 then x j + x (j + h) else x (j - h) - x j

/-- The five stages on 32 entries. -/
def wht (x : ℕ → EReal) : ℕ → EReal := stage 16 (stage 8 (stage 4 (stage 2 (stage 1 x))))

/-- An entry where its bit of the mask word is set, zero elsewhere: the bit shifted to the sign. -/
def masked (w : BitVec 32) (i : ℕ) (x : EReal) : EReal :=
  Scalar.select (IntOp.cmpi .slt (IntOp.shli .vector w (BitVec.ofNat 32 (31 - i))) 0#32) x 0

/-- A stage on real entries. -/
def stageR (h : ℕ) (x : ℕ → ℝ) (j : ℕ) : ℝ := if j / h % 2 = 0 then x j + x (j + h) else x (j - h) - x j

/-- The five stages on 32 real entries. -/
def whtR (x : ℕ → ℝ) : ℕ → ℝ := stageR 16 (stageR 8 (stageR 4 (stageR 2 (stageR 1 x))))

/-- A stage keeps reals real. -/
theorem stage_coe (h : ℕ) (x : ℕ → ℝ) : stage h (fun i => (x i : EReal)) = fun i => ((stageR h x i : ℝ) : EReal) := by
  funext j
  unfold stage stageR
  split
  · exact (EReal.coe_add _ _).symm
  · exact (EReal.coe_sub _ _).symm

/-- The butterfly keeps reals real. -/
theorem wht_coe (x : ℕ → ℝ) : wht (fun i => (x i : EReal)) = fun i => ((whtR x i : ℝ) : EReal) := by
  unfold wht whtR
  rw [stage_coe, stage_coe, stage_coe, stage_coe, stage_coe]

/-- The sign of an entry of the Walsh-Hadamard matrix: minus where the two indices share an odd number of bits. -/
def sign (k j : ℕ) : ℤ :=
  if ((k &&& j) + (k &&& j) / 2 + (k &&& j) / 4 + (k &&& j) / 8 + (k &&& j) / 16) % 2 = 0 then 1 else -1

set_option maxHeartbeats 4000000 in
/-- The butterfly is the product with the signs. -/
theorem whtR_eq_sum (x : ℕ → ℝ) (j : ℕ) (hj : j < 32) : whtR x j = ∑ k : Fin 32, (sign k.val j : ℝ) * x k.val := by
  interval_cases j <;>
  · simp [whtR, stageR, Fin.sum_univ_succ, sign]
    ring

/-- The words whose value is the sign. -/
theorem sign_word (k j : Fin 32) : (IntOp.subi 1#32 (IntOp.muli 2#32 (IntOp.andi (IntOp.ctpop (IntOp.andi (BitVec.ofNat 32 k.val)
    (BitVec.ofNat 32 j.val))) 1#32))).toInt = sign k.val j.val := by
  revert k j
  decide +kernel

/-- The bit shifted to the sign, tested. -/
theorem masked_eq (w : BitVec 32) (i : ℕ) (hi : i < 32) (x : EReal) : masked w i x = if w.getLsbD i then x else 0 := by
  unfold masked Scalar.select IntOp.cmpi IntOp.shli
  rw [if_pos (show (BitVec.ofNat 32 (31 - i)).toNat < 32 by rw [BitVec.toNat_ofNat]; omega)]
  have e : (w <<< BitVec.ofNat 32 (31 - i)).slt 0#32 = w.getLsbD i := by
    rw [BitVec.slt_zero_eq_msb, BitVec.msb_eq_getLsbD_last, BitVec.shiftLeft_eq', BitVec.getLsbD_shiftLeft]
    have : (BitVec.ofNat 32 (31 - i)).toNat = 31 - i := by rw [BitVec.toNat_ofNat]; omega
    rw [this]
    have h2 : 32 - 1 - (31 - i) = i := by omega
    rw [h2]
    have h3 : ¬ (32 - 1 < 31 - i) := by omega
    simp [h3]
  rw [e]
  cases w.getLsbD i <;> rfl

/-- The bit shifted down and cut out, as an integer. -/
theorem bit_word (w : BitVec 32) (i : ℕ) (hi : i < 32) :
    (IntOp.andi (IntOp.shrsi .host w (BitVec.ofNat 32 i)) 1#32).toInt = if w.getLsbD i then 1 else 0 := by
  unfold IntOp.andi IntOp.shrsi
  have hn : (BitVec.ofNat 32 i).toNat = i := by rw [BitVec.toNat_ofNat]; omega
  rw [if_pos (by rw [hn]; exact hi)]
  have e : (w.sshiftRight' (BitVec.ofNat 32 i)) &&& 1#32 = if w.getLsbD i then 1#32 else 0#32 := by
    apply BitVec.eq_of_getLsbD_eq
    intro k hk
    rw [BitVec.getLsbD_and, BitVec.sshiftRight_eq', hn, BitVec.getLsbD_sshiftRight]
    rcases Nat.eq_zero_or_pos k with rfl | hk0
    · have : ¬ 32 ≤ 0 := by omega
      cases h : w.getLsbD i <;> simp [h, hi]
    · have h1 : (1#32).getLsbD k = false := by
        rw [BitVec.getLsbD_one]; simp; omega
      rw [h1, Bool.and_false]
      split
      · exact h1.symm
      · simp
  rw [e]
  split <;> rfl

/-- The rotation's scale: sixteen ninths of the single-precision reciprocal root of 32. -/
abbrev scale : ℝ := 11863283 / 37748736

/-- One entry of the kernel's result, from the mask word of its group of 32 rows and the products of those rows. -/
def rotAt (w : BitVec 32) (x : ℕ → EReal) (j : ℕ) : EReal := wht (fun i => masked w i (x (i % 32))) j * ((scale : ℝ) : EReal)

/-- One entry of the reference's result: sixteen ninths of the product, masked, times the Walsh-Hadamard matrix. -/
def refAt (w : BitVec 32) (x : ℕ → EReal) (j : ℕ) : EReal :=
  ∑ k : Fin 32, (Ideal.div (Ideal.ofBits .f32 0x41800000#32) (Ideal.ofBits .f32 0x41100000#32) * x k.val)
    * FloatOps.sitofp (F := Ideal) .f32 (IntOp.andi (IntOp.shrsi .host w (BitVec.ofNat 32 k.val)) 1#32)
    * (FloatOps.sitofp (F := Ideal) .f32 (IntOp.subi 1#32 (IntOp.muli 2#32 (IntOp.andi (IntOp.ctpop (IntOp.andi (BitVec.ofNat 32 k.val)
      (BitVec.ofNat 32 j))) 1#32))) * Ideal.ofBits .f32 0x3E3504F3#32)

theorem sixteen : Ideal.ofBits .f32 0x41800000#32 = ((16 : ℝ) : EReal) := by
  simp [Ideal.ofBits, Ideal.ieee, -EReal.coe_mul]; norm_num

theorem nine : Ideal.ofBits .f32 0x41100000#32 = ((9 : ℝ) : EReal) := by
  simp [Ideal.ofBits, Ideal.ieee, -EReal.coe_mul]; norm_num

theorem root : Ideal.ofBits .f32 0x3E3504F3#32 = ((11863283 / 67108864 : ℝ) : EReal) := by
  simp [Ideal.ofBits, Ideal.ieee, -EReal.coe_mul]; norm_num

end Cert.Rot

end
-- ==== Proof.RotSpec.lean ====
/- The rotation's entry is the reference's entry where the products are real, and when they are. -/
module

public import proofs.«01_k».proof.Proof.RotMath
public import Idealize.ShloMosaic.Lib.ValueIdx

@[expose] public section

noncomputable section

open Idealize.ShloMosaic

namespace Cert.Rot

/-- A finite sum of reals, taken among the extended reals, is their sum. -/
theorem sum_coe {n : ℕ} (r : Fin n → ℝ) : ∑ i, (r i : EReal) = ((∑ i, r i : ℝ) : EReal) := by
  induction n with
  | zero => simp
  | succ n ih => rw [Fin.sum_univ_succ, Fin.sum_univ_succ, ih, EReal.coe_add]

/-- On real products the kernel's entry is the reference's. -/
theorem rotAt_eq_refAt (w : BitVec 32) (x : ℕ → EReal) (hx : ∀ i, ∃ r : ℝ, x i = (r : EReal)) (j : ℕ) (hj : j < 32) :
    rotAt w x j = refAt w x j := by
  choose r hr using hx
  have hk : ∀ k : Fin 32, (masked w k.val (x (k.val % 32))) = (((if w.getLsbD k.val then r k.val else 0 : ℝ)) : EReal) := by
    intro k
    rw [masked_eq w k.val k.isLt, Nat.mod_eq_of_lt k.isLt, hr]
    split <;> rfl
  have hm : (fun i => masked w i (x (i % 32))) = fun i => (((masked w i (x (i % 32))).toReal : ℝ) : EReal) := by
    funext i
    have : ∃ q : ℝ, masked w i (x (i % 32)) = (q : EReal) := by
      unfold masked Scalar.select
      split
      · exact ⟨_, hr _⟩
      · exact ⟨0, rfl⟩
    obtain ⟨q, hq⟩ := this
    rw [hq, EReal.toReal_coe]
  unfold rotAt
  rw [hm, wht_coe]
  dsimp only
  rw [whtR_eq_sum _ j hj]
  simp only [hk, EReal.toReal_coe]
  unfold refAt
  have hd : Ideal.div (Ideal.ofBits .f32 0x41800000#32) (Ideal.ofBits .f32 0x41100000#32) = ((16 / 9 : ℝ) : EReal) := by
    rw [sixteen, nine]
    unfold Ideal.div
    rw [if_neg (by norm_num), ← EReal.coe_inv, ← EReal.coe_mul]
    rfl
  rw [hd, root, ← EReal.coe_mul, Finset.sum_mul, ← sum_coe]
  refine Finset.sum_congr rfl fun k _ => ?_
  have hb : FloatOps.sitofp (F := Ideal) .f32 (IntOp.andi (IntOp.shrsi .host w (BitVec.ofNat 32 k.val)) 1#32)
      = (((if w.getLsbD k.val then 1 else 0 : ℤ) : ℝ) : EReal) := by
    rw [← bit_word w k.val k.isLt]; rfl
  have hs : FloatOps.sitofp (F := Ideal) .f32 (IntOp.subi 1#32 (IntOp.muli 2#32 (IntOp.andi (IntOp.ctpop (IntOp.andi (BitVec.ofNat 32 k.val)
      (BitVec.ofNat 32 j))) 1#32))) = ((sign k.val j : ℝ) : EReal) := by
    rw [← sign_word k ⟨j, hj⟩]; rfl
  rw [hb, hs, hr]
  show _ = ((16 / 9 : ℝ) : EReal) * (r k.val : EReal) * _ * (_ * _)
  rw [← EReal.coe_mul, ← EReal.coe_mul, ← EReal.coe_mul, ← EReal.coe_mul]
  refine congrArg _ ?_
  split <;> push_cast <;> ring

/-- A value whose absolute value is below infinity is real. -/
theorem real_of_lt (x : Ideal .bf16) (h : FloatOps.cmpf (F := Ideal) .olt (FloatOps.hostAbsf x) (FloatOps.ofBits .bf16 0x7F80#16) = 1#1) :
    ∃ r : ℝ, x = (r : EReal) := by
  have htop : Ideal.ofBits .bf16 0x7F80#16 = ⊤ := by simp [Ideal.ofBits, Ideal.ieee]
  have h' : Ideal.cmp .olt (max (x : EReal) (-(x : EReal))) (Ideal.ofBits .bf16 0x7F80#16) = 1#1 := h
  rw [htop] at h'
  unfold Ideal.cmp at h'
  induction x using EReal.rec with
  | bot => simp at h'
  | coe r => exact ⟨r, rfl⟩
  | top => simp at h'

/-- A sum of products of reals is real. -/
theorem real_sum {n : ℕ} (a b : Fin n → EReal) (ha : ∀ i, ∃ r : ℝ, a i = (r : EReal)) (hb : ∀ i, ∃ r : ℝ, b i = (r : EReal)) :
    ∃ r : ℝ, ∑ i, a i * b i = (r : EReal) := by
  choose ra hra using ha
  choose rb hrb using hb
  refine ⟨∑ i, ra i * rb i, ?_⟩
  simp only [hra, hrb, ← EReal.coe_mul]
  exact sum_coe _

/-- A result block: entry (n, m) of the rotation of the accumulator's column `n`, whose mask words are those of the block. -/
def rotOut {G N M : ℕ} (hM : M = 32 * G) (w : (⟨2, ![G, N]⟩ : Shape).Idx → BitVec 32) (acc : (⟨2, ![M, N]⟩ : Shape).Idx → EReal) :
    (⟨2, ![N, M]⟩ : Shape).Idx → EReal := fun y =>
  have h1 : (y 1).val < M := (y 1).isLt
  rotAt (w (ix2 ⟨(y 1).val / 32, by omega⟩ (y 0))) (fun i => acc (ix2 ⟨32 * ((y 1).val / 32) + i % 32, by omega⟩ (y 0))) ((y 1).val % 32)

end Cert.Rot

end
-- ==== Proof.WDownTrip.lean ====
/- What one trip of the write-out loop of the down projection's weight gradient stores: the rotation of its part of the block. -/
module

public import proofs.«01_k».proof.Proof.WDownIdealFrame
public import proofs.«01_k».proof.Proof.RotStage
public import proofs.«01_k».proof.Proof.RotSpec
public import Idealize.ShloMosaic.Lib.WritesUnit

@[expose] public section

set_option maxRecDepth 16384

noncomputable section

namespace Cert.WDownIdeal.Rot

open Cert.WDownIdeal.Gen Cert.Rot Cert.RotStage
open Idealize.ShloMosaic Idealize.ShloMosaic.TcCoe

variable (c : Dev nD) (i : grid0.Coords) (arg5 : Memref sig .tc .vmem S16x2048 .i32) (arg7 : Memref sig .tc .vmem S512x2048 .f32) (arg8 : Memref sig .tc .vmem S288x128 .f32) (arg9 : Memref sig .tc .vmem S160x2x128 .bf16)
  (k0_h2 : k0_cond2 i = 1#1) (f5 : Buf (Elt Ideal) (arg5.view.loc (c : Thread nD τ))) (k : Fin k0_t1_loop.trips) (f7 : Buf (Elt Ideal) (arg7.view.loc (c : Thread nD τ)))

/-- The masked rows. -/
def ys (x : S8x128.Idx) (i' : ℕ) : EReal :=
  Scalar.select (IntOp.cmpi .slt (IntOp.shli .vector (trip.sl.r (F := Ideal) c i arg5 k0_h2 f5 k x) (BitVec.ofNat 32 (31 - i'))) 0#32)
    (arg8.view.readCov (trip.sl.H8_8 (F := Ideal) c i arg7 k0_h2 k f7) (rowsRect ⟨i' % 32, Nat.mod_lt _ (by decide)⟩) x) (trip.sl.cst_35 (F := Ideal))

/-- The sixteen rows of pairs one trip writes. -/
abbrev packed : Fin 16 → S8x2x128.Idx → Elt Ideal .bf16 :=
  ![trip.sl.k0_w1 (F := Ideal) c i arg5 arg7 arg8 k0_h2 f5 k f7, trip.sl.k0_w2 (F := Ideal) c i arg5 arg7 arg8 k0_h2 f5 k f7,
    trip.sl.k0_w3 (F := Ideal) c i arg5 arg7 arg8 k0_h2 f5 k f7, trip.sl.k0_w4 (F := Ideal) c i arg5 arg7 arg8 k0_h2 f5 k f7,
    trip.sl.k0_w5 (F := Ideal) c i arg5 arg7 arg8 k0_h2 f5 k f7, trip.sl.k0_w6 (F := Ideal) c i arg5 arg7 arg8 k0_h2 f5 k f7,
    trip.sl.k0_w7 (F := Ideal) c i arg5 arg7 arg8 k0_h2 f5 k f7, trip.sl.k0_w8 (F := Ideal) c i arg5 arg7 arg8 k0_h2 f5 k f7,
    trip.sl.k0_w9 (F := Ideal) c i arg5 arg7 arg8 k0_h2 f5 k f7, trip.sl.k0_w10 (F := Ideal) c i arg5 arg7 arg8 k0_h2 f5 k f7,
    trip.sl.k0_w11 (F := Ideal) c i arg5 arg7 arg8 k0_h2 f5 k f7, trip.sl.k0_w12 (F := Ideal) c i arg5 arg7 arg8 k0_h2 f5 k f7,
    trip.sl.k0_w13 (F := Ideal) c i arg5 arg7 arg8 k0_h2 f5 k f7, trip.sl.k0_w14 (F := Ideal) c i arg5 arg7 arg8 k0_h2 f5 k f7,
    trip.sl.k0_w15 (F := Ideal) c i arg5 arg7 arg8 k0_h2 f5 k f7, trip.sl.k0_w16 (F := Ideal) c i arg5 arg7 arg8 k0_h2 f5 k f7]

/-- Each of the thirty-two rows is an entry of the butterfly, scaled. -/
theorem rows_at (x : S8x128.Idx) :
    (trip.sl.r_59 (F := Ideal) c i arg5 arg7 arg8 k0_h2 f5 k f7 x : EReal) = wht (ys c i arg5 arg7 arg8 k0_h2 f5 k f7 x) 0 * (trip.sl.cst_135 (F := Ideal) : EReal)
    ∧ (trip.sl.r_60 (F := Ideal) c i arg5 arg7 arg8 k0_h2 f5 k f7 x : EReal) = wht (ys c i arg5 arg7 arg8 k0_h2 f5 k f7 x) 1 * (trip.sl.cst_135 (F := Ideal) : EReal)
    ∧ (trip.sl.r_61 (F := Ideal) c i arg5 arg7 arg8 k0_h2 f5 k f7 x : EReal) = wht (ys c i arg5 arg7 arg8 k0_h2 f5 k f7 x) 2 * (trip.sl.cst_135 (F := Ideal) : EReal)
    ∧ (trip.sl.r_62 (F := Ideal) c i arg5 arg7 arg8 k0_h2 f5 k f7 x : EReal) = wht (ys c i arg5 arg7 arg8 k0_h2 f5 k f7 x) 3 * (trip.sl.cst_135 (F := Ideal) : EReal)
    ∧ (trip.sl.r_63 (F := Ideal) c i arg5 arg7 arg8 k0_h2 f5 k f7 x : EReal) = wht (ys c i arg5 arg7 arg8 k0_h2 f5 k f7 x) 4 * (trip.sl.cst_135 (F := Ideal) : EReal)
    ∧ (trip.sl.r_64 (F := Ideal) c i arg5 arg7 arg8 k0_h2 f5 k f7 x : EReal) = wht (ys c i arg5 arg7 arg8 k0_h2 f5 k f7 x) 5 * (trip.sl.cst_135 (F := Ideal) : EReal)
    ∧ (trip.sl.r_65 (F := Ideal) c i arg5 arg7 arg8 k0_h2 f5 k f7 x : EReal) = wht (ys c i arg5 arg7 arg8 k0_h2 f5 k f7 x) 6 * (trip.sl.cst_135 (F := Ideal) : EReal)
    ∧ (trip.sl.r_66 (F := Ideal) c i arg5 arg7 arg8 k0_h2 f5 k f7 x : EReal) = wht (ys c i arg5 arg7 arg8 k0_h2 f5 k f7 x) 7 * (trip.sl.cst_135 (F := Ideal) : EReal)
    ∧ (trip.sl.r_67 (F := Ideal) c i arg5 arg7 arg8 k0_h2 f5 k f7 x : EReal) = wht (ys c i arg5 arg7 arg8 k0_h2 f5 k f7 x) 8 * (trip.sl.cst_135 (F := Ideal) : EReal)
    ∧ (trip.sl.r_68 (F := Ideal) c i arg5 arg7 arg8 k0_h2 f5 k f7 x : EReal) = wht (ys c i arg5 arg7 arg8 k0_h2 f5 k f7 x) 9 * (trip.sl.cst_135 (F := Ideal) : EReal)
    ∧ (trip.sl.r_69 (F := Ideal) c i arg5 arg7 arg8 k0_h2 f5 k f7 x : EReal) = wht (ys c i arg5 arg7 arg8 k0_h2 f5 k f7 x) 10 * (trip.sl.cst_135 (F := Ideal) : EReal)
    ∧ (trip.sl.r_70 (F := Ideal) c i arg5 arg7 arg8 k0_h2 f5 k f7 x : EReal) = wht (ys c i arg5 arg7 arg8 k0_h2 f5 k f7 x) 11 * (trip.sl.cst_135 (F := Ideal) : EReal)
    ∧ (trip.sl.r_71 (F := Ideal) c i arg5 arg7 arg8 k0_h2 f5 k f7 x : EReal) = wht (ys c i arg5 arg7 arg8 k0_h2 f5 k f7 x) 12 * (trip.sl.cst_135 (F := Ideal) : EReal)
    ∧ (trip.sl.r_72 (F := Ideal) c i arg5 arg7 arg8 k0_h2 f5 k f7 x : EReal) = wht (ys c i arg5 arg7 arg8 k0_h2 f5 k f7 x) 13 * (trip.sl.cst_135 (F := Ideal) : EReal)
    ∧ (trip.sl.r_73 (F := Ideal) c i arg5 arg7 arg8 k0_h2 f5 k f7 x : EReal) = wht (ys c i arg5 arg7 arg8 k0_h2 f5 k f7 x) 14 * (trip.sl.cst_135 (F := Ideal) : EReal)
    ∧ (trip.sl.r_74 (F := Ideal) c i arg5 arg7 arg8 k0_h2 f5 k f7 x : EReal) = wht (ys c i arg5 arg7 arg8 k0_h2 f5 k f7 x) 15 * (trip.sl.cst_135 (F := Ideal) : EReal)
    ∧ (trip.sl.r_75 (F := Ideal) c i arg5 arg7 arg8 k0_h2 f5 k f7 x : EReal) = wht (ys c i arg5 arg7 arg8 k0_h2 f5 k f7 x) 16 * (trip.sl.cst_135 (F := Ideal) : EReal)
    ∧ (trip.sl.r_76 (F := Ideal) c i arg5 arg7 arg8 k0_h2 f5 k f7 x : EReal) = wht (ys c i arg5 arg7 arg8 k0_h2 f5 k f7 x) 17 * (trip.sl.cst_135 (F := Ideal) : EReal)
    ∧ (trip.sl.r_77 (F := Ideal) c i arg5 arg7 arg8 k0_h2 f5 k f7 x : EReal) = wht (ys c i arg5 arg7 arg8 k0_h2 f5 k f7 x) 18 * (trip.sl.cst_135 (F := Ideal) : EReal)
    ∧ (trip.sl.r_78 (F := Ideal) c i arg5 arg7 arg8 k0_h2 f5 k f7 x : EReal) = wht (ys c i arg5 arg7 arg8 k0_h2 f5 k f7 x) 19 * (trip.sl.cst_135 (F := Ideal) : EReal)
    ∧ (trip.sl.r_79 (F := Ideal) c i arg5 arg7 arg8 k0_h2 f5 k f7 x : EReal) = wht (ys c i arg5 arg7 arg8 k0_h2 f5 k f7 x) 20 * (trip.sl.cst_135 (F := Ideal) : EReal)
    ∧ (trip.sl.r_80 (F := Ideal) c i arg5 arg7 arg8 k0_h2 f5 k f7 x : EReal) = wht (ys c i arg5 arg7 arg8 k0_h2 f5 k f7 x) 21 * (trip.sl.cst_135 (F := Ideal) : EReal)
    ∧ (trip.sl.r_81 (F := Ideal) c i arg5 arg7 arg8 k0_h2 f5 k f7 x : EReal) = wht (ys c i arg5 arg7 arg8 k0_h2 f5 k f7 x) 22 * (trip.sl.cst_135 (F := Ideal) : EReal)
    ∧ (trip.sl.r_82 (F := Ideal) c i arg5 arg7 arg8 k0_h2 f5 k f7 x : EReal) = wht (ys c i arg5 arg7 arg8 k0_h2 f5 k f7 x) 23 * (trip.sl.cst_135 (F := Ideal) : EReal)
    ∧ (trip.sl.r_83 (F := Ideal) c i arg5 arg7 arg8 k0_h2 f5 k f7 x : EReal) = wht (ys c i arg5 arg7 arg8 k0_h2 f5 k f7 x) 24 * (trip.sl.cst_135 (F := Ideal) : EReal)
    ∧ (trip.sl.r_84 (F := Ideal) c i arg5 arg7 arg8 k0_h2 f5 k f7 x : EReal) = wht (ys c i arg5 arg7 arg8 k0_h2 f5 k f7 x) 25 * (trip.sl.cst_135 (F := Ideal) : EReal)
    ∧ (trip.sl.r_85 (F := Ideal) c i arg5 arg7 arg8 k0_h2 f5 k f7 x : EReal) = wht (ys c i arg5 arg7 arg8 k0_h2 f5 k f7 x) 26 * (trip.sl.cst_135 (F := Ideal) : EReal)
    ∧ (trip.sl.r_86 (F := Ideal) c i arg5 arg7 arg8 k0_h2 f5 k f7 x : EReal) = wht (ys c i arg5 arg7 arg8 k0_h2 f5 k f7 x) 27 * (trip.sl.cst_135 (F := Ideal) : EReal)
    ∧ (trip.sl.v548_lo (F := Ideal) c i arg5 arg7 arg8 k0_h2 f5 k f7 x : EReal) = wht (ys c i arg5 arg7 arg8 k0_h2 f5 k f7 x) 28 * (trip.sl.cst_135 (F := Ideal) : EReal)
    ∧ (trip.sl.v548_hi (F := Ideal) c i arg5 arg7 arg8 k0_h2 f5 k f7 x : EReal) = wht (ys c i arg5 arg7 arg8 k0_h2 f5 k f7 x) 29 * (trip.sl.cst_135 (F := Ideal) : EReal)
    ∧ (trip.sl.v549_lo (F := Ideal) c i arg5 arg7 arg8 k0_h2 f5 k f7 x : EReal) = wht (ys c i arg5 arg7 arg8 k0_h2 f5 k f7 x) 30 * (trip.sl.cst_135 (F := Ideal) : EReal)
    ∧ (trip.sl.v549_hi (F := Ideal) c i arg5 arg7 arg8 k0_h2 f5 k f7 x : EReal) = wht (ys c i arg5 arg7 arg8 k0_h2 f5 k f7 x) 31 * (trip.sl.cst_135 (F := Ideal) : EReal) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each of the thirty-two rows, where the sixteen rows of pairs hold it. -/
theorem words_at (g : Fin 8) (n : Fin 128) :
    (trip.sl.k0_w1 (F := Ideal) c i arg5 arg7 arg8 k0_h2 f5 k f7 (ix3 g 0 n) : EReal) = wht (ys c i arg5 arg7 arg8 k0_h2 f5 k f7 (ix2 g n)) 0 * (trip.sl.cst_135 (F := Ideal) : EReal)
    ∧ (trip.sl.k0_w1 (F := Ideal) c i arg5 arg7 arg8 k0_h2 f5 k f7 (ix3 g 1 n) : EReal) = wht (ys c i arg5 arg7 arg8 k0_h2 f5 k f7 (ix2 g n)) 1 * (trip.sl.cst_135 (F := Ideal) : EReal)
    ∧ (trip.sl.k0_w2 (F := Ideal) c i arg5 arg7 arg8 k0_h2 f5 k f7 (ix3 g 0 n) : EReal) = wht (ys c i arg5 arg7 arg8 k0_h2 f5 k f7 (ix2 g n)) 2 * (trip.sl.cst_135 (F := Ideal) : EReal)
    ∧ (trip.sl.k0_w2 (F := Ideal) c i arg5 arg7 arg8 k0_h2 f5 k f7 (ix3 g 1 n) : EReal) = wht (ys c i arg5 arg7 arg8 k0_h2 f5 k f7 (ix2 g n)) 3 * (trip.sl.cst_135 (F := Ideal) : EReal)
    ∧ (trip.sl.k0_w3 (F := Ideal) c i arg5 arg7 arg8 k0_h2 f5 k f7 (ix3 g 0 n) : EReal) = wht (ys c i arg5 arg7 arg8 k0_h2 f5 k f7 (ix2 g n)) 4 * (trip.sl.cst_135 (F := Ideal) : EReal)
    ∧ (trip.sl.k0_w3 (F := Ideal) c i arg5 arg7 arg8 k0_h2 f5 k f7 (ix3 g 1 n) : EReal) = wht (ys c i arg5 arg7 arg8 k0_h2 f5 k f7 (ix2 g n)) 5 * (trip.sl.cst_135 (F := Ideal) : EReal)
    ∧ (trip.sl.k0_w4 (F := Ideal) c i arg5 arg7 arg8 k0_h2 f5 k f7 (ix3 g 0 n) : EReal) = wht (ys c i arg5 arg7 arg8 k0_h2 f5 k f7 (ix2 g n)) 6 * (trip.sl.cst_135 (F := Ideal) : EReal)
    ∧ (trip.sl.k0_w4 (F := Ideal) c i arg5 arg7 arg8 k0_h2 f5 k f7 (ix3 g 1 n) : EReal) = wht (ys c i arg5 arg7 arg8 k0_h2 f5 k f7 (ix2 g n)) 7 * (trip.sl.cst_135 (F := Ideal) : EReal)
    ∧ (trip.sl.k0_w5 (F := Ideal) c i arg5 arg7 arg8 k0_h2 f5 k f7 (ix3 g 0 n) : EReal) = wht (ys c i arg5 arg7 arg8 k0_h2 f5 k f7 (ix2 g n)) 8 * (trip.sl.cst_135 (F := Ideal) : EReal)
    ∧ (trip.sl.k0_w5 (F := Ideal) c i arg5 arg7 arg8 k0_h2 f5 k f7 (ix3 g 1 n) : EReal) = wht (ys c i arg5 arg7 arg8 k0_h2 f5 k f7 (ix2 g n)) 9 * (trip.sl.cst_135 (F := Ideal) : EReal)
    ∧ (trip.sl.k0_w6 (F := Ideal) c i arg5 arg7 arg8 k0_h2 f5 k f7 (ix3 g 0 n) : EReal) = wht (ys c i arg5 arg7 arg8 k0_h2 f5 k f7 (ix2 g n)) 10 * (trip.sl.cst_135 (F := Ideal) : EReal)
    ∧ (trip.sl.k0_w6 (F := Ideal) c i arg5 arg7 arg8 k0_h2 f5 k f7 (ix3 g 1 n) : EReal) = wht (ys c i arg5 arg7 arg8 k0_h2 f5 k f7 (ix2 g n)) 11 * (trip.sl.cst_135 (F := Ideal) : EReal)
    ∧ (trip.sl.k0_w7 (F := Ideal) c i arg5 arg7 arg8 k0_h2 f5 k f7 (ix3 g 0 n) : EReal) = wht (ys c i arg5 arg7 arg8 k0_h2 f5 k f7 (ix2 g n)) 12 * (trip.sl.cst_135 (F := Ideal) : EReal)
    ∧ (trip.sl.k0_w7 (F := Ideal) c i arg5 arg7 arg8 k0_h2 f5 k f7 (ix3 g 1 n) : EReal) = wht (ys c i arg5 arg7 arg8 k0_h2 f5 k f7 (ix2 g n)) 13 * (trip.sl.cst_135 (F := Ideal) : EReal)
    ∧ (trip.sl.k0_w8 (F := Ideal) c i arg5 arg7 arg8 k0_h2 f5 k f7 (ix3 g 0 n) : EReal) = wht (ys c i arg5 arg7 arg8 k0_h2 f5 k f7 (ix2 g n)) 14 * (trip.sl.cst_135 (F := Ideal) : EReal)
    ∧ (trip.sl.k0_w8 (F := Ideal) c i arg5 arg7 arg8 k0_h2 f5 k f7 (ix3 g 1 n) : EReal) = wht (ys c i arg5 arg7 arg8 k0_h2 f5 k f7 (ix2 g n)) 15 * (trip.sl.cst_135 (F := Ideal) : EReal)
    ∧ (trip.sl.k0_w9 (F := Ideal) c i arg5 arg7 arg8 k0_h2 f5 k f7 (ix3 g 0 n) : EReal) = wht (ys c i arg5 arg7 arg8 k0_h2 f5 k f7 (ix2 g n)) 16 * (trip.sl.cst_135 (F := Ideal) : EReal)
    ∧ (trip.sl.k0_w9 (F := Ideal) c i arg5 arg7 arg8 k0_h2 f5 k f7 (ix3 g 1 n) : EReal) = wht (ys c i arg5 arg7 arg8 k0_h2 f5 k f7 (ix2 g n)) 17 * (trip.sl.cst_135 (F := Ideal) : EReal)
    ∧ (trip.sl.k0_w10 (F := Ideal) c i arg5 arg7 arg8 k0_h2 f5 k f7 (ix3 g 0 n) : EReal) = wht (ys c i arg5 arg7 arg8 k0_h2 f5 k f7 (ix2 g n)) 18 * (trip.sl.cst_135 (F := Ideal) : EReal)
    ∧ (trip.sl.k0_w10 (F := Ideal) c i arg5 arg7 arg8 k0_h2 f5 k f7 (ix3 g 1 n) : EReal) = wht (ys c i arg5 arg7 arg8 k0_h2 f5 k f7 (ix2 g n)) 19 * (trip.sl.cst_135 (F := Ideal) : EReal)
    ∧ (trip.sl.k0_w11 (F := Ideal) c i arg5 arg7 arg8 k0_h2 f5 k f7 (ix3 g 0 n) : EReal) = wht (ys c i arg5 arg7 arg8 k0_h2 f5 k f7 (ix2 g n)) 20 * (trip.sl.cst_135 (F := Ideal) : EReal)
    ∧ (trip.sl.k0_w11 (F := Ideal) c i arg5 arg7 arg8 k0_h2 f5 k f7 (ix3 g 1 n) : EReal) = wht (ys c i arg5 arg7 arg8 k0_h2 f5 k f7 (ix2 g n)) 21 * (trip.sl.cst_135 (F := Ideal) : EReal)
    ∧ (trip.sl.k0_w12 (F := Ideal) c i arg5 arg7 arg8 k0_h2 f5 k f7 (ix3 g 0 n) : EReal) = wht (ys c i arg5 arg7 arg8 k0_h2 f5 k f7 (ix2 g n)) 22 * (trip.sl.cst_135 (F := Ideal) : EReal)
    ∧ (trip.sl.k0_w12 (F := Ideal) c i arg5 arg7 arg8 k0_h2 f5 k f7 (ix3 g 1 n) : EReal) = wht (ys c i arg5 arg7 arg8 k0_h2 f5 k f7 (ix2 g n)) 23 * (trip.sl.cst_135 (F := Ideal) : EReal)
    ∧ (trip.sl.k0_w13 (F := Ideal) c i arg5 arg7 arg8 k0_h2 f5 k f7 (ix3 g 0 n) : EReal) = wht (ys c i arg5 arg7 arg8 k0_h2 f5 k f7 (ix2 g n)) 24 * (trip.sl.cst_135 (F := Ideal) : EReal)
    ∧ (trip.sl.k0_w13 (F := Ideal) c i arg5 arg7 arg8 k0_h2 f5 k f7 (ix3 g 1 n) : EReal) = wht (ys c i arg5 arg7 arg8 k0_h2 f5 k f7 (ix2 g n)) 25 * (trip.sl.cst_135 (F := Ideal) : EReal)
    ∧ (trip.sl.k0_w14 (F := Ideal) c i arg5 arg7 arg8 k0_h2 f5 k f7 (ix3 g 0 n) : EReal) = wht (ys c i arg5 arg7 arg8 k0_h2 f5 k f7 (ix2 g n)) 26 * (trip.sl.cst_135 (F := Ideal) : EReal)
    ∧ (trip.sl.k0_w14 (F := Ideal) c i arg5 arg7 arg8 k0_h2 f5 k f7 (ix3 g 1 n) : EReal) = wht (ys c i arg5 arg7 arg8 k0_h2 f5 k f7 (ix2 g n)) 27 * (trip.sl.cst_135 (F := Ideal) : EReal)
    ∧ (trip.sl.k0_w15 (F := Ideal) c i arg5 arg7 arg8 k0_h2 f5 k f7 (ix3 g 0 n) : EReal) = wht (ys c i arg5 arg7 arg8 k0_h2 f5 k f7 (ix2 g n)) 28 * (trip.sl.cst_135 (F := Ideal) : EReal)
    ∧ (trip.sl.k0_w15 (F := Ideal) c i arg5 arg7 arg8 k0_h2 f5 k f7 (ix3 g 1 n) : EReal) = wht (ys c i arg5 arg7 arg8 k0_h2 f5 k f7 (ix2 g n)) 29 * (trip.sl.cst_135 (F := Ideal) : EReal)
    ∧ (trip.sl.k0_w16 (F := Ideal) c i arg5 arg7 arg8 k0_h2 f5 k f7 (ix3 g 0 n) : EReal) = wht (ys c i arg5 arg7 arg8 k0_h2 f5 k f7 (ix2 g n)) 30 * (trip.sl.cst_135 (F := Ideal) : EReal)
    ∧ (trip.sl.k0_w16 (F := Ideal) c i arg5 arg7 arg8 k0_h2 f5 k f7 (ix3 g 1 n) : EReal) = wht (ys c i arg5 arg7 arg8 k0_h2 f5 k f7 (ix2 g n)) 31 * (trip.sl.cst_135 (F := Ideal) : EReal) :=
  have h := rows_at c i arg5 arg7 arg8 k0_h2 f5 k f7 (ix2 g n)
  ⟨(pair_lo _ _ _ _ _ g n : trip.sl.k0_w1 (F := Ideal) c i arg5 arg7 arg8 k0_h2 f5 k f7 (ix3 g 0 n) = _).trans h.1,
    (pair_hi _ _ _ _ _ g n : trip.sl.k0_w1 (F := Ideal) c i arg5 arg7 arg8 k0_h2 f5 k f7 (ix3 g 1 n) = _).trans h.2.1,
    (pair_lo _ _ _ _ _ g n : trip.sl.k0_w2 (F := Ideal) c i arg5 arg7 arg8 k0_h2 f5 k f7 (ix3 g 0 n) = _).trans h.2.2.1,
    (pair_hi _ _ _ _ _ g n : trip.sl.k0_w2 (F := Ideal) c i arg5 arg7 arg8 k0_h2 f5 k f7 (ix3 g 1 n) = _).trans h.2.2.2.1,
    (pair_lo _ _ _ _ _ g n : trip.sl.k0_w3 (F := Ideal) c i arg5 arg7 arg8 k0_h2 f5 k f7 (ix3 g 0 n) = _).trans h.2.2.2.2.1,
    (pair_hi _ _ _ _ _ g n : trip.sl.k0_w3 (F := Ideal) c i arg5 arg7 arg8 k0_h2 f5 k f7 (ix3 g 1 n) = _).trans h.2.2.2.2.2.1,
    (pair_lo _ _ _ _ _ g n : trip.sl.k0_w4 (F := Ideal) c i arg5 arg7 arg8 k0_h2 f5 k f7 (ix3 g 0 n) = _).trans h.2.2.2.2.2.2.1,
    (pair_hi _ _ _ _ _ g n : trip.sl.k0_w4 (F := Ideal) c i arg5 arg7 arg8 k0_h2 f5 k f7 (ix3 g 1 n) = _).trans h.2.2.2.2.2.2.2.1,
    (pair_lo _ _ _ _ _ g n : trip.sl.k0_w5 (F := Ideal) c i arg5 arg7 arg8 k0_h2 f5 k f7 (ix3 g 0 n) = _).trans h.2.2.2.2.2.2.2.2.1,
    (pair_hi _ _ _ _ _ g n : trip.sl.k0_w5 (F := Ideal) c i arg5 arg7 arg8 k0_h2 f5 k f7 (ix3 g 1 n) = _).trans h.2.2.2.2.2.2.2.2.2.1,
    (pair_lo _ _ _ _ _ g n : trip.sl.k0_w6 (F := Ideal) c i arg5 arg7 arg8 k0_h2 f5 k f7 (ix3 g 0 n) = _).trans h.2.2.2.2.2.2.2.2.2.2.1,
    (pair_hi _ _ _ _ _ g n : trip.sl.k0_w6 (F := Ideal) c i arg5 arg7 arg8 k0_h2 f5 k f7 (ix3 g 1 n) = _).trans h.2.2.2.2.2.2.2.2.2.2.2.1,
    (pair_lo _ _ _ _ _ g n : trip.sl.k0_w7 (F := Ideal) c i arg5 arg7 arg8 k0_h2 f5 k f7 (ix3 g 0 n) = _).trans h.2.2.2.2.2.2.2.2.2.2.2.2.1,
    (pair_hi _ _ _ _ _ g n : trip.sl.k0_w7 (F := Ideal) c i arg5 arg7 arg8 k0_h2 f5 k f7 (ix3 g 1 n) = _).trans h.2.2.2.2.2.2.2.2.2.2.2.2.2.1,
    (pair_lo _ _ _ _ _ g n : trip.sl.k0_w8 (F := Ideal) c i arg5 arg7 arg8 k0_h2 f5 k f7 (ix3 g 0 n) = _).trans h.2.2.2.2.2.2.2.2.2.2.2.2.2.2.1,
    (pair_hi _ _ _ _ _ g n : trip.sl.k0_w8 (F := Ideal) c i arg5 arg7 arg8 k0_h2 f5 k f7 (ix3 g 1 n) = _).trans h.2.2.2.2.2.2.2.2.2.2.2.2.2.2.2.1,
    (pair_lo _ _ _ _ _ g n : trip.sl.k0_w9 (F := Ideal) c i arg5 arg7 arg8 k0_h2 f5 k f7 (ix3 g 0 n) = _).trans h.2.2.2.2.2.2.2.2.2.2.2.2.2.2.2.2.1,
    (pair_hi _ _ _ _ _ g n : trip.sl.k0_w9 (F := Ideal) c i arg5 arg7 arg8 k0_h2 f5 k f7 (ix3 g 1 n) = _).trans h.2.2.2.2.2.2.2.2.2.2.2.2.2.2.2.2.2.1,
    (pair_lo _ _ _ _ _ g n : trip.sl.k0_w10 (F := Ideal) c i arg5 arg7 arg8 k0_h2 f5 k f7 (ix3 g 0 n) = _).trans h.2.2.2.2.2.2.2.2.2.2.2.2.2.2.2.2.2.2.1,
    (pair_hi _ _ _ _ _ g n : trip.sl.k0_w10 (F := Ideal) c i arg5 arg7 arg8 k0_h2 f5 k f7 (ix3 g 1 n) = _).trans h.2.2.2.2.2.2.2.2.2.2.2.2.2.2.2.2.2.2.2.1,
    (pair_lo _ _ _ _ _ g n : trip.sl.k0_w11 (F := Ideal) c i arg5 arg7 arg8 k0_h2 f5 k f7 (ix3 g 0 n) = _).trans h.2.2.2.2.2.2.2.2.2.2.2.2.2.2.2.2.2.2.2.2.1,
    (pair_hi _ _ _ _ _ g n : trip.sl.k0_w11 (F := Ideal) c i arg5 arg7 arg8 k0_h2 f5 k f7 (ix3 g 1 n) = _).trans h.2.2.2.2.2.2.2.2.2.2.2.2.2.2.2.2.2.2.2.2.2.1,
    (pair_lo _ _ _ _ _ g n : trip.sl.k0_w12 (F := Ideal) c i arg5 arg7 arg8 k0_h2 f5 k f7 (ix3 g 0 n) = _).trans h.2.2.2.2.2.2.2.2.2.2.2.2.2.2.2.2.2.2.2.2.2.2.1,
    (pair_hi _ _ _ _ _ g n : trip.sl.k0_w12 (F := Ideal) c i arg5 arg7 arg8 k0_h2 f5 k f7 (ix3 g 1 n) = _).trans h.2.2.2.2.2.2.2.2.2.2.2.2.2.2.2.2.2.2.2.2.2.2.2.1,
    (pair_lo _ _ _ _ _ g n : trip.sl.k0_w13 (F := Ideal) c i arg5 arg7 arg8 k0_h2 f5 k f7 (ix3 g 0 n) = _).trans h.2.2.2.2.2.2.2.2.2.2.2.2.2.2.2.2.2.2.2.2.2.2.2.2.1,
    (pair_hi _ _ _ _ _ g n : trip.sl.k0_w13 (F := Ideal) c i arg5 arg7 arg8 k0_h2 f5 k f7 (ix3 g 1 n) = _).trans h.2.2.2.2.2.2.2.2.2.2.2.2.2.2.2.2.2.2.2.2.2.2.2.2.2.1,
    (pair_lo _ _ _ _ _ g n : trip.sl.k0_w14 (F := Ideal) c i arg5 arg7 arg8 k0_h2 f5 k f7 (ix3 g 0 n) = _).trans h.2.2.2.2.2.2.2.2.2.2.2.2.2.2.2.2.2.2.2.2.2.2.2.2.2.2.1,
    (pair_hi _ _ _ _ _ g n : trip.sl.k0_w14 (F := Ideal) c i arg5 arg7 arg8 k0_h2 f5 k f7 (ix3 g 1 n) = _).trans h.2.2.2.2.2.2.2.2.2.2.2.2.2.2.2.2.2.2.2.2.2.2.2.2.2.2.2.1,
    (pair_lo _ _ _ _ _ g n : trip.sl.k0_w15 (F := Ideal) c i arg5 arg7 arg8 k0_h2 f5 k f7 (ix3 g 0 n) = _).trans h.2.2.2.2.2.2.2.2.2.2.2.2.2.2.2.2.2.2.2.2.2.2.2.2.2.2.2.2.1,
    (pair_hi _ _ _ _ _ g n : trip.sl.k0_w15 (F := Ideal) c i arg5 arg7 arg8 k0_h2 f5 k f7 (ix3 g 1 n) = _).trans h.2.2.2.2.2.2.2.2.2.2.2.2.2.2.2.2.2.2.2.2.2.2.2.2.2.2.2.2.2.1,
    (pair_lo _ _ _ _ _ g n : trip.sl.k0_w16 (F := Ideal) c i arg5 arg7 arg8 k0_h2 f5 k f7 (ix3 g 0 n) = _).trans h.2.2.2.2.2.2.2.2.2.2.2.2.2.2.2.2.2.2.2.2.2.2.2.2.2.2.2.2.2.2.1,
    (pair_hi _ _ _ _ _ g n : trip.sl.k0_w16 (F := Ideal) c i arg5 arg7 arg8 k0_h2 f5 k f7 (ix3 g 1 n) = _).trans h.2.2.2.2.2.2.2.2.2.2.2.2.2.2.2.2.2.2.2.2.2.2.2.2.2.2.2.2.2.2.2⟩

/-- The first half of each row of pairs, at an index. -/
theorem packed_lo (g : Fin 8) (n : Fin 128) : ∀ p : Fin 16, (packed c i arg5 arg7 arg8 k0_h2 f5 k f7 p (ix3 g 0 n) : EReal)
    = wht (ys c i arg5 arg7 arg8 k0_h2 f5 k f7 (ix2 g n)) (2 * p.val) * (trip.sl.cst_135 (F := Ideal) : EReal) := by
  have h := words_at c i arg5 arg7 arg8 k0_h2 f5 k f7 g n
  intro p
  match p with
  | 0 => exact h.1
  | 1 => exact h.2.2.1
  | 2 => exact h.2.2.2.2.1
  | 3 => exact h.2.2.2.2.2.2.1
  | 4 => exact h.2.2.2.2.2.2.2.2.1
  | 5 => exact h.2.2.2.2.2.2.2.2.2.2.1
  | 6 => exact h.2.2.2.2.2.2.2.2.2.2.2.2.1
  | 7 => exact h.2.2.2.2.2.2.2.2.2.2.2.2.2.2.1
  | 8 => exact h.2.2.2.2.2.2.2.2.2.2.2.2.2.2.2.2.1
  | 9 => exact h.2.2.2.2.2.2.2.2.2.2.2.2.2.2.2.2.2.2.1
  | 10 => exact h.2.2.2.2.2.2.2.2.2.2.2.2.2.2.2.2.2.2.2.2.1
  | 11 => exact h.2.2.2.2.2.2.2.2.2.2.2.2.2.2.2.2.2.2.2.2.2.2.1
  | 12 => exact h.2.2.2.2.2.2.2.2.2.2.2.2.2.2.2.2.2.2.2.2.2.2.2.2.1
  | 13 => exact h.2.2.2.2.2.2.2.2.2.2.2.2.2.2.2.2.2.2.2.2.2.2.2.2.2.2.1
  | 14 => exact h.2.2.2.2.2.2.2.2.2.2.2.2.2.2.2.2.2.2.2.2.2.2.2.2.2.2.2.2.1
  | 15 => exact h.2.2.2.2.2.2.2.2.2.2.2.2.2.2.2.2.2.2.2.2.2.2.2.2.2.2.2.2.2.2.1
  | ⟨q + 16, hq⟩ => exact absurd hq (by omega)

/-- The second half of each row of pairs, at an index. -/
theorem packed_hi (g : Fin 8) (n : Fin 128) : ∀ p : Fin 16, (packed c i arg5 arg7 arg8 k0_h2 f5 k f7 p (ix3 g 1 n) : EReal)
    = wht (ys c i arg5 arg7 arg8 k0_h2 f5 k f7 (ix2 g n)) (2 * p.val + 1) * (trip.sl.cst_135 (F := Ideal) : EReal) := by
  have h := words_at c i arg5 arg7 arg8 k0_h2 f5 k f7 g n
  intro p
  match p with
  | 0 => exact h.2.1
  | 1 => exact h.2.2.2.1
  | 2 => exact h.2.2.2.2.2.1
  | 3 => exact h.2.2.2.2.2.2.2.1
  | 4 => exact h.2.2.2.2.2.2.2.2.2.1
  | 5 => exact h.2.2.2.2.2.2.2.2.2.2.2.1
  | 6 => exact h.2.2.2.2.2.2.2.2.2.2.2.2.2.1
  | 7 => exact h.2.2.2.2.2.2.2.2.2.2.2.2.2.2.2.1
  | 8 => exact h.2.2.2.2.2.2.2.2.2.2.2.2.2.2.2.2.2.1
  | 9 => exact h.2.2.2.2.2.2.2.2.2.2.2.2.2.2.2.2.2.2.2.1
  | 10 => exact h.2.2.2.2.2.2.2.2.2.2.2.2.2.2.2.2.2.2.2.2.2.1
  | 11 => exact h.2.2.2.2.2.2.2.2.2.2.2.2.2.2.2.2.2.2.2.2.2.2.2.1
  | 12 => exact h.2.2.2.2.2.2.2.2.2.2.2.2.2.2.2.2.2.2.2.2.2.2.2.2.2.1
  | 13 => exact h.2.2.2.2.2.2.2.2.2.2.2.2.2.2.2.2.2.2.2.2.2.2.2.2.2.2.2.1
  | 14 => exact h.2.2.2.2.2.2.2.2.2.2.2.2.2.2.2.2.2.2.2.2.2.2.2.2.2.2.2.2.2.1
  | 15 => exact h.2.2.2.2.2.2.2.2.2.2.2.2.2.2.2.2.2.2.2.2.2.2.2.2.2.2.2.2.2.2.2
  | ⟨q + 16, hq⟩ => exact absurd hq (by omega)

/-- The rows of pairs, at an index. -/
theorem packed_at (g : Fin 8) (p : Fin 16) (b : Fin 2) (n : Fin 128) : (packed c i arg5 arg7 arg8 k0_h2 f5 k f7 p (ix3 g b n) : EReal)
    = wht (ys c i arg5 arg7 arg8 k0_h2 f5 k f7 (ix2 g n)) (2 * p.val + b.val) * (trip.sl.cst_135 (F := Ideal) : EReal) := by
  match b with
  | 0 => exact packed_lo c i arg5 arg7 arg8 k0_h2 f5 k f7 g n p
  | 1 => exact packed_hi c i arg5 arg7 arg8 k0_h2 f5 k f7 g n p

set_option maxHeartbeats 4000000 in
/-- What one trip stores into the output block: entry (n, 32·g + 2·p + b) is entry 2·p + b of group `g`'s butterfly. -/
theorem stored_at (f9 : Buf (Elt Ideal) (arg9.view.loc (c : Thread nD τ))) (g : Fin 8) (p : Fin 16) (b : Fin 2) (n : Fin 128) :
    (trip.sl.r_87 (F := Ideal) c i arg5 arg7 arg8 arg9 k0_h2 f5 k f7 f9 (ix2 n ⟨32 * g.val + 2 * p.val + b.val, by omega⟩) : EReal)
      = wht (ys c i arg5 arg7 arg8 k0_h2 f5 k f7 (ix2 g n)) (2 * p.val + b.val) * (trip.sl.cst_135 (F := Ideal) : EReal) := by
  refine Eq.trans ?_ (packed_at c i arg5 arg7 arg8 k0_h2 f5 k f7 g p b n)
  refine (unpack_at (α := Elt Ideal .bf16) (fun g => arg9.view.readAt (Elt Ideal) (packRect g).toLoadRect
      (arg9.view.writes (Elt Ideal) (![arg9.view.junk, f9, f9, f9, f9, f9, f9, f9] g) (pairs (packed c i arg5 arg7 arg8 k0_h2 f5 k f7))))
    bitcasts_S16x2x128_w16_S16x1x128_w32 shapeCasts_S16x1x128_S16x128 _ rfl
    concatenates_S16x128_S16x128_S16x128_S16x128_S16x128_S16x128_S16x128_S16x128_S128x128_d0 bitcasts_S256x128_w16_S128x128_w32
    transposes_S256x128_p1_0_S128x256 g p b n).trans ?_
  exact read_pack arg9.view _ (packed c i arg5 arg7 arg8 k0_h2 f5 k f7) g p b n

/-- The eight groups of 32 rows one trip stages. -/
abbrev staged : Fin 8 → S32x128.Idx → Elt Ideal .f32 :=
  ![trip.sl.v57 (F := Ideal) c i arg7 k0_h2 k f7, trip.sl.v61 (F := Ideal) c i arg7 k0_h2 k f7, trip.sl.v65 (F := Ideal) c i arg7 k0_h2 k f7,
    trip.sl.v69 (F := Ideal) c i arg7 k0_h2 k f7, trip.sl.v73 (F := Ideal) c i arg7 k0_h2 k f7, trip.sl.v77 (F := Ideal) c i arg7 k0_h2 k f7,
    trip.sl.v81 (F := Ideal) c i arg7 k0_h2 k f7, trip.sl.v85 (F := Ideal) c i arg7 k0_h2 k f7]

/-- A staged row is the accumulator's. -/
theorem staged_at (j : Fin 32) (n : Fin 128) : ∀ g : Fin 8, staged c i arg7 k0_h2 k f7 g (ix2 j n)
    = trip.sl.r_1 (F := Ideal) c i arg7 k0_h2 k f7 (ix2 ⟨32 * g.val + j.val, by omega⟩ n) := by
  intro g
  match g with
  | 0 => show trip.sl.v57 (F := Ideal) c i arg7 k0_h2 k f7 (ix2 j n) = _; pointwise [trip.sl.v57, trip.sl.v54, trip.sl.r_1]
  | 1 => show trip.sl.v61 (F := Ideal) c i arg7 k0_h2 k f7 (ix2 j n) = _; pointwise [trip.sl.v61, trip.sl.v58]
  | 2 => show trip.sl.v65 (F := Ideal) c i arg7 k0_h2 k f7 (ix2 j n) = _; pointwise [trip.sl.v65, trip.sl.v62]
  | 3 => show trip.sl.v69 (F := Ideal) c i arg7 k0_h2 k f7 (ix2 j n) = _; pointwise [trip.sl.v69, trip.sl.v66]
  | 4 => show trip.sl.v73 (F := Ideal) c i arg7 k0_h2 k f7 (ix2 j n) = _; pointwise [trip.sl.v73, trip.sl.v70]
  | 5 => show trip.sl.v77 (F := Ideal) c i arg7 k0_h2 k f7 (ix2 j n) = _; pointwise [trip.sl.v77, trip.sl.v74]
  | 6 => show trip.sl.v81 (F := Ideal) c i arg7 k0_h2 k f7 (ix2 j n) = _; pointwise [trip.sl.v81, trip.sl.v78]
  | 7 => show trip.sl.v85 (F := Ideal) c i arg7 k0_h2 k f7 (ix2 j n) = _; pointwise [trip.sl.v85, trip.sl.v82]

/-- A masked row, from the mask block and the accumulator. -/
theorem ys_at (g : Fin 8) (n : Fin 128) (i' : ℕ) : ys c i arg5 arg7 arg8 k0_h2 f5 k f7 (ix2 g n) i'
    = masked (trip.sl.r (F := Ideal) c i arg5 k0_h2 f5 k (ix2 g n)) i' (trip.sl.r_1 (F := Ideal) c i arg7 k0_h2 k f7 (ix2 ⟨32 * g.val + i' % 32, by omega⟩ n)) := by
  have e : arg8.view.readCov (trip.sl.H8_8 (F := Ideal) c i arg7 k0_h2 k f7) (rowsRect ⟨i' % 32, Nat.mod_lt _ (by decide)⟩) (ix2 g n)
      = trip.sl.r_1 (F := Ideal) c i arg7 k0_h2 k f7 (ix2 ⟨32 * g.val + i' % 32, by omega⟩ n) :=
    (read_rows arg8.view (staged c i arg7 k0_h2 k f7) ⟨i' % 32, Nat.mod_lt _ (by decide)⟩ g n).trans (staged_at c i arg7 k0_h2 k f7 _ _ g)
  have z : (trip.sl.cst_35 (F := Ideal) : EReal) = 0 := Ideal.ofBits_zero_f32
  unfold ys masked
  rw [e, z]

/-- The scale. -/
theorem scale_eq : (trip.sl.cst_135 (F := Ideal) : EReal) = ((scale : ℝ) : EReal) :=
  IdealRules.named_const.ideal_named_scalar _ _ _ _ rfl

/-- Where trip `k` reads and stores. -/
theorem offs : ∀ k : Fin k0_t1_loop.trips, k0_off1 k = ![8 * (k.val / 16), 128 * (k.val % 16)] ∧ k0_off2 k = ![256 * (k.val / 16), 128 * (k.val % 16)]
    ∧ k0_off3 k = ![128 * (k.val % 16), 256 * (k.val / 16)] := by decide +kernel

/-- What one trip stores is the rotation of the block it is the trip of. -/
theorem stored_eq (f9 : Buf (Elt Ideal) (arg9.view.loc (c : Thread nD τ))) (x : S128x256.Idx) (y : S2048x512.Idx)
    (h0 : (y 0).val = 128 * (k.val % 16) + (x 0).val) (h1 : (y 1).val = 256 * (k.val / 16) + (x 1).val) :
    (trip.sl.r_87 (F := Ideal) c i arg5 arg7 arg8 arg9 k0_h2 f5 k f7 f9 x : EReal)
      = rotOut (G := 16) (N := 2048) (M := 512) rfl (arg5.view.read (Elt Ideal) f5) (arg7.view.read (Elt Ideal) f7) y := by
  have hx0 : (x 0).val < 128 := (x 0).isLt
  have hx1 : (x 1).val < 256 := (x 1).isLt
  have hy1 : (y 1).val < 512 := (y 1).isLt
  have hy0 : (y 0).val < 2048 := (y 0).isLt
  obtain ⟨o1, o2, o3⟩ := offs k
  have hx : x = ix2 ⟨(x 0).val, hx0⟩ ⟨32 * ((x 1).val / 32) + 2 * ((x 1).val % 32 / 2) + (x 1).val % 2, by omega⟩ :=
    (ix2_eta (n0 := 128) (n1 := 256) x).symm.trans (congrArg _ (Fin.ext (by dsimp only; omega)))
  rw [hx]
  refine (stored_at c i arg5 arg7 arg8 arg9 k0_h2 f5 k f7 f9 ⟨(x 1).val / 32, by omega⟩ ⟨(x 1).val % 32 / 2, by omega⟩ ⟨(x 1).val % 2, by omega⟩
    ⟨(x 0).val, hx0⟩).trans ?_
  unfold rotOut rotAt
  rw [scale_eq]
  refine congrArg (· * ((scale : ℝ) : EReal)) ?_
  have hj : 2 * ((x 1).val % 32 / 2) + (x 1).val % 2 = (y 1).val % 32 := by omega
  dsimp only
  rw [hj]
  refine congrArg (fun f => wht f ((y 1).val % 32)) (funext fun i' => ?_)
  rw [ys_at]
  have e1 : trip.sl.r (F := Ideal) c i arg5 k0_h2 f5 k (ix2 ⟨(x 1).val / 32, by omega⟩ ⟨(x 0).val, hx0⟩)
      = arg5.view.read (Elt Ideal) f5 (ix2 ⟨(y 1).val / 32, by omega⟩ (y 0)) := by
    refine congrArg (arg5.view.read (Elt Ideal) f5) (funext fun a => Fin.ext ?_)
    match a with
    | ⟨0, _⟩ => show k0_off1 k 0 + 1 * ((x 1).val / 32) = (y 1).val / 32; rw [o1]; show 8 * (k.val / 16) + _ = _; omega
    | ⟨1, _⟩ => show k0_off1 k 1 + 1 * (x 0).val = (y 0).val; rw [o1]; show 128 * (k.val % 16) + _ = _; omega
  have e2 : trip.sl.r_1 (F := Ideal) c i arg7 k0_h2 k f7 (ix2 ⟨32 * ((x 1).val / 32) + i' % 32, by omega⟩ ⟨(x 0).val, hx0⟩)
      = arg7.view.read (Elt Ideal) f7 (ix2 ⟨32 * ((y 1).val / 32) + i' % 32 % 32, by omega⟩ (y 0)) := by
    refine congrArg (arg7.view.read (Elt Ideal) f7) (funext fun a => Fin.ext ?_)
    match a with
    | ⟨0, _⟩ => show k0_off2 k 0 + 1 * (32 * ((x 1).val / 32) + i' % 32) = 32 * ((y 1).val / 32) + i' % 32 % 32; rw [o2]; show 256 * (k.val / 16) + _ = _; omega
    | ⟨1, _⟩ => show k0_off2 k 1 + 1 * (x 0).val = (y 0).val; rw [o2]; show 128 * (k.val % 16) + _ = _; omega
  rw [e1]
  exact congrArg _ e2

end Cert.WDownIdeal.Rot
end
-- ==== Proof.WDownSpec.lean ====
/- The reference's result, entry by entry, and what its precondition says: every operand is real. -/
module

public import proofs.«01_k».proof.Proof.Gen.WDownRefIdeal.Run
public import proofs.«01_k».proof.Proof.Gen.Pre_finite_w_down
public import proofs.«01_k».proof.Proof.RotSpec
public import Idealize.ShloMosaic.Lib.Pipeline.ValueKit
public import Idealize.ShloMosaic.Lib.Pointwise
public import Idealize.ShloMosaic.Lib.ReduceAll

@[expose] public section

set_option maxRecDepth 16384

noncomputable section

open Idealize.ShloMosaic Idealize.ShloMosaic.TcCoe

namespace Cert.WDownRefIdeal.Spec

open Cert.WDownRefIdeal Cert.Rot

/-- The reference's result from its three arguments. -/
abbrev REF (A : FVec Ideal S4608x5632 .bf16) (B : FVec Ideal S4608x2048 .bf16) (W : IVec S176x2048 32) : FVec Ideal S2048x5632 .bf16 :=
  truncf .bf16 (shapeCast _ (Host.dotGeneral dot_S2048x176x32_S32x32_S2048x176x32_2_0_01_1_n_n (some .fp32) (shapeCast _ (mulf (mulf (broadcastInDim S2048x5632 ![] Gen.bcast_S_S2048x5632 (Host.divf (constant S_ .f32 0x41800000#32) (constant S_ .f32 0x41100000#32))) (Host.dotGeneral dot_S2048x4608_S5632x4608_S2048x5632_1_1_0_0_n_n none (transpose S2048x4608 [1, 0] B Gen.transposes_S4608x2048_S2048x4608_1_0) (transpose S5632x4608 [1, 0] A Gen.transposes_S4608x5632_S5632x4608_1_0))) (sitofp .f32 (shapeCast _ (andi (Host.shrsi (broadcastInDim S2048x176x32 ![0, 1, 2] Gen.bcast_S2048x176x1_S2048x176x32_0_1_2 (broadcastInDim S2048x176x1 ![0, 1] Gen.bcast_S2048x176_S2048x176x1_0_1 (transpose S2048x176 [1, 0] W Gen.transposes_S176x2048_S2048x176_1_0))) (broadcastInDim S2048x176x32 ![0, 1, 2] Gen.bcast_S1x1x32_S2048x176x32_0_1_2 (broadcastInDim S1x1x32 ![2] Gen.bcast_S32_S1x1x32_2 (iotaInDim S32 32 0)))) (broadcastInDim S2048x176x32 ![] Gen.bcast_S_S2048x176x32 (constantI S_ 32 1#32))) Gen.shapeCasts_S2048x176x32_S2048x5632))) Gen.shapeCasts_S2048x5632_S2048x176x32) (mulf (sitofp .f32 (subi (broadcastInDim S32x32 ![] Gen.bcast_S_S32x32 (constantI S_ 32 1#32)) (muli (broadcastInDim S32x32 ![] Gen.bcast_S_S32x32 (constantI S_ 32 2#32)) (andi (ctpop (andi (broadcastInDim S32x32 ![0, 1] Gen.bcast_S32x1_S32x32_0_1 (broadcastInDim S32x1 ![0] Gen.bcast_S32_S32x1_0 (iotaInDim S32 32 0))) (broadcastInDim S32x32 ![0, 1] Gen.bcast_S1x32_S32x32_0_1 (broadcastInDim S1x32 ![1] Gen.bcast_S32_S1x32_1 (iotaInDim S32 32 0))))) (broadcastInDim S32x32 ![] Gen.bcast_S_S32x32 (constantI S_ 32 1#32)))))) (broadcastInDim S32x32 ![] Gen.bcast_S_S32x32 (constant S_ .f32 0x3E3504F3#32)))) Gen.shapeCasts_S2048x176x32_S2048x5632) Gen.bitsLt_bf16_f32

/-- The product the rotation is taken of. -/
def prod (A : FVec Ideal S4608x5632 .bf16) (B : FVec Ideal S4608x2048 .bf16) (y : (⟨2, ![5632, 2048]⟩ : Shape).Idx) : EReal :=
  ∑ t : Fin 4608, (A (ix2 t (y 0)) : EReal) * (B (ix2 t (y 1)) : EReal)

/-- The reference at an index: the masked product times the Walsh-Hadamard matrix. -/
theorem href (A : FVec Ideal S4608x5632 .bf16) (B : FVec Ideal S4608x2048 .bf16) (W : IVec S176x2048 32) (j : S2048x5632.Idx)
    (h1 : (j 1).val < 5632) :
    REF A B W j = refAt (W (ix2 ⟨(j 1).val / 32, by omega⟩ (j 0)))
      (fun i => prod A B (ix2 ⟨32 * ((j 1).val / 32) + i % 32, by omega⟩ (j 0))) ((j 1).val % 32) := by
  have e : refAt (W (ix2 ⟨(j 1).val / 32, by omega⟩ (j 0)))
      (fun i => prod A B (ix2 ⟨32 * ((j 1).val / 32) + i % 32, by omega⟩ (j 0))) ((j 1).val % 32)
    = ∑ k : Fin 32, (Ideal.div (Ideal.ofBits .f32 0x41800000#32) (Ideal.ofBits .f32 0x41100000#32)
        * ∑ t : Fin 4608, (B (ix2 t (j 0)) : EReal) * (A (ix2 t ⟨(j 1).val / 32 * 32 + k.val, by omega⟩) : EReal))
      * FloatOps.sitofp (F := Ideal) .f32 (IntOp.andi (IntOp.shrsi .host
          (W (ix2 ⟨((j 1).val / 32 * 32 + k.val) / 32, by omega⟩ (j 0))) (BitVec.ofNat 32 k.val)) 1#32)
      * (FloatOps.sitofp (F := Ideal) .f32 (IntOp.subi 1#32 (IntOp.muli 2#32 (IntOp.andi (IntOp.ctpop (IntOp.andi (BitVec.ofNat 32 k.val)
        (BitVec.ofNat 32 ((j 1).val % 32)))) 1#32))) * Ideal.ofBits .f32 0x3E3504F3#32) := by
    unfold refAt
    refine Finset.sum_congr rfl fun k _ => ?_
    have a : (⟨((j 1).val / 32 * 32 + k.val) / 32, by omega⟩ : Fin 176) = ⟨(j 1).val / 32, by omega⟩ := Fin.ext (by dsimp only; omega)
    have b : (⟨32 * ((j 1).val / 32) + k.val % 32, by omega⟩ : Fin 5632) = ⟨(j 1).val / 32 * 32 + k.val, by omega⟩ :=
      Fin.ext (by dsimp only; omega)
    have p : prod A B (ix2 ⟨32 * ((j 1).val / 32) + k.val % 32, by omega⟩ (j 0))
        = ∑ t : Fin 4608, (B (ix2 t (j 0)) : EReal) * (A (ix2 t ⟨(j 1).val / 32 * 32 + k.val, by omega⟩) : EReal) := by
      rw [b]
      exact Finset.sum_congr rfl fun t _ => mul_comm _ _
    rw [a, ← p]
  rw [e]
  pointwise [REF]

/-- The precondition: every entry of both operands is real. -/
theorem real (A : FVec Ideal S4608x5632 .bf16) (B : FVec Ideal S4608x2048 .bf16) (W : IVec S176x2048 32)
    (h : Cert.Pre_finite_w_down.fn (F := Ideal) A B W = fun _ => 1#1) :
    (∀ i, ∃ r : ℝ, A i = (r : EReal)) ∧ (∀ i, ∃ r : ℝ, B i = (r : EReal)) := by
  have h0 := congrFun h default
  unfold Cert.Pre_finite_w_down.fn at h0
  dsimp only at h0
  have h1 := IntOp.andi_eq_one.1 h0
  have hs : Subsingleton Cert.Pre_finite_w_down.S_.Idx := ⟨fun a b => funext fun k => k.elim0⟩
  exact ⟨fun i => real_of_lt _ (Host.reduce_andi_all _ _ _ _ _ h1.1 i), fun i => real_of_lt _ (Host.reduce_andi_all _ _ _ _ _ h1.2 i)⟩

/-- The reference's result is the rotation of the product. -/
theorem ref_eq (A : FVec Ideal S4608x5632 .bf16) (B : FVec Ideal S4608x2048 .bf16) (W : IVec S176x2048 32)
    (h : Cert.Pre_finite_w_down.fn (F := Ideal) A B W = fun _ => 1#1) :
    REF A B W = rotOut (G := 176) (N := 2048) (M := 5632) rfl W (prod A B) := by
  obtain ⟨ha, hb⟩ := real A B W h
  funext j
  rw [href A B W j (j 1).isLt]
  unfold rotOut
  exact (rotAt_eq_refAt _ _ (fun i => real_sum _ _ (fun t => ha _) fun t => hb _) _ (Nat.mod_lt _ (by decide))).symm

end Cert.WDownRefIdeal.Spec

end
-- ==== Proof.WDownValue.lean ====
/- What the result array of the down projection's weight gradient holds after the run: the rotation of the masked product,
   block by block of three grid points. -/
module

public import proofs.«01_k».proof.Proof.WDownTrip
public import proofs.«01_k».proof.Proof.WDownSpec
public import Idealize.ShloMosaic.Lib.VecWindow
public import Idealize.ShloMosaic.Lib.Pipeline.ValueKit
public import Idealize.ShloMosaic.Lib.Pipeline.ReadBack

@[expose] public section

set_option maxRecDepth 16384

noncomputable section

namespace Cert.WDownIdeal.RotValue

open Cert.WDownIdeal Cert.WDownIdeal.Gen Cert.WDownIdeal.Rot Cert.Rot
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- What the write-out loop makes of a mask block and the accumulator. -/
abbrev rot (w : Vec Ideal S16x2048 .i32) (acc : Vec Ideal S512x2048 .f32) : Vec Ideal S2048x512 .bf16 :=
  rotOut (G := 16) (N := 2048) (M := 512) rfl w acc

section Body

variable (c : Dev nD) (i : grid0.Coords) (arg3 : Memref sig .tc .vmem S1536x512 .bf16) (harg3 : arg3.IsWhole) (arg4 : Memref sig .tc .vmem S1536x2048 .bf16) (harg4 : arg4.IsWhole) (arg5 : Memref sig .tc .vmem S16x2048 .i32) (harg5 : arg5.IsWhole) (arg6 : Memref sig .tc .vmem S2048x512 .bf16) (harg6 : arg6.IsWhole) (arg7 : Memref sig .tc .vmem S512x2048 .f32) (harg7 : arg7.IsWhole) (arg8 : Memref sig .tc .vmem S288x128 .f32) (harg8 : arg8.IsWhole) (arg9 : Memref sig .tc .vmem S160x2x128 .bf16) (harg9 : arg9.IsWhole)

/-- Whether one of the first `n` trips stores the entry `y` of the output block. -/
abbrev stores (n : ℕ) (y : S2048x512.Idx) : Prop := 16 * ((y 1).val / 256) + (y 0).val / 128 < n

/-- A block cut down to what the first `n` trips store. -/
def upTo : ℕ → Vec Ideal S2048x512 .bf16 → S2048x512.Idx → EReal
  | 0, _ => fun _ => 0
  | n + 1, o => fun y => if stores (n + 1) y then o y else 0

/-- Before trip `n`: the parts of the output block that the earlier trips store hold their values. -/
abbrev Done (n : ℕ) (w : Vec Ideal S16x2048 .i32) (acc : Vec Ideal S512x2048 .f32) (o : Vec Ideal S2048x512 .bf16) : Prop :=
  upTo n o = upTo n (rot w acc)

/-- The same, entry by entry. -/
theorem done_iff (n : ℕ) (w : Vec Ideal S16x2048 .i32) (acc : Vec Ideal S512x2048 .f32) (o : Vec Ideal S2048x512 .bf16) :
    Done n w acc o ↔ ∀ y, stores n y → o y = rot w acc y := by
  cases n with
  | zero => exact ⟨fun _ y h => absurd h (Nat.not_lt_zero _), fun _ => rfl⟩
  | succ n =>
    refine ⟨fun h y hy => ?_, fun h => funext fun y => ?_⟩
    · have e := congrFun h y
      simp only [upTo, if_pos hy] at e
      exact e
    · simp only [upTo]
      split
      · next hy => exact h y hy
      · rfl

/-- One trip stores its own part of the block and keeps the others. -/
theorem done_step (k : Fin k0_t1_loop.trips) (w : Vec Ideal S16x2048 .i32) (acc : Vec Ideal S512x2048 .f32)
    (f6 : arg6.view.ty.Contents (Elt Ideal)) (h : Done k.val w acc (arg6.view.read (Elt Ideal) f6)) (inb)
    (p : S128x256.Idx → Elt Ideal .bf16)
    (hp : ∀ (x : S128x256.Idx) (y : S2048x512.Idx), (y 0).val = 128 * (k.val % 16) + (x 0).val → (y 1).val = 256 * (k.val / 16) + (x 1).val
      → p x = rot w acc y) :
    Done (k.val + 1) w acc (arg6.view.read (Elt Ideal) (arg6.view.writes (Elt Ideal) f6 [⟨Rect.unit (s := S2048x512) (k0_off3 k) S128x256.size inb, p⟩])) := by
  refine (done_iff _ _ _ _).2 fun y hy => ?_
  have hy : 16 * ((y 1).val / 256) + (y 0).val / 128 < k.val + 1 := hy
  have hy0 : (y 0).val < 2048 := (y 0).isLt
  have hy1 : (y 1).val < 512 := (y 1).isLt
  by_cases e : 16 * ((y 1).val / 256) + (y 0).val / 128 = k.val
  · have hx0 : (y 0).val = 128 * (k.val % 16) + (y 0).val % 128 := by omega
    have hx1 : (y 1).val = 256 * (k.val / 16) + (y 1).val % 256 := by omega
    rw [View.read_writes_cons_unit_of_mem arg6.view f6 inb p [] y
      (ix2 (n0 := 128) (n1 := 256) ⟨(y 0).val % 128, by omega⟩ ⟨(y 1).val % 256, by omega⟩) (offs k).2.2 (fun a => by
        match a with
        | ⟨0, _⟩ => exact hx0
        | ⟨1, _⟩ => exact hx1)]
    exact hp _ y hx0 hx1
  · have hk : ¬ ((y 0).val / 128 = k.val % 16 ∧ (y 1).val / 256 = k.val / 16) := by omega
    have hm : View.read (Elt Ideal) arg6.view (arg6.view.writes (Elt Ideal) f6 [⟨Rect.unit (s := S2048x512) (k0_off3 k) S128x256.size inb, p⟩]) y
        = arg6.view.read (Elt Ideal) f6 y := by
      by_cases h0 : (y 0).val / 128 = k.val % 16
      · refine (View.read_writes_cons_unit_of_not_mem arg6.view f6 inb p [] y (offs k).2.2 1 ?_).trans rfl
        show (y 1).val < 256 * (k.val / 16) ∨ 256 * (k.val / 16) + 256 ≤ (y 1).val
        omega
      · refine (View.read_writes_cons_unit_of_not_mem arg6.view f6 inb p [] y (offs k).2.2 0 ?_).trans rfl
        show (y 0).val < 128 * (k.val % 16) ∨ 128 * (k.val % 16) + 128 ≤ (y 0).val
        omega
    rw [hm]
    exact (done_iff _ _ _ _).1 h y (show 16 * ((y 1).val / 256) + (y 0).val / 128 < k.val by omega)

/-- What the write-out loop touches before trip `n`: the mask block and the accumulator as they are, the output block with its
    first `n` parts stored, the two scratches at whatever they hold. -/
abbrev HeldV (f5 : Buf (Elt Ideal) (arg5.view.loc (c : Thread nD τ))) (f7 : Buf (Elt Ideal) (arg7.view.loc (c : Thread nD τ))) (n : ℕ) : sProp 𝕄 :=
  iprop((arg5.view.loc (c : Thread nD τ) ↦[arg5.view.set]{fullShare} f5)
    ∗ (∃ f, ⌜Done n (arg5.view.read (Elt Ideal) f5) (arg7.view.read (Elt Ideal) f7) (arg6.view.read (Elt Ideal) f)⌝
        ∗ arg6.view.loc (c : Thread nD τ) ↦[arg6.view.set]{fullShare} f)
    ∗ (arg7.view.loc (c : Thread nD τ) ↦[arg7.view.set]{fullShare} f7) ∗ (∃ f, arg8.view.loc (c : Thread nD τ) ↦[arg8.view.set]{fullShare} f)
    ∗ (∃ f, arg9.view.loc (c : Thread nD τ) ↦[arg9.view.set]{fullShare} f))

set_option maxHeartbeats 4000000 in
/-- One trip of the write-out loop stores its part. -/
theorem tripV (k0_h2 : k0_cond2 i = 1#1) (f5 : Buf (Elt Ideal) (arg5.view.loc (c : Thread nD τ))) (f7 : Buf (Elt Ideal) (arg7.view.loc (c : Thread nD τ))) (k : Fin k0_t1_loop.trips) :
    HeldV c arg5 arg6 arg7 arg8 arg9 f5 f7 k.val ⊢ wp frame (wpE (defs₀ (F := Ideal)) Variants.none (c : Thread nD τ) none) Set.univ
      (k0_t1_body (F := Ideal) i arg3 harg3 arg4 harg4 arg5 harg5 arg6 harg6 arg7 harg7 arg8 harg8 arg9 harg9 k0_h2 k ()) (fun _ => HeldV c arg5 arg6 arg7 arg8 arg9 f5 f7 (k.val + 1)) := by
  iintro ⟨H5, ⟨%f6, %h6, H6⟩, H7, ⟨%f8, H8⟩, ⟨%f9, H9⟩⟩
  sl_unfold [k0_t1_body]
  sl_exec
  sl_step
  isplitl [H5]; · iexact H5
  isplitl [H6]
  · iexists _
    isplitr; swap; · iexact H6
    ipureintro
    refine done_step arg6 k _ _ f6 h6 _ _ fun x y h0 h1 => ?_
    refine Eq.trans (congrFun ?_ x) (stored_eq c i arg5 arg7 arg8 arg9 k0_h2 f5 k f7 f9 x y h0 h1)
    sl_kernel_rfl
  isplitl [H7]; · iexact H7
  isplitl [H8]; · iexists _; iexact H8
  iexists _; iexact H9

set_option warn.classDefReducibility false in
/-- The write-out loop's invariant: the parts stored so far hold their values. -/
@[sl_loop] def loopInvV (k0_h2 : k0_cond2 i = 1#1) (f5 : Buf (Elt Ideal) (arg5.view.loc (c : Thread nD τ))) (f7 : Buf (Elt Ideal) (arg7.view.loc (c : Thread nD τ))) :
    LoopInvTy_k0_t1 (F := Ideal) Unit ℕ (UR sig nD τ) ℕ Variants.none c none Set.univ i arg3 harg3 arg4 harg4 arg5 harg5 arg6 harg6 arg7 harg7 arg8 harg8 arg9 harg9 k0_h2 where
  inv k _ := HeldV c arg5 arg6 arg7 arg8 arg9 f5 f7 k
  step k _ := tripV c i arg3 harg3 arg4 harg4 arg5 harg5 arg6 harg6 arg7 harg7 arg8 harg8 arg9 harg9 k0_h2 f5 f7 k

/-- What the body keeps: its input blocks, the output block `o`, the accumulator `a`, the two scratches at whatever they hold. -/
abbrev AllV (x0 : Vec Ideal S1536x512 .bf16) (x1 : Vec Ideal S1536x2048 .bf16) (x2 : Vec Ideal S16x2048 .i32)
    (o : Vec Ideal S2048x512 .bf16) (a : Vec Ideal S512x2048 .f32) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare o ∗ owns (c : Thread nD τ) arg7 fullShare a
    ∗ (∃ d, owns (c : Thread nD τ) arg8 fullShare d) ∗ (∃ d, owns (c : Thread nD τ) arg9 fullShare d))

set_option maxHeartbeats 4000000 in
/-- The body at a first reduction step: the accumulator is zeroed and takes the product of the blocks. -/
theorem bodyFirst (hc0 : (Scalar.cmpi .ne (Scalar.extui (Scalar.cmpi .eq (BitVec.ofNat 32 (i 2).val) 0#32)) 0#32) = 1#1)
    (hc1 : ¬ k0_cond2 i = 1#1) (x0 : Vec Ideal S1536x512 .bf16) (x1 : Vec Ideal S1536x2048 .bf16) (x2 : Vec Ideal S16x2048 .i32) (o a) :
    AllV c arg3 arg4 arg5 arg6 arg7 arg8 arg9 x0 x1 x2 o a ⊢ wp frame (wpE (defs₀ (F := Ideal)) Variants.none (c : Thread nD τ) none) Set.univ
      (cc0_matmul_rot i arg3 harg3 arg4 harg4 arg5 harg5 arg6 harg6 arg7 harg7 arg8 harg8 arg9 harg9)
      (fun _ => AllV c arg3 arg4 arg5 arg6 arg7 arg8 arg9 x0 x1 x2 (o) (k0_pay2 k0_pay1 x0 x1)) := by
  unfold AllV owns
  simp only [cc0_matmul_rot_eq_skeleton]; unfold cc0_matmul_rot_skel
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩⟩
  sl_exec (disch := first | sl_exact hc0 | sl_exact hc1)
  sl_step
  have e : bodyFirst.sl.v3 arg7 = k0_pay1 (F := Ideal) := by
    unfold bodyFirst.sl.v3 bodyFirst.sl.H7_1
    exact View.readCov_full arg7.view _ _ _ _
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists _; isplitr; swap; · iexact H6
                  ipureintro; exact h6
  isplitl [H7]; · iexists _; isplitr; swap; · iexact H7
                  ipureintro; rw [View.read_writes_full, e, View.readAt_full, View.readAt_full, h3, h4]
  isplitl [H8]; · iexists _, _; isplitr; swap; · iexact H8
                  ipureintro; rfl
  iexists _, _; isplitr; swap; · iexact H9
  ipureintro; rfl

set_option maxHeartbeats 4000000 in
/-- The body at a reduction step between: the accumulator takes the product of the blocks. -/
theorem bodyMid (hc0 : ¬ (Scalar.cmpi .ne (Scalar.extui (Scalar.cmpi .eq (BitVec.ofNat 32 (i 2).val) 0#32)) 0#32) = 1#1)
    (hc1 : ¬ k0_cond2 i = 1#1) (x0 : Vec Ideal S1536x512 .bf16) (x1 : Vec Ideal S1536x2048 .bf16) (x2 : Vec Ideal S16x2048 .i32) (o a) :
    AllV c arg3 arg4 arg5 arg6 arg7 arg8 arg9 x0 x1 x2 o a ⊢ wp frame (wpE (defs₀ (F := Ideal)) Variants.none (c : Thread nD τ) none) Set.univ
      (cc0_matmul_rot i arg3 harg3 arg4 harg4 arg5 harg5 arg6 harg6 arg7 harg7 arg8 harg8 arg9 harg9)
      (fun _ => AllV c arg3 arg4 arg5 arg6 arg7 arg8 arg9 x0 x1 x2 (o) (k0_pay2 a x0 x1)) := by
  unfold AllV owns
  simp only [cc0_matmul_rot_eq_skeleton]; unfold cc0_matmul_rot_skel
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩⟩
  sl_exec (disch := first | sl_exact hc0 | sl_exact hc1)
  sl_step
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists _; isplitr; swap; · iexact H6
                  ipureintro; exact h6
  isplitl [H7]; · iexists _; isplitr; swap; · iexact H7
                  ipureintro; rw [View.read_writes_full, View.readAt_full, View.readAt_full, View.readAt_full, h7, h3, h4]
  isplitl [H8]; · iexists _, _; isplitr; swap; · iexact H8
                  ipureintro; rfl
  iexists _, _; isplitr; swap; · iexact H9
  ipureintro; rfl

set_option maxHeartbeats 4000000 in
/-- The body at a last reduction step: the accumulator takes the product of the blocks, the output block its rotation. -/
theorem bodyLast (hc0 : ¬ (Scalar.cmpi .ne (Scalar.extui (Scalar.cmpi .eq (BitVec.ofNat 32 (i 2).val) 0#32)) 0#32) = 1#1)
    (hc1 : k0_cond2 i = 1#1) (x0 : Vec Ideal S1536x512 .bf16) (x1 : Vec Ideal S1536x2048 .bf16) (x2 : Vec Ideal S16x2048 .i32) (o a) :
    AllV c arg3 arg4 arg5 arg6 arg7 arg8 arg9 x0 x1 x2 o a ⊢ wp frame (wpE (defs₀ (F := Ideal)) Variants.none (c : Thread nD τ) none) Set.univ
      (cc0_matmul_rot i arg3 harg3 arg4 harg4 arg5 harg5 arg6 harg6 arg7 harg7 arg8 harg8 arg9 harg9)
      (fun _ => AllV c arg3 arg4 arg5 arg6 arg7 arg8 arg9 x0 x1 x2 (rot x2 (k0_pay2 a x0 x1)) (k0_pay2 a x0 x1)) := by
  unfold AllV owns
  simp only [cc0_matmul_rot_eq_skeleton]; unfold cc0_matmul_rot_skel
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩⟩
  sl_exec (disch := first | sl_exact hc0 | sl_exact hc1)
  sl_step
  have hacc : ∀ f, arg7.view.read (Elt Ideal) (arg7.view.writes (Elt Ideal) f (bodyLast.sl.H7_1 arg3 arg4 arg7 f3 f4 f7)) = k0_pay2 a x0 x1 := fun f => by
    unfold bodyLast.sl.H7_1
    rw [View.read_writes_full, View.readAt_full, View.readAt_full, View.readAt_full, h7, h3, h4]
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists _; isplitr; swap; · iexact H6
                  ipureintro;
                  rw [hacc, h5] at hL1
                  funext y
                  refine (done_iff _ _ _ _).1 hL1 y ?_
                  have hy0 : (y 0).val < 2048 := (y 0).isLt
                  have hy1 : (y 1).val < 512 := (y 1).isLt
                  show 16 * ((y 1).val / 256) + (y 0).val / 128 < 32
                  omega
  isplitl [H7]; · iexists _; isplitr; swap; · iexact H7
                  ipureintro; exact hacc _
  isplitl [H8]; · iexists _, _; isplitr; swap; · iexact H8
                  ipureintro; rfl
  iexists _, _; isplitr; swap; · iexact H9
  ipureintro; rfl

end Body

/-! ## The points of the grid -/

/-- The first reduction step of a block is at the points divisible by 3. -/
theorem hcond0 : ∀ t : Fin cfg0.N, (Scalar.cmpi .ne (Scalar.extui (Scalar.cmpi .eq (BitVec.ofNat 32 (grid0.coords t 2).val) 0#32)) 0#32) = 1#1 ↔ t.val % 3 = 0 :=
  (by decide +kernel : ∀ t : Fin grid0.N, _)

/-- The last reduction step of a block is at the points that leave 2 when divided by 3. -/
theorem hcond1 : ∀ t : Fin cfg0.N, k0_cond2 (grid0.coords t) = 1#1 ↔ t.val % 3 = 2 :=
  (by decide +kernel : ∀ t : Fin grid0.N, _)

/-- Elsewhere the output window is idle and not written back. -/
theorem idle3 : ∀ t : Fin cfg0.N, t.val % 3 ≠ 2 → cfg0.idle 3 (grid0.coords t) = true ∧ (cfg0.win 3).flush t = false := by decide +kernel

/-- At the last reduction step it is live. -/
theorem live3 : ∀ t : Fin cfg0.N, t.val % 3 = 2 → cfg0.idle 3 (grid0.coords t) = false := by decide +kernel

/-- The windows' block indices at every point. -/
theorem idx : ∀ t : Fin cfg0.N, win0_0.index t = ![t.val % 3, t.val / 3] ∧ win0_1.index t = ![t.val % 3, 0]
    ∧ win0_2.index t = ![t.val / 3, 0] ∧ win0_3.index t = ![0, t.val / 3] :=
  (by decide +kernel : ∀ t : Fin grid0.N, _)

variable (m : (ℓ : Loc nD τ sig) → Buf (Elt Ideal) ℓ) (ρ : Dev nD → PrngReg)

/-- The accumulator after the body at position `n`. -/
def accAt (c : Dev nD) : (n : ℕ) → n < cfg0.N → Vec Ideal S512x2048 .f32
  | 0, hn => k0_pay2 k0_pay1 (iblk m c 0 ⟨0, hn⟩) (iblk m c 1 ⟨0, hn⟩)
  | n + 1, hn =>
    if (n + 1) % 3 = 0 then k0_pay2 k0_pay1 (iblk m c 0 ⟨n + 1, hn⟩) (iblk m c 1 ⟨n + 1, hn⟩)
    else k0_pay2 (accAt c n (Nat.lt_of_succ_lt hn)) (iblk m c 0 ⟨n + 1, hn⟩) (iblk m c 1 ⟨n + 1, hn⟩)

/-- At a first reduction step it starts from zero. -/
theorem accAt_first (c : Dev nD) (t : Fin cfg0.N) (h : t.val % 3 = 0) :
    accAt m c t.val t.isLt = k0_pay2 k0_pay1 (iblk m c 0 t) (iblk m c 1 t) := by
  obtain ⟨n, hn⟩ := t
  cases n with
  | zero => rfl
  | succ n => exact if_pos h

/-- At the others it continues. -/
theorem accAt_next (c : Dev nD) (t : Fin cfg0.N) (h : ¬ t.val % 3 = 0) :
    accAt m c t.val t.isLt = k0_pay2 (accAt m c (t.val - 1) (Nat.lt_of_le_of_lt (Nat.sub_le _ _) t.isLt)) (iblk m c 0 t) (iblk m c 1 t) := by
  obtain ⟨n, hn⟩ := t
  cases n with
  | zero => exact absurd (Nat.zero_mod 3) h
  | succ n => exact if_neg h

/-- What is carried between points: the accumulator at its contents, the two scratches and the generator at whatever they hold. -/
def carried (c : Dev nD) (a : Vec Ideal S512x2048 .f32) : sProp 𝕄 :=
  iprop(iprop(owns (c : Thread nD τ) (Memref.whole cc0_scratch0) fullShare a ∗ (∃ d, owns (c : Thread nD τ) (Memref.whole cc0_scratch1) fullShare d)
    ∗ (∃ d, owns (c : Thread nD τ) (Memref.whole cc0_scratch2) fullShare d)) ∗ (∃ r, prngReg c r))

/-- The invariant before position `n`. -/
def PhiS (c : Dev nD) : (n : ℕ) → n ≤ cfg0.N → sProp 𝕄
  | 0, _ => Pipeline.ΦA spec0 c
  | n + 1, hn => carried c (accAt m c n hn)

theorem PhiS_pos (c : Dev nD) (n : ℕ) (h : n ≤ cfg0.N) (hz : n ≠ 0) :
    PhiS m c n h = carried c (accAt m c (n - 1) (by omega)) := by
  cases n with
  | zero => exact absurd rfl hz
  | succ n => rfl

/-- The accumulator, the two scratches and the generator, all at whatever they hold. -/
abbrev anything (c : Dev nD) : sProp 𝕄 :=
  iprop(iprop((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d)) ∗ (∃ r, prngReg c r))

/-- Whatever is carried, forgotten. -/
theorem carried_forget (c : Dev nD) (a) : carried c a ⊢ anything c := by
  unfold carried
  iintro ⟨⟨HS0, HS1, HS2⟩, Hg⟩
  isplitr [Hg]
  · isplitl [HS0]; · iexists _; iexact HS0
    isplitl [HS1]; · iexact HS1
    iexact HS2
  · iexact Hg

/-- The invariant at any position, its accumulator forgotten. -/
theorem Phi_forget (c : Dev nD) (n : ℕ) (h : n ≤ cfg0.N) : PhiS m c n h ⊢ anything c := by
  cases n with
  | zero => show Pipeline.ΦA spec0 c ⊢ anything c
            rw [PhiA_eq]
            try exact Idealize.SL.BI.Entails.refl _
  | succ n => exact carried_forget c _

/-- The proof data: each input's block where it is staged, the output block the rotation of the accumulator. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rot (iblk m c 2 t) (accAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rot (iblk m c 2 t) (accAt m c t.val t.isLt) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1600000 in
/-- The body at every grid point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0_of m (dats m 0 c) (A_eq m c 0) (after0 m c), before0_1_of m (dats m 0 c) (A_eq m c 1) (after1 m c),
    before0_2_of m (dats m 0 c) (A_eq m c 2) (after2 m c)]
  rw [show (dats m 0 c).owesAt () t.succ = (dats m 0 c).owesAt () t.castSucc from rfl,
    show (dats m 0 c).Φ t.succ = carried c (accAt m c t.val t.isLt) from rfl, Phi_castSucc m c t,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    after0, after1, after2]
  by_cases h0 : t.val % 3 = 0
  · have h1 : t.val % 3 ≠ 2 := by omega
    rw [accAt_first m c t h0, Dat.leavesExact_idle (dats m 0 c) 3 t (idle3 t h1).1 (idle3 t h1).2]
    iintro ⟨HΦ, Ho, ⟨%d0, H0⟩, ⟨%d1, H1⟩, ⟨%d2, H2⟩, ⟨%d3, H3⟩⟩
    ihave HΦ := (Phi_forget m c t.val (Nat.le_of_lt t.isLt)) $$ HΦ
    icases HΦ with ⟨⟨⟨%a, HS0⟩, HS1, HS2⟩, Hg⟩
    iapply (wp_wand_r Idealize.ShloMosaic.frame (wpE (defs₀ (F := Ideal)) Variants.none (c : Thread nD τ) none) Set.univ)
    isplitl [HS0 HS1 HS2 H0 H1 H2 H3]
    · iapply (bodyFirst c (grid0.coords t) _ _ _ _ _ _ _ _ _ _ _ _ _ _ ((hcond0 t).2 h0) (fun h => h1 ((hcond1 t).1 h)) (iblk m c 0 t) (iblk m c 1 t) (iblk m c 2 t) _ a)
      isplitl [H0]; · iexact H0
      isplitl [H1]; · iexact H1
      isplitl [H2]; · iexact H2
      isplitl [H3]; · iexact H3
      isplitl [HS0]; · iexact HS0
      isplitl [HS1]; · iexact HS1
      iexact HS2
    · iintro %_ ⟨H0, H1, H2, H3, HS0, HS1, HS2⟩
      unfold carried
      isplitl [HS0 HS1 HS2 Hg]
      · isplitr [Hg]
        · isplitl [HS0]; · iexact HS0
          isplitl [HS1]; · iexact HS1
          iexact HS2
        · iexact Hg
      isplitl [Ho]; · iexact Ho
      isplitl [H0]; · iexact H0
      isplitl [H1]; · iexact H1
      isplitl [H2]; · iexact H2
      iexists d3; iexact H3
  · have hz : t.val ≠ 0 := fun h => h0 (by rw [h])
    rw [PhiS_pos m c _ _ hz, accAt_next m c t h0]
    by_cases h1 : t.val % 3 = 2
    · rw [show (dats m 0 c).leavesExact 3 t = owns (c : Thread nD τ) (st0_3 t) fullShare ((dats m 0 c).after 3 t) from by
        unfold Dat.leavesExact; rw [live3 t h1], after3, accAt_next m c t h0]
      unfold carried
      iintro ⟨⟨⟨HS0, HS1, HS2⟩, Hg⟩, Ho, ⟨%d0, H0⟩, ⟨%d1, H1⟩, ⟨%d2, H2⟩, ⟨%d3, H3⟩⟩
      iapply (wp_wand_r Idealize.ShloMosaic.frame (wpE (defs₀ (F := Ideal)) Variants.none (c : Thread nD τ) none) Set.univ)
      isplitl [HS0 HS1 HS2 H0 H1 H2 H3]
      · iapply (bodyLast c (grid0.coords t) _ _ _ _ _ _ _ _ _ _ _ _ _ _ (fun h => h0 ((hcond0 t).1 h)) ((hcond1 t).2 h1) (iblk m c 0 t) (iblk m c 1 t) (iblk m c 2 t) _ _)
        isplitl [H0]; · iexact H0
        isplitl [H1]; · iexact H1
        isplitl [H2]; · iexact H2
        isplitl [H3]; · iexact H3
        isplitl [HS0]; · iexact HS0
        isplitl [HS1]; · iexact HS1
        iexact HS2
      · iintro %_ ⟨H0, H1, H2, H3, HS0, HS1, HS2⟩
        isplitl [HS0 HS1 HS2 Hg]
        · isplitr [Hg]
          · isplitl [HS0]; · iexact HS0
            isplitl [HS1]; · iexact HS1
            iexact HS2
          · iexact Hg
        isplitl [Ho]; · iexact Ho
        isplitl [H0]; · iexact H0
        isplitl [H1]; · iexact H1
        isplitl [H2]; · iexact H2
        iexact H3
    · rw [Dat.leavesExact_idle (dats m 0 c) 3 t (idle3 t h1).1 (idle3 t h1).2]
      unfold carried
      iintro ⟨⟨⟨HS0, HS1, HS2⟩, Hg⟩, Ho, ⟨%d0, H0⟩, ⟨%d1, H1⟩, ⟨%d2, H2⟩, ⟨%d3, H3⟩⟩
      iapply (wp_wand_r Idealize.ShloMosaic.frame (wpE (defs₀ (F := Ideal)) Variants.none (c : Thread nD τ) none) Set.univ)
      isplitl [HS0 HS1 HS2 H0 H1 H2 H3]
      · iapply (bodyMid c (grid0.coords t) _ _ _ _ _ _ _ _ _ _ _ _ _ _ (fun h => h0 ((hcond0 t).1 h)) (fun h => h1 ((hcond1 t).1 h)) (iblk m c 0 t) (iblk m c 1 t) (iblk m c 2 t) _ _)
        isplitl [H0]; · iexact H0
        isplitl [H1]; · iexact H1
        isplitl [H2]; · iexact H2
        isplitl [H3]; · iexact H3
        isplitl [HS0]; · iexact HS0
        isplitl [HS1]; · iexact HS1
        iexact HS2
      · iintro %_ ⟨H0, H1, H2, H3, HS0, HS1, HS2⟩
        isplitl [HS0 HS1 HS2 Hg]
        · isplitr [Hg]
          · isplitl [HS0]; · iexact HS0
            isplitl [HS1]; · iexact HS1
            iexact HS2
          · iexact Hg
        isplitl [Ho]; · iexact Ho
        isplitl [H0]; · iexact H0
        isplitl [H1]; · iexact H1
        isplitl [H2]; · iexact H2
        iexists d3; iexact H3

/-- The pipeline's obligation of the body. -/
theorem body_obligation (c : Dev nD) : BodyObligation (dats m 0 c) (defs₀ (F := Ideal)) Variants.none () Set.univ := fun t => by
  rw [bigSep_W0, bigSep_W0, show defs₀ (F := Ideal) .tc cfg0.body (cfg0.bodyArgs t (cfg0.slots t)) = bodyAt0 t by unfold defs₀; rw [Defs.onTc_tc]]
  exact triple_restated (sound_body m c t) rfl .rfl fun _ => .rfl

/-- The launch hands over the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- The launch takes back what is left after the last point. -/
theorem hout (c : Dev nD) : (dats m 0 c).Φ (Fin.last cfg0.N) ⊢ Pipeline.ΦA spec0 c := by
  rw [PhiA_eq]
  exact Phi_forget m c cfg0.N (Nat.le_refl _)

set_option backward.isDefEq.respectTransparency.types false in
/-- The launch: every fair execution terminates, every array at what the proof data compute, every counter back at zero. -/
theorem run_main_quiescent : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := Ideal))) (s₀ m ρ) (Pipeline.FramePost cfgs (dats m) 0 (V m)) :=
  (θ_run defs _ _).mono (fun _ h => h.1) (run_main_quiescent m ρ)

/-! ## The result array -/

/-- The reset stores zero. -/
theorem hzero (j) : k0_pay1 (F := Ideal) j = 0 := by pointwise [k0_pay1]

/-- One point adds the product of its two blocks, contracted over the rows of both. -/
theorem hpay (acc : Vec Ideal S512x2048 .f32) (a : Vec Ideal S1536x512 .bf16) (b : Vec Ideal S1536x2048 .bf16) (j) :
    k0_pay2 acc a b j = acc j + ∑ k : Fin 1536, a (ix2 k (j 0)) * b (ix2 k (j 1)) := by
  pointwise [k0_pay2]

/-- Where an entry of the output block lies in the result array. -/
theorem emb3 (t : Fin cfg0.N) (y : S2048x512.Idx) : (win0_3.blk t).view.emb y
    = (ix2 (n0 := 2048) (n1 := 5632) ⟨(y 0).val, (y 0).isLt⟩ ⟨512 * (t.val / 3) + (y 1).val, by
        have := (y 1).isLt; have h : t.val < 33 := lt_of_lt_of_eq t.isLt N_0; have : S2048x512.size 1 = 512 := rfl; omega⟩ : S2048x5632.Idx) := by
  blk_ext [idx t]

/-- The mask block at a point. -/
theorem mask_at (c : Dev nD) (t : Fin cfg0.N) (a : Fin 16) (b : Fin 2048) (a' : Fin 176) (ha : a'.val = 16 * (t.val / 3) + a.val) :
    iblk m c 2 t (ix2 a b : S16x2048.Idx) = m ((c : Thread nD τ).loc main_arg2) (ix2 a' b : S176x2048.Idx) := by
  blk_point [iblk, V, idx t]

/-- The accumulator at a last reduction step: the whole product, at the block's columns. -/
theorem acc_at (c : Dev nD) (t : Fin cfg0.N) (h : (cfg0.win 3).flush t = true) (a : Fin 512) (b : Fin 2048) (a' : Fin 5632)
    (ha : a'.val = 512 * (t.val / 3) + a.val) :
    accAt m c t.val t.isLt (ix2 a b) = Cert.WDownRefIdeal.Spec.prod (m ((c : Thread nD τ).loc main_arg0)) (m ((c : Thread nD τ).loc main_arg1)) (ix2 a' b) := by
  have h3 : t.val % 3 = 2 := (flush0_3 t).mp h
  rw [Pipeline.eq_sum_fin_of_reset_step_apply_of_flush (fun n h => accAt m c n h) 3 (fun _ => 0) _
    (fun t h j => by rw [accAt_first m c t h, hpay, hzero])
    (fun t h j => by rw [accAt_next m c t h, hpay]) t h3 _, zero_add]
  unfold Cert.WDownRefIdeal.Spec.prod
  refine Fin.sum_mul_add_congr fun s k hl => ?_
  blk_point [iblk, V, idx t, idx ⟨_, Pipeline.run_point_lt_of_flush t ((flush0_3 t).mp h) s⟩]

/-- The result array after the run is the reference's. -/
theorem final (c : Dev nD) (h : Cert.Pre_finite_w_down.fn (F := Ideal) (m ((c : Thread nD τ).loc main_arg0)) (m ((c : Thread nD τ).loc main_arg1)) (m ((c : Thread nD τ).loc main_arg2)) = fun _ => 1#1) :
    (dats m 0 c).arrAt 3 (cfgs 0).N
      = Cert.WDownRefIdeal.Spec.REF (m ((c : Thread nD τ).loc main_arg0)) (m ((c : Thread nD τ).loc main_arg1)) (m ((c : Thread nD τ).loc main_arg2)) := by
  rw [Cert.WDownRefIdeal.Spec.ref_eq _ _ _ h]
  refine (dats m 0 c).arrAt_eq_of_covers 3 _ (by decide +kernel) fun t hf y => ?_
  blk_simp
  rw [after3]
  refine Eq.trans ?_ (congrArg _ (emb3 t y).symm)
  unfold rot rotOut
  dsimp only
  have hy1 : (y 1).val < 512 := (y 1).isLt
  refine congr (congr (congrArg rotAt ?_) (funext fun i => ?_)) ?_
  · exact mask_at m c t _ _ _ (show (512 * (t.val / 3) + (y 1).val) / 32 = 16 * (t.val / 3) + (y 1).val / 32 by omega)
  · exact acc_at m c t hf _ _ _ (show 32 * ((512 * (t.val / 3) + (y 1).val) / 32) + i % 32
      = 512 * (t.val / 3) + (32 * ((y 1).val / 32) + i % 32) by omega)
  · show (y 1).val % 32 = (512 * (t.val / 3) + (y 1).val) % 32
    omega

end Cert.WDownIdeal.RotValue
end
-- ==== Proof.DXFrame.lean ====
module

public import proofs.«01_k».proof.Proof.Gen.DX.Frame
public import proofs.«01_k».proof.Proof.Gen.DX.Loops
public import Idealize.ShloMosaic.Lib.Pipeline.FrameBody
public import Idealize.ShloMosaic.Lib.Tactic

@[expose] public section

set_option maxRecDepth 16384

noncomputable section

namespace Cert.DX.Rot

open Cert.DX.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

section Body

variable (c : Dev nD) (i : grid0.Coords) (arg3 : Memref sig .tc .vmem S1024x2048 .bf16) (harg3 : arg3.IsWhole) (arg4 : Memref sig .tc .vmem S1024x768 .bf16) (harg4 : arg4.IsWhole) (arg5 : Memref sig .tc .vmem S64x768 .i32) (harg5 : arg5.IsWhole) (arg6 : Memref sig .tc .vmem S768x2048 .bf16) (harg6 : arg6.IsWhole) (arg7 : Memref sig .tc .vmem S2048x768 .f32) (harg7 : arg7.IsWhole) (arg8 : Memref sig .tc .vmem S288x128 .f32) (harg8 : arg8.IsWhole) (arg9 : Memref sig .tc .vmem S160x128 .i32) (harg9 : arg9.IsWhole)

/-- What the write-out loop touches: the mask block, the output block, the accumulator and the two
    scratches; all but the mask block at whatever they hold. -/
abbrev Held (f5 : Buf (Elt F) (arg5.view.loc (c : Thread nD τ))) : sProp 𝕄 :=
  iprop((arg5.view.loc (c : Thread nD τ) ↦[arg5.view.set]{fullShare} f5) ∗ (∃ f, arg6.view.loc (c : Thread nD τ) ↦[arg6.view.set]{fullShare} f)
    ∗ (∃ f, arg7.view.loc (c : Thread nD τ) ↦[arg7.view.set]{fullShare} f) ∗ (∃ f, arg8.view.loc (c : Thread nD τ) ↦[arg8.view.set]{fullShare} f)
    ∗ (∃ f, arg9.view.loc (c : Thread nD τ) ↦[arg9.view.set]{fullShare} f))

set_option maxHeartbeats 4000000 in
/-- One trip of the write-out loop runs and gives back what it was handed. -/
theorem trip (k0_h2 : k0_cond2 i = 1#1) (f5 : Buf (Elt F) (arg5.view.loc (c : Thread nD τ))) (k : Fin k0_t1_loop.trips) :
    Held c arg5 arg6 arg7 arg8 arg9 f5 ⊢ wp frame (wpE (defs₀ (F := F)) Variants.none (c : Thread nD τ) none) Set.univ
      (k0_t1_body (F := F) i arg3 harg3 arg4 harg4 arg5 harg5 arg6 harg6 arg7 harg7 arg8 harg8 arg9 harg9 k0_h2 k ()) (fun _ => Held c arg5 arg6 arg7 arg8 arg9 f5) := by
  iintro ⟨H5, ⟨%f6, H6⟩, ⟨%f7, H7⟩, ⟨%f8, H8⟩, ⟨%f9, H9⟩⟩
  sl_unfold [k0_t1_body]
  sl_exec
  sl_step
  isplitl [H5]; · iexact H5
  isplitl [H6]; · iexists _; iexact H6
  isplitl [H7]; · iexists _; iexact H7
  isplitl [H8]; · iexists _; iexact H8
  iexists _; iexact H9

set_option warn.classDefReducibility false in
/-- The write-out loop's invariant: what it touches, at whatever it holds. -/
@[sl_loop] def loopInv (k0_h2 : k0_cond2 i = 1#1) (f5 : Buf (Elt F) (arg5.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 k0_h2 where
  inv _ _ := Held c arg5 arg6 arg7 arg8 arg9 f5
  step k _ := trip c i arg3 harg3 arg4 harg4 arg5 harg5 arg6 harg6 arg7 harg7 arg8 harg8 arg9 harg9 k0_h2 f5 k

/-- What the body is handed and hands back: the inputs' blocks, the other buffers at whatever they hold. -/
abbrev All (x0 : Vec F S1024x2048 .bf16) (x1 : Vec F S1024x768 .bf16) (x2 : Vec F S64x768 .i32) : sProp 𝕄 :=
  iprop(owns (c : Thread nD τ) arg3 fullShare x0 ∗ owns (c : Thread nD τ) arg4 fullShare x1 ∗ owns (c : Thread nD τ) arg5 fullShare x2
    ∗ (∃ d, owns (c : Thread nD τ) arg6 fullShare d) ∗ (∃ d, owns (c : Thread nD τ) arg7 fullShare d)
    ∗ (∃ d, owns (c : Thread nD τ) arg8 fullShare d) ∗ (∃ d, owns (c : Thread nD τ) arg9 fullShare d))

set_option maxHeartbeats 4000000 in
/-- The body runs at every grid point, keeping its input blocks. -/
theorem body (x0 : Vec F S1024x2048 .bf16) (x1 : Vec F S1024x768 .bf16) (x2 : Vec F S64x768 .i32) :
    All c arg3 arg4 arg5 arg6 arg7 arg8 arg9 x0 x1 x2 ⊢ wp frame (wpE (defs₀ (F := F)) Variants.none (c : Thread nD τ) none) Set.univ
      (cc0_matmul_rot i arg3 harg3 arg4 harg4 arg5 harg5 arg6 harg6 arg7 harg7 arg8 harg8 arg9 harg9) (fun _ => All c arg3 arg4 arg5 arg6 arg7 arg8 arg9 x0 x1 x2) := by
  unfold All owns
  by_cases hc0 : (Scalar.cmpi .ne (Scalar.extui (Scalar.cmpi .eq (BitVec.ofNat 32 (i 2).val) 0#32)) 0#32) = 1#1 <;>
  by_cases hc1 : k0_cond2 i = 1#1 <;>
  · simp only [cc0_matmul_rot_eq_skeleton]; unfold cc0_matmul_rot_skel
    iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩⟩
    sl_exec (disch := first | sl_exact hc0 | sl_exact hc1)
    sl_step
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    iexists _, _; isplitr; swap; · iexact H9
    ipureintro; rfl

end Body

variable (m : (ℓ : Loc nD τ sig) → Buf (Elt F) ℓ) (ρ : Dev nD → PrngReg)

/-- The proof data of the frame: each input's block where it is staged; nothing is said of the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

theorem A_eq (c : Dev nD) (w : Fin cfg0.W) : (dats m 0 c).A w = V m c (Pipeline.arrRef spec0 w) := rfl

/-- The output window is the one whose contents the frame says nothing about. -/
abbrev fgt : Fin cfg0.W → Bool := fun w => decide (w = 3)

/-- What the body is called with at point `t`: the two scratch-side resources, then each window's buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The launch's invariant, the scratches as memrefs owned at whatever they hold. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The body at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl),
    before0_2_of m (dats m 0 c) (A_eq m c 2) (fun _ => rfl)]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).after 0 t = iblk m c 0 t from rfl, show (dats m 0 c).after 1 t = iblk m c 1 t from rfl,
    show (dats m 0 c).after 2 t = iblk m c 2 t from rfl]
  iintro ⟨⟨⟨HS0, HS1, HS2⟩, Hg⟩, Ho, ⟨%d0, H0⟩, ⟨%d1, H1⟩, ⟨%d2, H2⟩, H3⟩
  iapply (wp_wand_r Idealize.ShloMosaic.frame (wpE (defs₀ (F := F)) Variants.none (c : Thread nD τ) none) Set.univ)
  isplitl [HS0 HS1 HS2 H0 H1 H2 H3]
  · iapply (body c (grid0.coords t) _ _ _ _ _ _ _ _ _ _ _ _ _ _ (iblk m c 0 t) (iblk m c 1 t) (iblk m c 2 t))
    isplitl [H0]; · iexact H0
    isplitl [H1]; · iexact H1
    isplitl [H2]; · iexact H2
    isplitl [H3]; · iexact H3
    isplitl [HS0]; · iexact HS0
    isplitl [HS1]; · iexact HS1
    iexact HS2
  · iintro %_ ⟨H0, H1, H2, H3, HS0, HS1, HS2⟩
    isplitl [HS0 HS1 HS2 Hg]
    · isplitr [Hg]
      · isplitl [HS0]; · iexact HS0
        isplitl [HS1]; · iexact HS1
        iexact HS2
      · iexact Hg
    isplitl [Ho]; · iexact Ho
    isplitl [H0]; · iexact H0
    isplitl [H1]; · iexact H1
    isplitl [H2]; · iexact H2
    iexact H3

/-- The pipeline's obligation of the body. -/
theorem body_obligation (c : Dev nD) : BodyObligation (dats (F := F) m 0 c) (defs₀ (F := F)) Variants.none () Set.univ fgt := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

set_option backward.isDefEq.respectTransparency.types false in
/-- The launch: every fair execution terminates, the inputs' arrays as they were, every counter back at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A staged input's array ends as it began. -/
theorem kept {r : PUnit × MemSt nD τ sig (Elt F)} (h : Pipeline.RDat.FramePost cfg0 (fun c => (dats m 0 c).toRForget fgt) (V m) r) (c : Dev nD)
    (w : Fin cfg0.W) (hw : fgt w = false) (hin : (cfg0.win w).isOut = false) :
    r.2.mem ((cfg0.spec w).arr.view.loc (c.tc : Thread nD τ)) = V m c (Pipeline.arrRef spec0 w) :=
  (((dats m 0 c).toRForget_arrAt_iff hw _ _).mp ((h c).1 w)).trans (((dats m 0 c).arrAt_in w hin _).trans (A_eq m c w))

/-- The frame: the argument arrays end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨kept m h.1 c 0 rfl rfl, kept m h.1 c 1 rfl rfl, kept m h.1 c 2 rfl rfl⟩, h.2⟩) (run_main m ρ)

end Cert.DX.Rot

end
-- ==== Proof.DXIdealFrame.lean ====
module

public import proofs.«01_k».proof.Proof.Gen.DXIdeal.Frame
public import proofs.«01_k».proof.Proof.Gen.DXIdeal.Loops
public import Idealize.ShloMosaic.Lib.Pipeline.FrameBody
public import Idealize.ShloMosaic.Lib.Tactic

@[expose] public section

set_option maxRecDepth 16384

noncomputable section

namespace Cert.DXIdeal.Rot

open Cert.DXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

section Body

variable (c : Dev nD) (i : grid0.Coords) (arg3 : Memref sig .tc .vmem S1024x2048 .bf16) (harg3 : arg3.IsWhole) (arg4 : Memref sig .tc .vmem S1024x768 .bf16) (harg4 : arg4.IsWhole) (arg5 : Memref sig .tc .vmem S64x768 .i32) (harg5 : arg5.IsWhole) (arg6 : Memref sig .tc .vmem S768x2048 .bf16) (harg6 : arg6.IsWhole) (arg7 : Memref sig .tc .vmem S2048x768 .f32) (harg7 : arg7.IsWhole) (arg8 : Memref sig .tc .vmem S288x128 .f32) (harg8 : arg8.IsWhole) (arg9 : Memref sig .tc .vmem S160x2x128 .bf16) (harg9 : arg9.IsWhole)

/-- What the write-out loop touches: the mask block, the output block, the accumulator and the two
    scratches; all but the mask block at whatever they hold. -/
abbrev Held (f5 : Buf (Elt F) (arg5.view.loc (c : Thread nD τ))) : sProp 𝕄 :=
  iprop((arg5.view.loc (c : Thread nD τ) ↦[arg5.view.set]{fullShare} f5) ∗ (∃ f, arg6.view.loc (c : Thread nD τ) ↦[arg6.view.set]{fullShare} f)
    ∗ (∃ f, arg7.view.loc (c : Thread nD τ) ↦[arg7.view.set]{fullShare} f) ∗ (∃ f, arg8.view.loc (c : Thread nD τ) ↦[arg8.view.set]{fullShare} f)
    ∗ (∃ f, arg9.view.loc (c : Thread nD τ) ↦[arg9.view.set]{fullShare} f))

set_option maxHeartbeats 4000000 in
/-- One trip of the write-out loop runs and gives back what it was handed. -/
theorem trip (k0_h2 : k0_cond2 i = 1#1) (f5 : Buf (Elt F) (arg5.view.loc (c : Thread nD τ))) (k : Fin k0_t1_loop.trips) :
    Held c arg5 arg6 arg7 arg8 arg9 f5 ⊢ wp frame (wpE (defs₀ (F := F)) Variants.none (c : Thread nD τ) none) Set.univ
      (k0_t1_body (F := F) i arg3 harg3 arg4 harg4 arg5 harg5 arg6 harg6 arg7 harg7 arg8 harg8 arg9 harg9 k0_h2 k ()) (fun _ => Held c arg5 arg6 arg7 arg8 arg9 f5) := by
  iintro ⟨H5, ⟨%f6, H6⟩, ⟨%f7, H7⟩, ⟨%f8, H8⟩, ⟨%f9, H9⟩⟩
  sl_unfold [k0_t1_body]
  sl_exec
  sl_step
  isplitl [H5]; · iexact H5
  isplitl [H6]; · iexists _; iexact H6
  isplitl [H7]; · iexists _; iexact H7
  isplitl [H8]; · iexists _; iexact H8
  iexists _; iexact H9

set_option warn.classDefReducibility false in
/-- The write-out loop's invariant: what it touches, at whatever it holds. -/
@[sl_loop] def loopInv (k0_h2 : k0_cond2 i = 1#1) (f5 : Buf (Elt F) (arg5.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 k0_h2 where
  inv _ _ := Held c arg5 arg6 arg7 arg8 arg9 f5
  step k _ := trip c i arg3 harg3 arg4 harg4 arg5 harg5 arg6 harg6 arg7 harg7 arg8 harg8 arg9 harg9 k0_h2 f5 k

/-- What the body is handed and hands back: the inputs' blocks, the other buffers at whatever they hold. -/
abbrev All (x0 : Vec F S1024x2048 .bf16) (x1 : Vec F S1024x768 .bf16) (x2 : Vec F S64x768 .i32) : sProp 𝕄 :=
  iprop(owns (c : Thread nD τ) arg3 fullShare x0 ∗ owns (c : Thread nD τ) arg4 fullShare x1 ∗ owns (c : Thread nD τ) arg5 fullShare x2
    ∗ (∃ d, owns (c : Thread nD τ) arg6 fullShare d) ∗ (∃ d, owns (c : Thread nD τ) arg7 fullShare d)
    ∗ (∃ d, owns (c : Thread nD τ) arg8 fullShare d) ∗ (∃ d, owns (c : Thread nD τ) arg9 fullShare d))

set_option maxHeartbeats 4000000 in
/-- The body runs at every grid point, keeping its input blocks. -/
theorem body (x0 : Vec F S1024x2048 .bf16) (x1 : Vec F S1024x768 .bf16) (x2 : Vec F S64x768 .i32) :
    All c arg3 arg4 arg5 arg6 arg7 arg8 arg9 x0 x1 x2 ⊢ wp frame (wpE (defs₀ (F := F)) Variants.none (c : Thread nD τ) none) Set.univ
      (cc0_matmul_rot i arg3 harg3 arg4 harg4 arg5 harg5 arg6 harg6 arg7 harg7 arg8 harg8 arg9 harg9) (fun _ => All c arg3 arg4 arg5 arg6 arg7 arg8 arg9 x0 x1 x2) := by
  unfold All owns
  by_cases hc0 : (Scalar.cmpi .ne (Scalar.extui (Scalar.cmpi .eq (BitVec.ofNat 32 (i 2).val) 0#32)) 0#32) = 1#1 <;>
  by_cases hc1 : k0_cond2 i = 1#1 <;>
  · simp only [cc0_matmul_rot_eq_skeleton]; unfold cc0_matmul_rot_skel
    iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩⟩
    sl_exec (disch := first | sl_exact hc0 | sl_exact hc1)
    sl_step
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    iexists _, _; isplitr; swap; · iexact H9
    ipureintro; rfl

end Body

variable (m : (ℓ : Loc nD τ sig) → Buf (Elt F) ℓ) (ρ : Dev nD → PrngReg)

/-- The proof data of the frame: each input's block where it is staged; nothing is said of the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

theorem A_eq (c : Dev nD) (w : Fin cfg0.W) : (dats m 0 c).A w = V m c (Pipeline.arrRef spec0 w) := rfl

/-- The output window is the one whose contents the frame says nothing about. -/
abbrev fgt : Fin cfg0.W → Bool := fun w => decide (w = 3)

/-- What the body is called with at point `t`: the two scratch-side resources, then each window's buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The launch's invariant, the scratches as memrefs owned at whatever they hold. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The body at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl),
    before0_2_of m (dats m 0 c) (A_eq m c 2) (fun _ => rfl)]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).after 0 t = iblk m c 0 t from rfl, show (dats m 0 c).after 1 t = iblk m c 1 t from rfl,
    show (dats m 0 c).after 2 t = iblk m c 2 t from rfl]
  iintro ⟨⟨⟨HS0, HS1, HS2⟩, Hg⟩, Ho, ⟨%d0, H0⟩, ⟨%d1, H1⟩, ⟨%d2, H2⟩, H3⟩
  iapply (wp_wand_r Idealize.ShloMosaic.frame (wpE (defs₀ (F := F)) Variants.none (c : Thread nD τ) none) Set.univ)
  isplitl [HS0 HS1 HS2 H0 H1 H2 H3]
  · iapply (body c (grid0.coords t) _ _ _ _ _ _ _ _ _ _ _ _ _ _ (iblk m c 0 t) (iblk m c 1 t) (iblk m c 2 t))
    isplitl [H0]; · iexact H0
    isplitl [H1]; · iexact H1
    isplitl [H2]; · iexact H2
    isplitl [H3]; · iexact H3
    isplitl [HS0]; · iexact HS0
    isplitl [HS1]; · iexact HS1
    iexact HS2
  · iintro %_ ⟨H0, H1, H2, H3, HS0, HS1, HS2⟩
    isplitl [HS0 HS1 HS2 Hg]
    · isplitr [Hg]
      · isplitl [HS0]; · iexact HS0
        isplitl [HS1]; · iexact HS1
        iexact HS2
      · iexact Hg
    isplitl [Ho]; · iexact Ho
    isplitl [H0]; · iexact H0
    isplitl [H1]; · iexact H1
    isplitl [H2]; · iexact H2
    iexact H3

/-- The pipeline's obligation of the body. -/
theorem body_obligation (c : Dev nD) : BodyObligation (dats (F := F) m 0 c) (defs₀ (F := F)) Variants.none () Set.univ fgt := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

set_option backward.isDefEq.respectTransparency.types false in
/-- The launch: every fair execution terminates, the inputs' arrays as they were, every counter back at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A staged input's array ends as it began. -/
theorem kept {r : PUnit × MemSt nD τ sig (Elt F)} (h : Pipeline.RDat.FramePost cfg0 (fun c => (dats m 0 c).toRForget fgt) (V m) r) (c : Dev nD)
    (w : Fin cfg0.W) (hw : fgt w = false) (hin : (cfg0.win w).isOut = false) :
    r.2.mem ((cfg0.spec w).arr.view.loc (c.tc : Thread nD τ)) = V m c (Pipeline.arrRef spec0 w) :=
  (((dats m 0 c).toRForget_arrAt_iff hw _ _).mp ((h c).1 w)).trans (((dats m 0 c).arrAt_in w hin _).trans (A_eq m c w))

/-- The frame: the argument arrays end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨kept m h.1 c 0 rfl rfl, kept m h.1 c 1 rfl rfl, kept m h.1 c 2 rfl rfl⟩, h.2⟩) (run_main m ρ)

end Cert.DXIdeal.Rot

end
-- ==== Proof.DXTrip.lean ====
/- What one trip of the write-out loop of the input's gradient stores: the rotation of its part of the block. -/
module

public import proofs.«01_k».proof.Proof.DXIdealFrame
public import proofs.«01_k».proof.Proof.RotStage
public import proofs.«01_k».proof.Proof.RotSpec
public import Idealize.ShloMosaic.Lib.WritesUnit

@[expose] public section

set_option maxRecDepth 16384

noncomputable section

namespace Cert.DXIdeal.Rot

open Cert.DXIdeal.Gen Cert.Rot Cert.RotStage
open Idealize.ShloMosaic Idealize.ShloMosaic.TcCoe

variable (c : Dev nD) (i : grid0.Coords) (arg5 : Memref sig .tc .vmem S64x768 .i32) (arg7 : Memref sig .tc .vmem S2048x768 .f32) (arg8 : Memref sig .tc .vmem S288x128 .f32) (arg9 : Memref sig .tc .vmem S160x2x128 .bf16)
  (k0_h2 : k0_cond2 i = 1#1) (f5 : Buf (Elt Ideal) (arg5.view.loc (c : Thread nD τ))) (k : Fin k0_t1_loop.trips) (f7 : Buf (Elt Ideal) (arg7.view.loc (c : Thread nD τ)))

/-- The masked rows. -/
def ys (x : S8x128.Idx) (i' : ℕ) : EReal :=
  Scalar.select (IntOp.cmpi .slt (IntOp.shli .vector (trip.sl.r (F := Ideal) c i arg5 k0_h2 f5 k x) (BitVec.ofNat 32 (31 - i'))) 0#32)
    (arg8.view.readCov (trip.sl.H8_8 (F := Ideal) c i arg7 k0_h2 k f7) (rowsRect ⟨i' % 32, Nat.mod_lt _ (by decide)⟩) x) (trip.sl.cst_35 (F := Ideal))

/-- The sixteen rows of pairs one trip writes. -/
abbrev packed : Fin 16 → S8x2x128.Idx → Elt Ideal .bf16 :=
  ![trip.sl.k0_w1 (F := Ideal) c i arg5 arg7 arg8 k0_h2 f5 k f7, trip.sl.k0_w2 (F := Ideal) c i arg5 arg7 arg8 k0_h2 f5 k f7,
    trip.sl.k0_w3 (F := Ideal) c i arg5 arg7 arg8 k0_h2 f5 k f7, trip.sl.k0_w4 (F := Ideal) c i arg5 arg7 arg8 k0_h2 f5 k f7,
    trip.sl.k0_w5 (F := Ideal) c i arg5 arg7 arg8 k0_h2 f5 k f7, trip.sl.k0_w6 (F := Ideal) c i arg5 arg7 arg8 k0_h2 f5 k f7,
    trip.sl.k0_w7 (F := Ideal) c i arg5 arg7 arg8 k0_h2 f5 k f7, trip.sl.k0_w8 (F := Ideal) c i arg5 arg7 arg8 k0_h2 f5 k f7,
    trip.sl.k0_w9 (F := Ideal) c i arg5 arg7 arg8 k0_h2 f5 k f7, trip.sl.k0_w10 (F := Ideal) c i arg5 arg7 arg8 k0_h2 f5 k f7,
    trip.sl.k0_w11 (F := Ideal) c i arg5 arg7 arg8 k0_h2 f5 k f7, trip.sl.k0_w12 (F := Ideal) c i arg5 arg7 arg8 k0_h2 f5 k f7,
    trip.sl.k0_w13 (F := Ideal) c i arg5 arg7 arg8 k0_h2 f5 k f7, trip.sl.k0_w14 (F := Ideal) c i arg5 arg7 arg8 k0_h2 f5 k f7,
    trip.sl.k0_w15 (F := Ideal) c i arg5 arg7 arg8 k0_h2 f5 k f7, trip.sl.k0_w16 (F := Ideal) c i arg5 arg7 arg8 k0_h2 f5 k f7]

/-- Each of the thirty-two rows is an entry of the butterfly, scaled. -/
theorem rows_at (x : S8x128.Idx) :
    (trip.sl.r_59 (F := Ideal) c i arg5 arg7 arg8 k0_h2 f5 k f7 x : EReal) = wht (ys c i arg5 arg7 arg8 k0_h2 f5 k f7 x) 0 * (trip.sl.cst_135 (F := Ideal) : EReal)
    ∧ (trip.sl.r_60 (F := Ideal) c i arg5 arg7 arg8 k0_h2 f5 k f7 x : EReal) = wht (ys c i arg5 arg7 arg8 k0_h2 f5 k f7 x) 1 * (trip.sl.cst_135 (F := Ideal) : EReal)
    ∧ (trip.sl.r_61 (F := Ideal) c i arg5 arg7 arg8 k0_h2 f5 k f7 x : EReal) = wht (ys c i arg5 arg7 arg8 k0_h2 f5 k f7 x) 2 * (trip.sl.cst_135 (F := Ideal) : EReal)
    ∧ (trip.sl.r_62 (F := Ideal) c i arg5 arg7 arg8 k0_h2 f5 k f7 x : EReal) = wht (ys c i arg5 arg7 arg8 k0_h2 f5 k f7 x) 3 * (trip.sl.cst_135 (F := Ideal) : EReal)
    ∧ (trip.sl.r_63 (F := Ideal) c i arg5 arg7 arg8 k0_h2 f5 k f7 x : EReal) = wht (ys c i arg5 arg7 arg8 k0_h2 f5 k f7 x) 4 * (trip.sl.cst_135 (F := Ideal) : EReal)
    ∧ (trip.sl.r_64 (F := Ideal) c i arg5 arg7 arg8 k0_h2 f5 k f7 x : EReal) = wht (ys c i arg5 arg7 arg8 k0_h2 f5 k f7 x) 5 * (trip.sl.cst_135 (F := Ideal) : EReal)
    ∧ (trip.sl.r_65 (F := Ideal) c i arg5 arg7 arg8 k0_h2 f5 k f7 x : EReal) = wht (ys c i arg5 arg7 arg8 k0_h2 f5 k f7 x) 6 * (trip.sl.cst_135 (F := Ideal) : EReal)
    ∧ (trip.sl.r_66 (F := Ideal) c i arg5 arg7 arg8 k0_h2 f5 k f7 x : EReal) = wht (ys c i arg5 arg7 arg8 k0_h2 f5 k f7 x) 7 * (trip.sl.cst_135 (F := Ideal) : EReal)
    ∧ (trip.sl.r_67 (F := Ideal) c i arg5 arg7 arg8 k0_h2 f5 k f7 x : EReal) = wht (ys c i arg5 arg7 arg8 k0_h2 f5 k f7 x) 8 * (trip.sl.cst_135 (F := Ideal) : EReal)
    ∧ (trip.sl.r_68 (F := Ideal) c i arg5 arg7 arg8 k0_h2 f5 k f7 x : EReal) = wht (ys c i arg5 arg7 arg8 k0_h2 f5 k f7 x) 9 * (trip.sl.cst_135 (F := Ideal) : EReal)
    ∧ (trip.sl.r_69 (F := Ideal) c i arg5 arg7 arg8 k0_h2 f5 k f7 x : EReal) = wht (ys c i arg5 arg7 arg8 k0_h2 f5 k f7 x) 10 * (trip.sl.cst_135 (F := Ideal) : EReal)
    ∧ (trip.sl.r_70 (F := Ideal) c i arg5 arg7 arg8 k0_h2 f5 k f7 x : EReal) = wht (ys c i arg5 arg7 arg8 k0_h2 f5 k f7 x) 11 * (trip.sl.cst_135 (F := Ideal) : EReal)
    ∧ (trip.sl.r_71 (F := Ideal) c i arg5 arg7 arg8 k0_h2 f5 k f7 x : EReal) = wht (ys c i arg5 arg7 arg8 k0_h2 f5 k f7 x) 12 * (trip.sl.cst_135 (F := Ideal) : EReal)
    ∧ (trip.sl.r_72 (F := Ideal) c i arg5 arg7 arg8 k0_h2 f5 k f7 x : EReal) = wht (ys c i arg5 arg7 arg8 k0_h2 f5 k f7 x) 13 * (trip.sl.cst_135 (F := Ideal) : EReal)
    ∧ (trip.sl.r_73 (F := Ideal) c i arg5 arg7 arg8 k0_h2 f5 k f7 x : EReal) = wht (ys c i arg5 arg7 arg8 k0_h2 f5 k f7 x) 14 * (trip.sl.cst_135 (F := Ideal) : EReal)
    ∧ (trip.sl.r_74 (F := Ideal) c i arg5 arg7 arg8 k0_h2 f5 k f7 x : EReal) = wht (ys c i arg5 arg7 arg8 k0_h2 f5 k f7 x) 15 * (trip.sl.cst_135 (F := Ideal) : EReal)
    ∧ (trip.sl.r_75 (F := Ideal) c i arg5 arg7 arg8 k0_h2 f5 k f7 x : EReal) = wht (ys c i arg5 arg7 arg8 k0_h2 f5 k f7 x) 16 * (trip.sl.cst_135 (F := Ideal) : EReal)
    ∧ (trip.sl.r_76 (F := Ideal) c i arg5 arg7 arg8 k0_h2 f5 k f7 x : EReal) = wht (ys c i arg5 arg7 arg8 k0_h2 f5 k f7 x) 17 * (trip.sl.cst_135 (F := Ideal) : EReal)
    ∧ (trip.sl.r_77 (F := Ideal) c i arg5 arg7 arg8 k0_h2 f5 k f7 x : EReal) = wht (ys c i arg5 arg7 arg8 k0_h2 f5 k f7 x) 18 * (trip.sl.cst_135 (F := Ideal) : EReal)
    ∧ (trip.sl.r_78 (F := Ideal) c i arg5 arg7 arg8 k0_h2 f5 k f7 x : EReal) = wht (ys c i arg5 arg7 arg8 k0_h2 f5 k f7 x) 19 * (trip.sl.cst_135 (F := Ideal) : EReal)
    ∧ (trip.sl.r_79 (F := Ideal) c i arg5 arg7 arg8 k0_h2 f5 k f7 x : EReal) = wht (ys c i arg5 arg7 arg8 k0_h2 f5 k f7 x) 20 * (trip.sl.cst_135 (F := Ideal) : EReal)
    ∧ (trip.sl.r_80 (F := Ideal) c i arg5 arg7 arg8 k0_h2 f5 k f7 x : EReal) = wht (ys c i arg5 arg7 arg8 k0_h2 f5 k f7 x) 21 * (trip.sl.cst_135 (F := Ideal) : EReal)
    ∧ (trip.sl.r_81 (F := Ideal) c i arg5 arg7 arg8 k0_h2 f5 k f7 x : EReal) = wht (ys c i arg5 arg7 arg8 k0_h2 f5 k f7 x) 22 * (trip.sl.cst_135 (F := Ideal) : EReal)
    ∧ (trip.sl.r_82 (F := Ideal) c i arg5 arg7 arg8 k0_h2 f5 k f7 x : EReal) = wht (ys c i arg5 arg7 arg8 k0_h2 f5 k f7 x) 23 * (trip.sl.cst_135 (F := Ideal) : EReal)
    ∧ (trip.sl.r_83 (F := Ideal) c i arg5 arg7 arg8 k0_h2 f5 k f7 x : EReal) = wht (ys c i arg5 arg7 arg8 k0_h2 f5 k f7 x) 24 * (trip.sl.cst_135 (F := Ideal) : EReal)
    ∧ (trip.sl.r_84 (F := Ideal) c i arg5 arg7 arg8 k0_h2 f5 k f7 x : EReal) = wht (ys c i arg5 arg7 arg8 k0_h2 f5 k f7 x) 25 * (trip.sl.cst_135 (F := Ideal) : EReal)
    ∧ (trip.sl.r_85 (F := Ideal) c i arg5 arg7 arg8 k0_h2 f5 k f7 x : EReal) = wht (ys c i arg5 arg7 arg8 k0_h2 f5 k f7 x) 26 * (trip.sl.cst_135 (F := Ideal) : EReal)
    ∧ (trip.sl.r_86 (F := Ideal) c i arg5 arg7 arg8 k0_h2 f5 k f7 x : EReal) = wht (ys c i arg5 arg7 arg8 k0_h2 f5 k f7 x) 27 * (trip.sl.cst_135 (F := Ideal) : EReal)
    ∧ (trip.sl.v548_lo (F := Ideal) c i arg5 arg7 arg8 k0_h2 f5 k f7 x : EReal) = wht (ys c i arg5 arg7 arg8 k0_h2 f5 k f7 x) 28 * (trip.sl.cst_135 (F := Ideal) : EReal)
    ∧ (trip.sl.v548_hi (F := Ideal) c i arg5 arg7 arg8 k0_h2 f5 k f7 x : EReal) = wht (ys c i arg5 arg7 arg8 k0_h2 f5 k f7 x) 29 * (trip.sl.cst_135 (F := Ideal) : EReal)
    ∧ (trip.sl.v549_lo (F := Ideal) c i arg5 arg7 arg8 k0_h2 f5 k f7 x : EReal) = wht (ys c i arg5 arg7 arg8 k0_h2 f5 k f7 x) 30 * (trip.sl.cst_135 (F := Ideal) : EReal)
    ∧ (trip.sl.v549_hi (F := Ideal) c i arg5 arg7 arg8 k0_h2 f5 k f7 x : EReal) = wht (ys c i arg5 arg7 arg8 k0_h2 f5 k f7 x) 31 * (trip.sl.cst_135 (F := Ideal) : EReal) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each of the thirty-two rows, where the sixteen rows of pairs hold it. -/
theorem words_at (g : Fin 8) (n : Fin 128) :
    (trip.sl.k0_w1 (F := Ideal) c i arg5 arg7 arg8 k0_h2 f5 k f7 (ix3 g 0 n) : EReal) = wht (ys c i arg5 arg7 arg8 k0_h2 f5 k f7 (ix2 g n)) 0 * (trip.sl.cst_135 (F := Ideal) : EReal)
    ∧ (trip.sl.k0_w1 (F := Ideal) c i arg5 arg7 arg8 k0_h2 f5 k f7 (ix3 g 1 n) : EReal) = wht (ys c i arg5 arg7 arg8 k0_h2 f5 k f7 (ix2 g n)) 1 * (trip.sl.cst_135 (F := Ideal) : EReal)
    ∧ (trip.sl.k0_w2 (F := Ideal) c i arg5 arg7 arg8 k0_h2 f5 k f7 (ix3 g 0 n) : EReal) = wht (ys c i arg5 arg7 arg8 k0_h2 f5 k f7 (ix2 g n)) 2 * (trip.sl.cst_135 (F := Ideal) : EReal)
    ∧ (trip.sl.k0_w2 (F := Ideal) c i arg5 arg7 arg8 k0_h2 f5 k f7 (ix3 g 1 n) : EReal) = wht (ys c i arg5 arg7 arg8 k0_h2 f5 k f7 (ix2 g n)) 3 * (trip.sl.cst_135 (F := Ideal) : EReal)
    ∧ (trip.sl.k0_w3 (F := Ideal) c i arg5 arg7 arg8 k0_h2 f5 k f7 (ix3 g 0 n) : EReal) = wht (ys c i arg5 arg7 arg8 k0_h2 f5 k f7 (ix2 g n)) 4 * (trip.sl.cst_135 (F := Ideal) : EReal)
    ∧ (trip.sl.k0_w3 (F := Ideal) c i arg5 arg7 arg8 k0_h2 f5 k f7 (ix3 g 1 n) : EReal) = wht (ys c i arg5 arg7 arg8 k0_h2 f5 k f7 (ix2 g n)) 5 * (trip.sl.cst_135 (F := Ideal) : EReal)
    ∧ (trip.sl.k0_w4 (F := Ideal) c i arg5 arg7 arg8 k0_h2 f5 k f7 (ix3 g 0 n) : EReal) = wht (ys c i arg5 arg7 arg8 k0_h2 f5 k f7 (ix2 g n)) 6 * (trip.sl.cst_135 (F := Ideal) : EReal)
    ∧ (trip.sl.k0_w4 (F := Ideal) c i arg5 arg7 arg8 k0_h2 f5 k f7 (ix3 g 1 n) : EReal) = wht (ys c i arg5 arg7 arg8 k0_h2 f5 k f7 (ix2 g n)) 7 * (trip.sl.cst_135 (F := Ideal) : EReal)
    ∧ (trip.sl.k0_w5 (F := Ideal) c i arg5 arg7 arg8 k0_h2 f5 k f7 (ix3 g 0 n) : EReal) = wht (ys c i arg5 arg7 arg8 k0_h2 f5 k f7 (ix2 g n)) 8 * (trip.sl.cst_135 (F := Ideal) : EReal)
    ∧ (trip.sl.k0_w5 (F := Ideal) c i arg5 arg7 arg8 k0_h2 f5 k f7 (ix3 g 1 n) : EReal) = wht (ys c i arg5 arg7 arg8 k0_h2 f5 k f7 (ix2 g n)) 9 * (trip.sl.cst_135 (F := Ideal) : EReal)
    ∧ (trip.sl.k0_w6 (F := Ideal) c i arg5 arg7 arg8 k0_h2 f5 k f7 (ix3 g 0 n) : EReal) = wht (ys c i arg5 arg7 arg8 k0_h2 f5 k f7 (ix2 g n)) 10 * (trip.sl.cst_135 (F := Ideal) : EReal)
    ∧ (trip.sl.k0_w6 (F := Ideal) c i arg5 arg7 arg8 k0_h2 f5 k f7 (ix3 g 1 n) : EReal) = wht (ys c i arg5 arg7 arg8 k0_h2 f5 k f7 (ix2 g n)) 11 * (trip.sl.cst_135 (F := Ideal) : EReal)
    ∧ (trip.sl.k0_w7 (F := Ideal) c i arg5 arg7 arg8 k0_h2 f5 k f7 (ix3 g 0 n) : EReal) = wht (ys c i arg5 arg7 arg8 k0_h2 f5 k f7 (ix2 g n)) 12 * (trip.sl.cst_135 (F := Ideal) : EReal)
    ∧ (trip.sl.k0_w7 (F := Ideal) c i arg5 arg7 arg8 k0_h2 f5 k f7 (ix3 g 1 n) : EReal) = wht (ys c i arg5 arg7 arg8 k0_h2 f5 k f7 (ix2 g n)) 13 * (trip.sl.cst_135 (F := Ideal) : EReal)
    ∧ (trip.sl.k0_w8 (F := Ideal) c i arg5 arg7 arg8 k0_h2 f5 k f7 (ix3 g 0 n) : EReal) = wht (ys c i arg5 arg7 arg8 k0_h2 f5 k f7 (ix2 g n)) 14 * (trip.sl.cst_135 (F := Ideal) : EReal)
    ∧ (trip.sl.k0_w8 (F := Ideal) c i arg5 arg7 arg8 k0_h2 f5 k f7 (ix3 g 1 n) : EReal) = wht (ys c i arg5 arg7 arg8 k0_h2 f5 k f7 (ix2 g n)) 15 * (trip.sl.cst_135 (F := Ideal) : EReal)
    ∧ (trip.sl.k0_w9 (F := Ideal) c i arg5 arg7 arg8 k0_h2 f5 k f7 (ix3 g 0 n) : EReal) = wht (ys c i arg5 arg7 arg8 k0_h2 f5 k f7 (ix2 g n)) 16 * (trip.sl.cst_135 (F := Ideal) : EReal)
    ∧ (trip.sl.k0_w9 (F := Ideal) c i arg5 arg7 arg8 k0_h2 f5 k f7 (ix3 g 1 n) : EReal) = wht (ys c i arg5 arg7 arg8 k0_h2 f5 k f7 (ix2 g n)) 17 * (trip.sl.cst_135 (F := Ideal) : EReal)
    ∧ (trip.sl.k0_w10 (F := Ideal) c i arg5 arg7 arg8 k0_h2 f5 k f7 (ix3 g 0 n) : EReal) = wht (ys c i arg5 arg7 arg8 k0_h2 f5 k f7 (ix2 g n)) 18 * (trip.sl.cst_135 (F := Ideal) : EReal)
    ∧ (trip.sl.k0_w10 (F := Ideal) c i arg5 arg7 arg8 k0_h2 f5 k f7 (ix3 g 1 n) : EReal) = wht (ys c i arg5 arg7 arg8 k0_h2 f5 k f7 (ix2 g n)) 19 * (trip.sl.cst_135 (F := Ideal) : EReal)
    ∧ (trip.sl.k0_w11 (F := Ideal) c i arg5 arg7 arg8 k0_h2 f5 k f7 (ix3 g 0 n) : EReal) = wht (ys c i arg5 arg7 arg8 k0_h2 f5 k f7 (ix2 g n)) 20 * (trip.sl.cst_135 (F := Ideal) : EReal)
    ∧ (trip.sl.k0_w11 (F := Ideal) c i arg5 arg7 arg8 k0_h2 f5 k f7 (ix3 g 1 n) : EReal) = wht (ys c i arg5 arg7 arg8 k0_h2 f5 k f7 (ix2 g n)) 21 * (trip.sl.cst_135 (F := Ideal) : EReal)
    ∧ (trip.sl.k0_w12 (F := Ideal) c i arg5 arg7 arg8 k0_h2 f5 k f7 (ix3 g 0 n) : EReal) = wht (ys c i arg5 arg7 arg8 k0_h2 f5 k f7 (ix2 g n)) 22 * (trip.sl.cst_135 (F := Ideal) : EReal)
    ∧ (trip.sl.k0_w12 (F := Ideal) c i arg5 arg7 arg8 k0_h2 f5 k f7 (ix3 g 1 n) : EReal) = wht (ys c i arg5 arg7 arg8 k0_h2 f5 k f7 (ix2 g n)) 23 * (trip.sl.cst_135 (F := Ideal) : EReal)
    ∧ (trip.sl.k0_w13 (F := Ideal) c i arg5 arg7 arg8 k0_h2 f5 k f7 (ix3 g 0 n) : EReal) = wht (ys c i arg5 arg7 arg8 k0_h2 f5 k f7 (ix2 g n)) 24 * (trip.sl.cst_135 (F := Ideal) : EReal)
    ∧ (trip.sl.k0_w13 (F := Ideal) c i arg5 arg7 arg8 k0_h2 f5 k f7 (ix3 g 1 n) : EReal) = wht (ys c i arg5 arg7 arg8 k0_h2 f5 k f7 (ix2 g n)) 25 * (trip.sl.cst_135 (F := Ideal) : EReal)
    ∧ (trip.sl.k0_w14 (F := Ideal) c i arg5 arg7 arg8 k0_h2 f5 k f7 (ix3 g 0 n) : EReal) = wht (ys c i arg5 arg7 arg8 k0_h2 f5 k f7 (ix2 g n)) 26 * (trip.sl.cst_135 (F := Ideal) : EReal)
    ∧ (trip.sl.k0_w14 (F := Ideal) c i arg5 arg7 arg8 k0_h2 f5 k f7 (ix3 g 1 n) : EReal) = wht (ys c i arg5 arg7 arg8 k0_h2 f5 k f7 (ix2 g n)) 27 * (trip.sl.cst_135 (F := Ideal) : EReal)
    ∧ (trip.sl.k0_w15 (F := Ideal) c i arg5 arg7 arg8 k0_h2 f5 k f7 (ix3 g 0 n) : EReal) = wht (ys c i arg5 arg7 arg8 k0_h2 f5 k f7 (ix2 g n)) 28 * (trip.sl.cst_135 (F := Ideal) : EReal)
    ∧ (trip.sl.k0_w15 (F := Ideal) c i arg5 arg7 arg8 k0_h2 f5 k f7 (ix3 g 1 n) : EReal) = wht (ys c i arg5 arg7 arg8 k0_h2 f5 k f7 (ix2 g n)) 29 * (trip.sl.cst_135 (F := Ideal) : EReal)
    ∧ (trip.sl.k0_w16 (F := Ideal) c i arg5 arg7 arg8 k0_h2 f5 k f7 (ix3 g 0 n) : EReal) = wht (ys c i arg5 arg7 arg8 k0_h2 f5 k f7 (ix2 g n)) 30 * (trip.sl.cst_135 (F := Ideal) : EReal)
    ∧ (trip.sl.k0_w16 (F := Ideal) c i arg5 arg7 arg8 k0_h2 f5 k f7 (ix3 g 1 n) : EReal) = wht (ys c i arg5 arg7 arg8 k0_h2 f5 k f7 (ix2 g n)) 31 * (trip.sl.cst_135 (F := Ideal) : EReal) :=
  have h := rows_at c i arg5 arg7 arg8 k0_h2 f5 k f7 (ix2 g n)
  ⟨(pair_lo _ _ _ _ _ g n : trip.sl.k0_w1 (F := Ideal) c i arg5 arg7 arg8 k0_h2 f5 k f7 (ix3 g 0 n) = _).trans h.1,
    (pair_hi _ _ _ _ _ g n : trip.sl.k0_w1 (F := Ideal) c i arg5 arg7 arg8 k0_h2 f5 k f7 (ix3 g 1 n) = _).trans h.2.1,
    (pair_lo _ _ _ _ _ g n : trip.sl.k0_w2 (F := Ideal) c i arg5 arg7 arg8 k0_h2 f5 k f7 (ix3 g 0 n) = _).trans h.2.2.1,
    (pair_hi _ _ _ _ _ g n : trip.sl.k0_w2 (F := Ideal) c i arg5 arg7 arg8 k0_h2 f5 k f7 (ix3 g 1 n) = _).trans h.2.2.2.1,
    (pair_lo _ _ _ _ _ g n : trip.sl.k0_w3 (F := Ideal) c i arg5 arg7 arg8 k0_h2 f5 k f7 (ix3 g 0 n) = _).trans h.2.2.2.2.1,
    (pair_hi _ _ _ _ _ g n : trip.sl.k0_w3 (F := Ideal) c i arg5 arg7 arg8 k0_h2 f5 k f7 (ix3 g 1 n) = _).trans h.2.2.2.2.2.1,
    (pair_lo _ _ _ _ _ g n : trip.sl.k0_w4 (F := Ideal) c i arg5 arg7 arg8 k0_h2 f5 k f7 (ix3 g 0 n) = _).trans h.2.2.2.2.2.2.1,
    (pair_hi _ _ _ _ _ g n : trip.sl.k0_w4 (F := Ideal) c i arg5 arg7 arg8 k0_h2 f5 k f7 (ix3 g 1 n) = _).trans h.2.2.2.2.2.2.2.1,
    (pair_lo _ _ _ _ _ g n : trip.sl.k0_w5 (F := Ideal) c i arg5 arg7 arg8 k0_h2 f5 k f7 (ix3 g 0 n) = _).trans h.2.2.2.2.2.2.2.2.1,
    (pair_hi _ _ _ _ _ g n : trip.sl.k0_w5 (F := Ideal) c i arg5 arg7 arg8 k0_h2 f5 k f7 (ix3 g 1 n) = _).trans h.2.2.2.2.2.2.2.2.2.1,
    (pair_lo _ _ _ _ _ g n : trip.sl.k0_w6 (F := Ideal) c i arg5 arg7 arg8 k0_h2 f5 k f7 (ix3 g 0 n) = _).trans h.2.2.2.2.2.2.2.2.2.2.1,
    (pair_hi _ _ _ _ _ g n : trip.sl.k0_w6 (F := Ideal) c i arg5 arg7 arg8 k0_h2 f5 k f7 (ix3 g 1 n) = _).trans h.2.2.2.2.2.2.2.2.2.2.2.1,
    (pair_lo _ _ _ _ _ g n : trip.sl.k0_w7 (F := Ideal) c i arg5 arg7 arg8 k0_h2 f5 k f7 (ix3 g 0 n) = _).trans h.2.2.2.2.2.2.2.2.2.2.2.2.1,
    (pair_hi _ _ _ _ _ g n : trip.sl.k0_w7 (F := Ideal) c i arg5 arg7 arg8 k0_h2 f5 k f7 (ix3 g 1 n) = _).trans h.2.2.2.2.2.2.2.2.2.2.2.2.2.1,
    (pair_lo _ _ _ _ _ g n : trip.sl.k0_w8 (F := Ideal) c i arg5 arg7 arg8 k0_h2 f5 k f7 (ix3 g 0 n) = _).trans h.2.2.2.2.2.2.2.2.2.2.2.2.2.2.1,
    (pair_hi _ _ _ _ _ g n : trip.sl.k0_w8 (F := Ideal) c i arg5 arg7 arg8 k0_h2 f5 k f7 (ix3 g 1 n) = _).trans h.2.2.2.2.2.2.2.2.2.2.2.2.2.2.2.1,
    (pair_lo _ _ _ _ _ g n : trip.sl.k0_w9 (F := Ideal) c i arg5 arg7 arg8 k0_h2 f5 k f7 (ix3 g 0 n) = _).trans h.2.2.2.2.2.2.2.2.2.2.2.2.2.2.2.2.1,
    (pair_hi _ _ _ _ _ g n : trip.sl.k0_w9 (F := Ideal) c i arg5 arg7 arg8 k0_h2 f5 k f7 (ix3 g 1 n) = _).trans h.2.2.2.2.2.2.2.2.2.2.2.2.2.2.2.2.2.1,
    (pair_lo _ _ _ _ _ g n : trip.sl.k0_w10 (F := Ideal) c i arg5 arg7 arg8 k0_h2 f5 k f7 (ix3 g 0 n) = _).trans h.2.2.2.2.2.2.2.2.2.2.2.2.2.2.2.2.2.2.1,
    (pair_hi _ _ _ _ _ g n : trip.sl.k0_w10 (F := Ideal) c i arg5 arg7 arg8 k0_h2 f5 k f7 (ix3 g 1 n) = _).trans h.2.2.2.2.2.2.2.2.2.2.2.2.2.2.2.2.2.2.2.1,
    (pair_lo _ _ _ _ _ g n : trip.sl.k0_w11 (F := Ideal) c i arg5 arg7 arg8 k0_h2 f5 k f7 (ix3 g 0 n) = _).trans h.2.2.2.2.2.2.2.2.2.2.2.2.2.2.2.2.2.2.2.2.1,
    (pair_hi _ _ _ _ _ g n : trip.sl.k0_w11 (F := Ideal) c i arg5 arg7 arg8 k0_h2 f5 k f7 (ix3 g 1 n) = _).trans h.2.2.2.2.2.2.2.2.2.2.2.2.2.2.2.2.2.2.2.2.2.1,
    (pair_lo _ _ _ _ _ g n : trip.sl.k0_w12 (F := Ideal) c i arg5 arg7 arg8 k0_h2 f5 k f7 (ix3 g 0 n) = _).trans h.2.2.2.2.2.2.2.2.2.2.2.2.2.2.2.2.2.2.2.2.2.2.1,
    (pair_hi _ _ _ _ _ g n : trip.sl.k0_w12 (F := Ideal) c i arg5 arg7 arg8 k0_h2 f5 k f7 (ix3 g 1 n) = _).trans h.2.2.2.2.2.2.2.2.2.2.2.2.2.2.2.2.2.2.2.2.2.2.2.1,
    (pair_lo _ _ _ _ _ g n : trip.sl.k0_w13 (F := Ideal) c i arg5 arg7 arg8 k0_h2 f5 k f7 (ix3 g 0 n) = _).trans h.2.2.2.2.2.2.2.2.2.2.2.2.2.2.2.2.2.2.2.2.2.2.2.2.1,
    (pair_hi _ _ _ _ _ g n : trip.sl.k0_w13 (F := Ideal) c i arg5 arg7 arg8 k0_h2 f5 k f7 (ix3 g 1 n) = _).trans h.2.2.2.2.2.2.2.2.2.2.2.2.2.2.2.2.2.2.2.2.2.2.2.2.2.1,
    (pair_lo _ _ _ _ _ g n : trip.sl.k0_w14 (F := Ideal) c i arg5 arg7 arg8 k0_h2 f5 k f7 (ix3 g 0 n) = _).trans h.2.2.2.2.2.2.2.2.2.2.2.2.2.2.2.2.2.2.2.2.2.2.2.2.2.2.1,
    (pair_hi _ _ _ _ _ g n : trip.sl.k0_w14 (F := Ideal) c i arg5 arg7 arg8 k0_h2 f5 k f7 (ix3 g 1 n) = _).trans h.2.2.2.2.2.2.2.2.2.2.2.2.2.2.2.2.2.2.2.2.2.2.2.2.2.2.2.1,
    (pair_lo _ _ _ _ _ g n : trip.sl.k0_w15 (F := Ideal) c i arg5 arg7 arg8 k0_h2 f5 k f7 (ix3 g 0 n) = _).trans h.2.2.2.2.2.2.2.2.2.2.2.2.2.2.2.2.2.2.2.2.2.2.2.2.2.2.2.2.1,
    (pair_hi _ _ _ _ _ g n : trip.sl.k0_w15 (F := Ideal) c i arg5 arg7 arg8 k0_h2 f5 k f7 (ix3 g 1 n) = _).trans h.2.2.2.2.2.2.2.2.2.2.2.2.2.2.2.2.2.2.2.2.2.2.2.2.2.2.2.2.2.1,
    (pair_lo _ _ _ _ _ g n : trip.sl.k0_w16 (F := Ideal) c i arg5 arg7 arg8 k0_h2 f5 k f7 (ix3 g 0 n) = _).trans h.2.2.2.2.2.2.2.2.2.2.2.2.2.2.2.2.2.2.2.2.2.2.2.2.2.2.2.2.2.2.1,
    (pair_hi _ _ _ _ _ g n : trip.sl.k0_w16 (F := Ideal) c i arg5 arg7 arg8 k0_h2 f5 k f7 (ix3 g 1 n) = _).trans h.2.2.2.2.2.2.2.2.2.2.2.2.2.2.2.2.2.2.2.2.2.2.2.2.2.2.2.2.2.2.2⟩

/-- The first half of each row of pairs, at an index. -/
theorem packed_lo (g : Fin 8) (n : Fin 128) : ∀ p : Fin 16, (packed c i arg5 arg7 arg8 k0_h2 f5 k f7 p (ix3 g 0 n) : EReal)
    = wht (ys c i arg5 arg7 arg8 k0_h2 f5 k f7 (ix2 g n)) (2 * p.val) * (trip.sl.cst_135 (F := Ideal) : EReal) := by
  have h := words_at c i arg5 arg7 arg8 k0_h2 f5 k f7 g n
  intro p
  match p with
  | 0 => exact h.1
  | 1 => exact h.2.2.1
  | 2 => exact h.2.2.2.2.1
  | 3 => exact h.2.2.2.2.2.2.1
  | 4 => exact h.2.2.2.2.2.2.2.2.1
  | 5 => exact h.2.2.2.2.2.2.2.2.2.2.1
  | 6 => exact h.2.2.2.2.2.2.2.2.2.2.2.2.1
  | 7 => exact h.2.2.2.2.2.2.2.2.2.2.2.2.2.2.1
  | 8 => exact h.2.2.2.2.2.2.2.2.2.2.2.2.2.2.2.2.1
  | 9 => exact h.2.2.2.2.2.2.2.2.2.2.2.2.2.2.2.2.2.2.1
  | 10 => exact h.2.2.2.2.2.2.2.2.2.2.2.2.2.2.2.2.2.2.2.2.1
  | 11 => exact h.2.2.2.2.2.2.2.2.2.2.2.2.2.2.2.2.2.2.2.2.2.2.1
  | 12 => exact h.2.2.2.2.2.2.2.2.2.2.2.2.2.2.2.2.2.2.2.2.2.2.2.2.1
  | 13 => exact h.2.2.2.2.2.2.2.2.2.2.2.2.2.2.2.2.2.2.2.2.2.2.2.2.2.2.1
  | 14 => exact h.2.2.2.2.2.2.2.2.2.2.2.2.2.2.2.2.2.2.2.2.2.2.2.2.2.2.2.2.1
  | 15 => exact h.2.2.2.2.2.2.2.2.2.2.2.2.2.2.2.2.2.2.2.2.2.2.2.2.2.2.2.2.2.2.1
  | ⟨q + 16, hq⟩ => exact absurd hq (by omega)

/-- The second half of each row of pairs, at an index. -/
theorem packed_hi (g : Fin 8) (n : Fin 128) : ∀ p : Fin 16, (packed c i arg5 arg7 arg8 k0_h2 f5 k f7 p (ix3 g 1 n) : EReal)
    = wht (ys c i arg5 arg7 arg8 k0_h2 f5 k f7 (ix2 g n)) (2 * p.val + 1) * (trip.sl.cst_135 (F := Ideal) : EReal) := by
  have h := words_at c i arg5 arg7 arg8 k0_h2 f5 k f7 g n
  intro p
  match p with
  | 0 => exact h.2.1
  | 1 => exact h.2.2.2.1
  | 2 => exact h.2.2.2.2.2.1
  | 3 => exact h.2.2.2.2.2.2.2.1
  | 4 => exact h.2.2.2.2.2.2.2.2.2.1
  | 5 => exact h.2.2.2.2.2.2.2.2.2.2.2.1
  | 6 => exact h.2.2.2.2.2.2.2.2.2.2.2.2.2.1
  | 7 => exact h.2.2.2.2.2.2.2.2.2.2.2.2.2.2.2.1
  | 8 => exact h.2.2.2.2.2.2.2.2.2.2.2.2.2.2.2.2.2.1
  | 9 => exact h.2.2.2.2.2.2.2.2.2.2.2.2.2.2.2.2.2.2.2.1
  | 10 => exact h.2.2.2.2.2.2.2.2.2.2.2.2.2.2.2.2.2.2.2.2.2.1
  | 11 => exact h.2.2.2.2.2.2.2.2.2.2.2.2.2.2.2.2.2.2.2.2.2.2.2.1
  | 12 => exact h.2.2.2.2.2.2.2.2.2.2.2.2.2.2.2.2.2.2.2.2.2.2.2.2.2.1
  | 13 => exact h.2.2.2.2.2.2.2.2.2.2.2.2.2.2.2.2.2.2.2.2.2.2.2.2.2.2.2.1
  | 14 => exact h.2.2.2.2.2.2.2.2.2.2.2.2.2.2.2.2.2.2.2.2.2.2.2.2.2.2.2.2.2.1
  | 15 => exact h.2.2.2.2.2.2.2.2.2.2.2.2.2.2.2.2.2.2.2.2.2.2.2.2.2.2.2.2.2.2.2
  | ⟨q + 16, hq⟩ => exact absurd hq (by omega)

/-- The rows of pairs, at an index. -/
theorem packed_at (g : Fin 8) (p : Fin 16) (b : Fin 2) (n : Fin 128) : (packed c i arg5 arg7 arg8 k0_h2 f5 k f7 p (ix3 g b n) : EReal)
    = wht (ys c i arg5 arg7 arg8 k0_h2 f5 k f7 (ix2 g n)) (2 * p.val + b.val) * (trip.sl.cst_135 (F := Ideal) : EReal) := by
  match b with
  | 0 => exact packed_lo c i arg5 arg7 arg8 k0_h2 f5 k f7 g n p
  | 1 => exact packed_hi c i arg5 arg7 arg8 k0_h2 f5 k f7 g n p

set_option maxHeartbeats 4000000 in
/-- What one trip stores into the output block: entry (n, 32·g + 2·p + b) is entry 2·p + b of group `g`'s butterfly. -/
theorem stored_at (f9 : Buf (Elt Ideal) (arg9.view.loc (c : Thread nD τ))) (g : Fin 8) (p : Fin 16) (b : Fin 2) (n : Fin 128) :
    (trip.sl.r_87 (F := Ideal) c i arg5 arg7 arg8 arg9 k0_h2 f5 k f7 f9 (ix2 n ⟨32 * g.val + 2 * p.val + b.val, by omega⟩) : EReal)
      = wht (ys c i arg5 arg7 arg8 k0_h2 f5 k f7 (ix2 g n)) (2 * p.val + b.val) * (trip.sl.cst_135 (F := Ideal) : EReal) := by
  refine Eq.trans ?_ (packed_at c i arg5 arg7 arg8 k0_h2 f5 k f7 g p b n)
  refine (unpack_at (α := Elt Ideal .bf16) (fun g => arg9.view.readAt (Elt Ideal) (packRect g).toLoadRect
      (arg9.view.writes (Elt Ideal) (![arg9.view.junk, f9, f9, f9, f9, f9, f9, f9] g) (pairs (packed c i arg5 arg7 arg8 k0_h2 f5 k f7))))
    bitcasts_S16x2x128_w16_S16x1x128_w32 shapeCasts_S16x1x128_S16x128 _ rfl
    concatenates_S16x128_S16x128_S16x128_S16x128_S16x128_S16x128_S16x128_S16x128_S128x128_d0 bitcasts_S256x128_w16_S128x128_w32
    transposes_S256x128_p1_0_S128x256 g p b n).trans ?_
  exact read_pack arg9.view _ (packed c i arg5 arg7 arg8 k0_h2 f5 k f7) g p b n

/-- The eight groups of 32 rows one trip stages. -/
abbrev staged : Fin 8 → S32x128.Idx → Elt Ideal .f32 :=
  ![trip.sl.v57 (F := Ideal) c i arg7 k0_h2 k f7, trip.sl.v61 (F := Ideal) c i arg7 k0_h2 k f7, trip.sl.v65 (F := Ideal) c i arg7 k0_h2 k f7,
    trip.sl.v69 (F := Ideal) c i arg7 k0_h2 k f7, trip.sl.v73 (F := Ideal) c i arg7 k0_h2 k f7, trip.sl.v77 (F := Ideal) c i arg7 k0_h2 k f7,
    trip.sl.v81 (F := Ideal) c i arg7 k0_h2 k f7, trip.sl.v85 (F := Ideal) c i arg7 k0_h2 k f7]

/-- A staged row is the accumulator's. -/
theorem staged_at (j : Fin 32) (n : Fin 128) : ∀ g : Fin 8, staged c i arg7 k0_h2 k f7 g (ix2 j n)
    = trip.sl.r_1 (F := Ideal) c i arg7 k0_h2 k f7 (ix2 ⟨32 * g.val + j.val, by omega⟩ n) := by
  intro g
  match g with
  | 0 => show trip.sl.v57 (F := Ideal) c i arg7 k0_h2 k f7 (ix2 j n) = _; pointwise [trip.sl.v57, trip.sl.v54, trip.sl.r_1]
  | 1 => show trip.sl.v61 (F := Ideal) c i arg7 k0_h2 k f7 (ix2 j n) = _; pointwise [trip.sl.v61, trip.sl.v58]
  | 2 => show trip.sl.v65 (F := Ideal) c i arg7 k0_h2 k f7 (ix2 j n) = _; pointwise [trip.sl.v65, trip.sl.v62]
  | 3 => show trip.sl.v69 (F := Ideal) c i arg7 k0_h2 k f7 (ix2 j n) = _; pointwise [trip.sl.v69, trip.sl.v66]
  | 4 => show trip.sl.v73 (F := Ideal) c i arg7 k0_h2 k f7 (ix2 j n) = _; pointwise [trip.sl.v73, trip.sl.v70]
  | 5 => show trip.sl.v77 (F := Ideal) c i arg7 k0_h2 k f7 (ix2 j n) = _; pointwise [trip.sl.v77, trip.sl.v74]
  | 6 => show trip.sl.v81 (F := Ideal) c i arg7 k0_h2 k f7 (ix2 j n) = _; pointwise [trip.sl.v81, trip.sl.v78]
  | 7 => show trip.sl.v85 (F := Ideal) c i arg7 k0_h2 k f7 (ix2 j n) = _; pointwise [trip.sl.v85, trip.sl.v82]

/-- A masked row, from the mask block and the accumulator. -/
theorem ys_at (g : Fin 8) (n : Fin 128) (i' : ℕ) : ys c i arg5 arg7 arg8 k0_h2 f5 k f7 (ix2 g n) i'
    = masked (trip.sl.r (F := Ideal) c i arg5 k0_h2 f5 k (ix2 g n)) i' (trip.sl.r_1 (F := Ideal) c i arg7 k0_h2 k f7 (ix2 ⟨32 * g.val + i' % 32, by omega⟩ n)) := by
  have e : arg8.view.readCov (trip.sl.H8_8 (F := Ideal) c i arg7 k0_h2 k f7) (rowsRect ⟨i' % 32, Nat.mod_lt _ (by decide)⟩) (ix2 g n)
      = trip.sl.r_1 (F := Ideal) c i arg7 k0_h2 k f7 (ix2 ⟨32 * g.val + i' % 32, by omega⟩ n) :=
    (read_rows arg8.view (staged c i arg7 k0_h2 k f7) ⟨i' % 32, Nat.mod_lt _ (by decide)⟩ g n).trans (staged_at c i arg7 k0_h2 k f7 _ _ g)
  have z : (trip.sl.cst_35 (F := Ideal) : EReal) = 0 := Ideal.ofBits_zero_f32
  unfold ys masked
  rw [e, z]

/-- The scale. -/
theorem scale_eq : (trip.sl.cst_135 (F := Ideal) : EReal) = ((scale : ℝ) : EReal) :=
  IdealRules.named_const.ideal_named_scalar _ _ _ _ rfl

/-- Where trip `k` reads and stores. -/
theorem offs : ∀ k : Fin k0_t1_loop.trips, k0_off1 k = ![8 * (k.val / 6), 128 * (k.val % 6)] ∧ k0_off2 k = ![256 * (k.val / 6), 128 * (k.val % 6)]
    ∧ k0_off3 k = ![128 * (k.val % 6), 256 * (k.val / 6)] := by decide +kernel

/-- What one trip stores is the rotation of the block it is the trip of. -/
theorem stored_eq (f9 : Buf (Elt Ideal) (arg9.view.loc (c : Thread nD τ))) (x : S128x256.Idx) (y : S768x2048.Idx)
    (h0 : (y 0).val = 128 * (k.val % 6) + (x 0).val) (h1 : (y 1).val = 256 * (k.val / 6) + (x 1).val) :
    (trip.sl.r_87 (F := Ideal) c i arg5 arg7 arg8 arg9 k0_h2 f5 k f7 f9 x : EReal)
      = rotOut (G := 64) (N := 768) (M := 2048) rfl (arg5.view.read (Elt Ideal) f5) (arg7.view.read (Elt Ideal) f7) y := by
  have hx0 : (x 0).val < 128 := (x 0).isLt
  have hx1 : (x 1).val < 256 := (x 1).isLt
  have hy1 : (y 1).val < 2048 := (y 1).isLt
  have hy0 : (y 0).val < 768 := (y 0).isLt
  obtain ⟨o1, o2, o3⟩ := offs k
  have hx : x = ix2 ⟨(x 0).val, hx0⟩ ⟨32 * ((x 1).val / 32) + 2 * ((x 1).val % 32 / 2) + (x 1).val % 2, by omega⟩ :=
    (ix2_eta (n0 := 128) (n1 := 256) x).symm.trans (congrArg _ (Fin.ext (by dsimp only; omega)))
  rw [hx]
  refine (stored_at c i arg5 arg7 arg8 arg9 k0_h2 f5 k f7 f9 ⟨(x 1).val / 32, by omega⟩ ⟨(x 1).val % 32 / 2, by omega⟩ ⟨(x 1).val % 2, by omega⟩
    ⟨(x 0).val, hx0⟩).trans ?_
  unfold rotOut rotAt
  rw [scale_eq]
  refine congrArg (· * ((scale : ℝ) : EReal)) ?_
  have hj : 2 * ((x 1).val % 32 / 2) + (x 1).val % 2 = (y 1).val % 32 := by omega
  dsimp only
  rw [hj]
  refine congrArg (fun f => wht f ((y 1).val % 32)) (funext fun i' => ?_)
  rw [ys_at]
  have e1 : trip.sl.r (F := Ideal) c i arg5 k0_h2 f5 k (ix2 ⟨(x 1).val / 32, by omega⟩ ⟨(x 0).val, hx0⟩)
      = arg5.view.read (Elt Ideal) f5 (ix2 ⟨(y 1).val / 32, by omega⟩ (y 0)) := by
    refine congrArg (arg5.view.read (Elt Ideal) f5) (funext fun a => Fin.ext ?_)
    match a with
    | ⟨0, _⟩ => show k0_off1 k 0 + 1 * ((x 1).val / 32) = (y 1).val / 32; rw [o1]; show 8 * (k.val / 6) + _ = _; omega
    | ⟨1, _⟩ => show k0_off1 k 1 + 1 * (x 0).val = (y 0).val; rw [o1]; show 128 * (k.val % 6) + _ = _; omega
  have e2 : trip.sl.r_1 (F := Ideal) c i arg7 k0_h2 k f7 (ix2 ⟨32 * ((x 1).val / 32) + i' % 32, by omega⟩ ⟨(x 0).val, hx0⟩)
      = arg7.view.read (Elt Ideal) f7 (ix2 ⟨32 * ((y 1).val / 32) + i' % 32 % 32, by omega⟩ (y 0)) := by
    refine congrArg (arg7.view.read (Elt Ideal) f7) (funext fun a => Fin.ext ?_)
    match a with
    | ⟨0, _⟩ => show k0_off2 k 0 + 1 * (32 * ((x 1).val / 32) + i' % 32) = 32 * ((y 1).val / 32) + i' % 32 % 32; rw [o2]; show 256 * (k.val / 6) + _ = _; omega
    | ⟨1, _⟩ => show k0_off2 k 1 + 1 * (x 0).val = (y 0).val; rw [o2]; show 128 * (k.val % 6) + _ = _; omega
  rw [e1]
  exact congrArg _ e2

end Cert.DXIdeal.Rot
end
-- ==== Proof.DXSpec.lean ====
/- The reference's result, entry by entry, and what its precondition says: every operand is real. -/
module

public import proofs.«01_k».proof.Proof.Gen.DXRefIdeal.Run
public import proofs.«01_k».proof.Proof.Gen.Pre_finite_dx
public import proofs.«01_k».proof.Proof.RotSpec
public import Idealize.ShloMosaic.Lib.Pipeline.ValueKit
public import Idealize.ShloMosaic.Lib.Pointwise
public import Idealize.ShloMosaic.Lib.ReduceAll

@[expose] public section

set_option maxRecDepth 16384

noncomputable section

open Idealize.ShloMosaic Idealize.ShloMosaic.TcCoe

namespace Cert.DXRefIdeal.Spec

open Cert.DXRefIdeal Cert.Rot

/-- The reference's result from its three arguments. -/
abbrev REF (A : FVec Ideal S11264x2048 .bf16) (B : FVec Ideal S11264x4608 .bf16) (W : IVec S64x4608 32) : FVec Ideal S4608x2048 .bf16 :=
  truncf .bf16 (shapeCast _ (Host.dotGeneral dot_S4608x64x32_S32x32_S4608x64x32_2_0_01_1_n_n (some .fp32) (shapeCast _ (mulf (mulf (broadcastInDim S4608x2048 ![] Gen.bcast_S_S4608x2048 (Host.divf (constant S_ .f32 0x41800000#32) (constant S_ .f32 0x41100000#32))) (Host.dotGeneral dot_S4608x11264_S2048x11264_S4608x2048_1_1_0_0_n_n none (transpose S4608x11264 [1, 0] B Gen.transposes_S11264x4608_S4608x11264_1_0) (transpose S2048x11264 [1, 0] A Gen.transposes_S11264x2048_S2048x11264_1_0))) (sitofp .f32 (shapeCast _ (andi (Host.shrsi (broadcastInDim S4608x64x32 ![0, 1, 2] Gen.bcast_S4608x64x1_S4608x64x32_0_1_2 (broadcastInDim S4608x64x1 ![0, 1] Gen.bcast_S4608x64_S4608x64x1_0_1 (transpose S4608x64 [1, 0] W Gen.transposes_S64x4608_S4608x64_1_0))) (broadcastInDim S4608x64x32 ![0, 1, 2] Gen.bcast_S1x1x32_S4608x64x32_0_1_2 (broadcastInDim S1x1x32 ![2] Gen.bcast_S32_S1x1x32_2 (iotaInDim S32 32 0)))) (broadcastInDim S4608x64x32 ![] Gen.bcast_S_S4608x64x32 (constantI S_ 32 1#32))) Gen.shapeCasts_S4608x64x32_S4608x2048))) Gen.shapeCasts_S4608x2048_S4608x64x32) (mulf (sitofp .f32 (subi (broadcastInDim S32x32 ![] Gen.bcast_S_S32x32 (constantI S_ 32 1#32)) (muli (broadcastInDim S32x32 ![] Gen.bcast_S_S32x32 (constantI S_ 32 2#32)) (andi (ctpop (andi (broadcastInDim S32x32 ![0, 1] Gen.bcast_S32x1_S32x32_0_1 (broadcastInDim S32x1 ![0] Gen.bcast_S32_S32x1_0 (iotaInDim S32 32 0))) (broadcastInDim S32x32 ![0, 1] Gen.bcast_S1x32_S32x32_0_1 (broadcastInDim S1x32 ![1] Gen.bcast_S32_S1x32_1 (iotaInDim S32 32 0))))) (broadcastInDim S32x32 ![] Gen.bcast_S_S32x32 (constantI S_ 32 1#32)))))) (broadcastInDim S32x32 ![] Gen.bcast_S_S32x32 (constant S_ .f32 0x3E3504F3#32)))) Gen.shapeCasts_S4608x64x32_S4608x2048) Gen.bitsLt_bf16_f32

/-- The product the rotation is taken of. -/
def prod (A : FVec Ideal S11264x2048 .bf16) (B : FVec Ideal S11264x4608 .bf16) (y : (⟨2, ![2048, 4608]⟩ : Shape).Idx) : EReal :=
  ∑ t : Fin 11264, (A (ix2 t (y 0)) : EReal) * (B (ix2 t (y 1)) : EReal)

/-- The reference at an index: the masked product times the Walsh-Hadamard matrix. -/
theorem href (A : FVec Ideal S11264x2048 .bf16) (B : FVec Ideal S11264x4608 .bf16) (W : IVec S64x4608 32) (j : S4608x2048.Idx)
    (h1 : (j 1).val < 2048) :
    REF A B W j = refAt (W (ix2 ⟨(j 1).val / 32, by omega⟩ (j 0)))
      (fun i => prod A B (ix2 ⟨32 * ((j 1).val / 32) + i % 32, by omega⟩ (j 0))) ((j 1).val % 32) := by
  have e : refAt (W (ix2 ⟨(j 1).val / 32, by omega⟩ (j 0)))
      (fun i => prod A B (ix2 ⟨32 * ((j 1).val / 32) + i % 32, by omega⟩ (j 0))) ((j 1).val % 32)
    = ∑ k : Fin 32, (Ideal.div (Ideal.ofBits .f32 0x41800000#32) (Ideal.ofBits .f32 0x41100000#32)
        * ∑ t : Fin 11264, (B (ix2 t (j 0)) : EReal) * (A (ix2 t ⟨(j 1).val / 32 * 32 + k.val, by omega⟩) : EReal))
      * FloatOps.sitofp (F := Ideal) .f32 (IntOp.andi (IntOp.shrsi .host
          (W (ix2 ⟨((j 1).val / 32 * 32 + k.val) / 32, by omega⟩ (j 0))) (BitVec.ofNat 32 k.val)) 1#32)
      * (FloatOps.sitofp (F := Ideal) .f32 (IntOp.subi 1#32 (IntOp.muli 2#32 (IntOp.andi (IntOp.ctpop (IntOp.andi (BitVec.ofNat 32 k.val)
        (BitVec.ofNat 32 ((j 1).val % 32)))) 1#32))) * Ideal.ofBits .f32 0x3E3504F3#32) := by
    unfold refAt
    refine Finset.sum_congr rfl fun k _ => ?_
    have a : (⟨((j 1).val / 32 * 32 + k.val) / 32, by omega⟩ : Fin 64) = ⟨(j 1).val / 32, by omega⟩ := Fin.ext (by dsimp only; omega)
    have b : (⟨32 * ((j 1).val / 32) + k.val % 32, by omega⟩ : Fin 2048) = ⟨(j 1).val / 32 * 32 + k.val, by omega⟩ :=
      Fin.ext (by dsimp only; omega)
    have p : prod A B (ix2 ⟨32 * ((j 1).val / 32) + k.val % 32, by omega⟩ (j 0))
        = ∑ t : Fin 11264, (B (ix2 t (j 0)) : EReal) * (A (ix2 t ⟨(j 1).val / 32 * 32 + k.val, by omega⟩) : EReal) := by
      rw [b]
      exact Finset.sum_congr rfl fun t _ => mul_comm _ _
    rw [a, ← p]
  rw [e]
  pointwise [REF]

/-- The precondition: every entry of both operands is real. -/
theorem real (A : FVec Ideal S11264x2048 .bf16) (B : FVec Ideal S11264x4608 .bf16) (W : IVec S64x4608 32)
    (h : Cert.Pre_finite_dx.fn (F := Ideal) A B W = fun _ => 1#1) :
    (∀ i, ∃ r : ℝ, A i = (r : EReal)) ∧ (∀ i, ∃ r : ℝ, B i = (r : EReal)) := by
  have h0 := congrFun h default
  unfold Cert.Pre_finite_dx.fn at h0
  dsimp only at h0
  have h1 := IntOp.andi_eq_one.1 h0
  have hs : Subsingleton Cert.Pre_finite_dx.S_.Idx := ⟨fun a b => funext fun k => k.elim0⟩
  exact ⟨fun i => real_of_lt _ (Host.reduce_andi_all _ _ _ _ _ h1.1 i), fun i => real_of_lt _ (Host.reduce_andi_all _ _ _ _ _ h1.2 i)⟩

/-- The reference's result is the rotation of the product. -/
theorem ref_eq (A : FVec Ideal S11264x2048 .bf16) (B : FVec Ideal S11264x4608 .bf16) (W : IVec S64x4608 32)
    (h : Cert.Pre_finite_dx.fn (F := Ideal) A B W = fun _ => 1#1) :
    REF A B W = rotOut (G := 64) (N := 4608) (M := 2048) rfl W (prod A B) := by
  obtain ⟨ha, hb⟩ := real A B W h
  funext j
  rw [href A B W j (j 1).isLt]
  unfold rotOut
  exact (rotAt_eq_refAt _ _ (fun i => real_sum _ _ (fun t => ha _) fun t => hb _) _ (Nat.mod_lt _ (by decide))).symm

end Cert.DXRefIdeal.Spec

end
-- ==== Proof.DXValue.lean ====
/- What the result array of the input's gradient holds after the run: the rotation of the masked product,
   block by block of eleven grid points. -/
module

public import proofs.«01_k».proof.Proof.DXTrip
public import proofs.«01_k».proof.Proof.DXSpec
public import Idealize.ShloMosaic.Lib.VecWindow
public import Idealize.ShloMosaic.Lib.Pipeline.ValueKit
public import Idealize.ShloMosaic.Lib.Pipeline.ReadBack

@[expose] public section

set_option maxRecDepth 16384

noncomputable section

namespace Cert.DXIdeal.RotValue

open Cert.DXIdeal Cert.DXIdeal.Gen Cert.DXIdeal.Rot Cert.Rot
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- What the write-out loop makes of a mask block and the accumulator. -/
abbrev rot (w : Vec Ideal S64x768 .i32) (acc : Vec Ideal S2048x768 .f32) : Vec Ideal S768x2048 .bf16 :=
  rotOut (G := 64) (N := 768) (M := 2048) rfl w acc

section Body

variable (c : Dev nD) (i : grid0.Coords) (arg3 : Memref sig .tc .vmem S1024x2048 .bf16) (harg3 : arg3.IsWhole) (arg4 : Memref sig .tc .vmem S1024x768 .bf16) (harg4 : arg4.IsWhole) (arg5 : Memref sig .tc .vmem S64x768 .i32) (harg5 : arg5.IsWhole) (arg6 : Memref sig .tc .vmem S768x2048 .bf16) (harg6 : arg6.IsWhole) (arg7 : Memref sig .tc .vmem S2048x768 .f32) (harg7 : arg7.IsWhole) (arg8 : Memref sig .tc .vmem S288x128 .f32) (harg8 : arg8.IsWhole) (arg9 : Memref sig .tc .vmem S160x2x128 .bf16) (harg9 : arg9.IsWhole)

/-- Whether one of the first `n` trips stores the entry `y` of the output block. -/
abbrev stores (n : ℕ) (y : S768x2048.Idx) : Prop := 6 * ((y 1).val / 256) + (y 0).val / 128 < n

/-- A block cut down to what the first `n` trips store. -/
def upTo : ℕ → Vec Ideal S768x2048 .bf16 → S768x2048.Idx → EReal
  | 0, _ => fun _ => 0
  | n + 1, o => fun y => if stores (n + 1) y then o y else 0

/-- Before trip `n`: the parts of the output block that the earlier trips store hold their values. -/
abbrev Done (n : ℕ) (w : Vec Ideal S64x768 .i32) (acc : Vec Ideal S2048x768 .f32) (o : Vec Ideal S768x2048 .bf16) : Prop :=
  upTo n o = upTo n (rot w acc)

/-- The same, entry by entry. -/
theorem done_iff (n : ℕ) (w : Vec Ideal S64x768 .i32) (acc : Vec Ideal S2048x768 .f32) (o : Vec Ideal S768x2048 .bf16) :
    Done n w acc o ↔ ∀ y, stores n y → o y = rot w acc y := by
  cases n with
  | zero => exact ⟨fun _ y h => absurd h (Nat.not_lt_zero _), fun _ => rfl⟩
  | succ n =>
    refine ⟨fun h y hy => ?_, fun h => funext fun y => ?_⟩
    · have e := congrFun h y
      simp only [upTo, if_pos hy] at e
      exact e
    · simp only [upTo]
      split
      · next hy => exact h y hy
      · rfl

/-- One trip stores its own part of the block and keeps the others. -/
theorem done_step (k : Fin k0_t1_loop.trips) (w : Vec Ideal S64x768 .i32) (acc : Vec Ideal S2048x768 .f32)
    (f6 : arg6.view.ty.Contents (Elt Ideal)) (h : Done k.val w acc (arg6.view.read (Elt Ideal) f6)) (inb)
    (p : S128x256.Idx → Elt Ideal .bf16)
    (hp : ∀ (x : S128x256.Idx) (y : S768x2048.Idx), (y 0).val = 128 * (k.val % 6) + (x 0).val → (y 1).val = 256 * (k.val / 6) + (x 1).val
      → p x = rot w acc y) :
    Done (k.val + 1) w acc (arg6.view.read (Elt Ideal) (arg6.view.writes (Elt Ideal) f6 [⟨Rect.unit (s := S768x2048) (k0_off3 k) S128x256.size inb, p⟩])) := by
  refine (done_iff _ _ _ _).2 fun y hy => ?_
  have hy : 6 * ((y 1).val / 256) + (y 0).val / 128 < k.val + 1 := hy
  have hy0 : (y 0).val < 768 := (y 0).isLt
  have hy1 : (y 1).val < 2048 := (y 1).isLt
  by_cases e : 6 * ((y 1).val / 256) + (y 0).val / 128 = k.val
  · have hx0 : (y 0).val = 128 * (k.val % 6) + (y 0).val % 128 := by omega
    have hx1 : (y 1).val = 256 * (k.val / 6) + (y 1).val % 256 := by omega
    rw [View.read_writes_cons_unit_of_mem arg6.view f6 inb p [] y
      (ix2 (n0 := 128) (n1 := 256) ⟨(y 0).val % 128, by omega⟩ ⟨(y 1).val % 256, by omega⟩) (offs k).2.2 (fun a => by
        match a with
        | ⟨0, _⟩ => exact hx0
        | ⟨1, _⟩ => exact hx1)]
    exact hp _ y hx0 hx1
  · have hk : ¬ ((y 0).val / 128 = k.val % 6 ∧ (y 1).val / 256 = k.val / 6) := by omega
    have hm : View.read (Elt Ideal) arg6.view (arg6.view.writes (Elt Ideal) f6 [⟨Rect.unit (s := S768x2048) (k0_off3 k) S128x256.size inb, p⟩]) y
        = arg6.view.read (Elt Ideal) f6 y := by
      by_cases h0 : (y 0).val / 128 = k.val % 6
      · refine (View.read_writes_cons_unit_of_not_mem arg6.view f6 inb p [] y (offs k).2.2 1 ?_).trans rfl
        show (y 1).val < 256 * (k.val / 6) ∨ 256 * (k.val / 6) + 256 ≤ (y 1).val
        omega
      · refine (View.read_writes_cons_unit_of_not_mem arg6.view f6 inb p [] y (offs k).2.2 0 ?_).trans rfl
        show (y 0).val < 128 * (k.val % 6) ∨ 128 * (k.val % 6) + 128 ≤ (y 0).val
        omega
    rw [hm]
    exact (done_iff _ _ _ _).1 h y (show 6 * ((y 1).val / 256) + (y 0).val / 128 < k.val by omega)

/-- What the write-out loop touches before trip `n`: the mask block and the accumulator as they are, the output block with its
    first `n` parts stored, the two scratches at whatever they hold. -/
abbrev HeldV (f5 : Buf (Elt Ideal) (arg5.view.loc (c : Thread nD τ))) (f7 : Buf (Elt Ideal) (arg7.view.loc (c : Thread nD τ))) (n : ℕ) : sProp 𝕄 :=
  iprop((arg5.view.loc (c : Thread nD τ) ↦[arg5.view.set]{fullShare} f5)
    ∗ (∃ f, ⌜Done n (arg5.view.read (Elt Ideal) f5) (arg7.view.read (Elt Ideal) f7) (arg6.view.read (Elt Ideal) f)⌝
        ∗ arg6.view.loc (c : Thread nD τ) ↦[arg6.view.set]{fullShare} f)
    ∗ (arg7.view.loc (c : Thread nD τ) ↦[arg7.view.set]{fullShare} f7) ∗ (∃ f, arg8.view.loc (c : Thread nD τ) ↦[arg8.view.set]{fullShare} f)
    ∗ (∃ f, arg9.view.loc (c : Thread nD τ) ↦[arg9.view.set]{fullShare} f))

set_option maxHeartbeats 4000000 in
/-- One trip of the write-out loop stores its part. -/
theorem tripV (k0_h2 : k0_cond2 i = 1#1) (f5 : Buf (Elt Ideal) (arg5.view.loc (c : Thread nD τ))) (f7 : Buf (Elt Ideal) (arg7.view.loc (c : Thread nD τ))) (k : Fin k0_t1_loop.trips) :
    HeldV c arg5 arg6 arg7 arg8 arg9 f5 f7 k.val ⊢ wp frame (wpE (defs₀ (F := Ideal)) Variants.none (c : Thread nD τ) none) Set.univ
      (k0_t1_body (F := Ideal) i arg3 harg3 arg4 harg4 arg5 harg5 arg6 harg6 arg7 harg7 arg8 harg8 arg9 harg9 k0_h2 k ()) (fun _ => HeldV c arg5 arg6 arg7 arg8 arg9 f5 f7 (k.val + 1)) := by
  iintro ⟨H5, ⟨%f6, %h6, H6⟩, H7, ⟨%f8, H8⟩, ⟨%f9, H9⟩⟩
  sl_unfold [k0_t1_body]
  sl_exec
  sl_step
  isplitl [H5]; · iexact H5
  isplitl [H6]
  · iexists _
    isplitr; swap; · iexact H6
    ipureintro
    refine done_step arg6 k _ _ f6 h6 _ _ fun x y h0 h1 => ?_
    refine Eq.trans (congrFun ?_ x) (stored_eq c i arg5 arg7 arg8 arg9 k0_h2 f5 k f7 f9 x y h0 h1)
    sl_kernel_rfl
  isplitl [H7]; · iexact H7
  isplitl [H8]; · iexists _; iexact H8
  iexists _; iexact H9

set_option warn.classDefReducibility false in
/-- The write-out loop's invariant: the parts stored so far hold their values. -/
@[sl_loop] def loopInvV (k0_h2 : k0_cond2 i = 1#1) (f5 : Buf (Elt Ideal) (arg5.view.loc (c : Thread nD τ))) (f7 : Buf (Elt Ideal) (arg7.view.loc (c : Thread nD τ))) :
    LoopInvTy_k0_t1 (F := Ideal) Unit ℕ (UR sig nD τ) ℕ Variants.none c none Set.univ i arg3 harg3 arg4 harg4 arg5 harg5 arg6 harg6 arg7 harg7 arg8 harg8 arg9 harg9 k0_h2 where
  inv k _ := HeldV c arg5 arg6 arg7 arg8 arg9 f5 f7 k
  step k _ := tripV c i arg3 harg3 arg4 harg4 arg5 harg5 arg6 harg6 arg7 harg7 arg8 harg8 arg9 harg9 k0_h2 f5 f7 k

/-- What the body keeps: its input blocks, the output block `o`, the accumulator `a`, the two scratches at whatever they hold. -/
abbrev AllV (x0 : Vec Ideal S1024x2048 .bf16) (x1 : Vec Ideal S1024x768 .bf16) (x2 : Vec Ideal S64x768 .i32)
    (o : Vec Ideal S768x2048 .bf16) (a : Vec Ideal S2048x768 .f32) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare o ∗ owns (c : Thread nD τ) arg7 fullShare a
    ∗ (∃ d, owns (c : Thread nD τ) arg8 fullShare d) ∗ (∃ d, owns (c : Thread nD τ) arg9 fullShare d))

set_option maxHeartbeats 4000000 in
/-- The body at a first reduction step: the accumulator is zeroed and takes the product of the blocks. -/
theorem bodyFirst (hc0 : (Scalar.cmpi .ne (Scalar.extui (Scalar.cmpi .eq (BitVec.ofNat 32 (i 2).val) 0#32)) 0#32) = 1#1)
    (hc1 : ¬ k0_cond2 i = 1#1) (x0 : Vec Ideal S1024x2048 .bf16) (x1 : Vec Ideal S1024x768 .bf16) (x2 : Vec Ideal S64x768 .i32) (o a) :
    AllV c arg3 arg4 arg5 arg6 arg7 arg8 arg9 x0 x1 x2 o a ⊢ wp frame (wpE (defs₀ (F := Ideal)) Variants.none (c : Thread nD τ) none) Set.univ
      (cc0_matmul_rot i arg3 harg3 arg4 harg4 arg5 harg5 arg6 harg6 arg7 harg7 arg8 harg8 arg9 harg9)
      (fun _ => AllV c arg3 arg4 arg5 arg6 arg7 arg8 arg9 x0 x1 x2 (o) (k0_pay2 k0_pay1 x0 x1)) := by
  unfold AllV owns
  simp only [cc0_matmul_rot_eq_skeleton]; unfold cc0_matmul_rot_skel
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩⟩
  sl_exec (disch := first | sl_exact hc0 | sl_exact hc1)
  sl_step
  have e : bodyFirst.sl.v3 arg7 = k0_pay1 (F := Ideal) := by
    unfold bodyFirst.sl.v3 bodyFirst.sl.H7_1
    exact View.readCov_full arg7.view _ _ _ _
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists _; isplitr; swap; · iexact H6
                  ipureintro; exact h6
  isplitl [H7]; · iexists _; isplitr; swap; · iexact H7
                  ipureintro; rw [View.read_writes_full, e, View.readAt_full, View.readAt_full, h3, h4]
  isplitl [H8]; · iexists _, _; isplitr; swap; · iexact H8
                  ipureintro; rfl
  iexists _, _; isplitr; swap; · iexact H9
  ipureintro; rfl

set_option maxHeartbeats 4000000 in
/-- The body at a reduction step between: the accumulator takes the product of the blocks. -/
theorem bodyMid (hc0 : ¬ (Scalar.cmpi .ne (Scalar.extui (Scalar.cmpi .eq (BitVec.ofNat 32 (i 2).val) 0#32)) 0#32) = 1#1)
    (hc1 : ¬ k0_cond2 i = 1#1) (x0 : Vec Ideal S1024x2048 .bf16) (x1 : Vec Ideal S1024x768 .bf16) (x2 : Vec Ideal S64x768 .i32) (o a) :
    AllV c arg3 arg4 arg5 arg6 arg7 arg8 arg9 x0 x1 x2 o a ⊢ wp frame (wpE (defs₀ (F := Ideal)) Variants.none (c : Thread nD τ) none) Set.univ
      (cc0_matmul_rot i arg3 harg3 arg4 harg4 arg5 harg5 arg6 harg6 arg7 harg7 arg8 harg8 arg9 harg9)
      (fun _ => AllV c arg3 arg4 arg5 arg6 arg7 arg8 arg9 x0 x1 x2 (o) (k0_pay2 a x0 x1)) := by
  unfold AllV owns
  simp only [cc0_matmul_rot_eq_skeleton]; unfold cc0_matmul_rot_skel
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩⟩
  sl_exec (disch := first | sl_exact hc0 | sl_exact hc1)
  sl_step
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists _; isplitr; swap; · iexact H6
                  ipureintro; exact h6
  isplitl [H7]; · iexists _; isplitr; swap; · iexact H7
                  ipureintro; rw [View.read_writes_full, View.readAt_full, View.readAt_full, View.readAt_full, h7, h3, h4]
  isplitl [H8]; · iexists _, _; isplitr; swap; · iexact H8
                  ipureintro; rfl
  iexists _, _; isplitr; swap; · iexact H9
  ipureintro; rfl

set_option maxHeartbeats 4000000 in
/-- The body at a last reduction step: the accumulator takes the product of the blocks, the output block its rotation. -/
theorem bodyLast (hc0 : ¬ (Scalar.cmpi .ne (Scalar.extui (Scalar.cmpi .eq (BitVec.ofNat 32 (i 2).val) 0#32)) 0#32) = 1#1)
    (hc1 : k0_cond2 i = 1#1) (x0 : Vec Ideal S1024x2048 .bf16) (x1 : Vec Ideal S1024x768 .bf16) (x2 : Vec Ideal S64x768 .i32) (o a) :
    AllV c arg3 arg4 arg5 arg6 arg7 arg8 arg9 x0 x1 x2 o a ⊢ wp frame (wpE (defs₀ (F := Ideal)) Variants.none (c : Thread nD τ) none) Set.univ
      (cc0_matmul_rot i arg3 harg3 arg4 harg4 arg5 harg5 arg6 harg6 arg7 harg7 arg8 harg8 arg9 harg9)
      (fun _ => AllV c arg3 arg4 arg5 arg6 arg7 arg8 arg9 x0 x1 x2 (rot x2 (k0_pay2 a x0 x1)) (k0_pay2 a x0 x1)) := by
  unfold AllV owns
  simp only [cc0_matmul_rot_eq_skeleton]; unfold cc0_matmul_rot_skel
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩⟩
  sl_exec (disch := first | sl_exact hc0 | sl_exact hc1)
  sl_step
  have hacc : ∀ f, arg7.view.read (Elt Ideal) (arg7.view.writes (Elt Ideal) f (bodyLast.sl.H7_1 arg3 arg4 arg7 f3 f4 f7)) = k0_pay2 a x0 x1 := fun f => by
    unfold bodyLast.sl.H7_1
    rw [View.read_writes_full, View.readAt_full, View.readAt_full, View.readAt_full, h7, h3, h4]
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists _; isplitr; swap; · iexact H6
                  ipureintro;
                  rw [hacc, h5] at hL1
                  funext y
                  refine (done_iff _ _ _ _).1 hL1 y ?_
                  have hy0 : (y 0).val < 768 := (y 0).isLt
                  have hy1 : (y 1).val < 2048 := (y 1).isLt
                  show 6 * ((y 1).val / 256) + (y 0).val / 128 < 48
                  omega
  isplitl [H7]; · iexists _; isplitr; swap; · iexact H7
                  ipureintro; exact hacc _
  isplitl [H8]; · iexists _, _; isplitr; swap; · iexact H8
                  ipureintro; rfl
  iexists _, _; isplitr; swap; · iexact H9
  ipureintro; rfl

end Body

/-! ## The points of the grid -/

/-- The first reduction step of a block is at the points divisible by 11. -/
theorem hcond0 : ∀ t : Fin cfg0.N, (Scalar.cmpi .ne (Scalar.extui (Scalar.cmpi .eq (BitVec.ofNat 32 (grid0.coords t 2).val) 0#32)) 0#32) = 1#1 ↔ t.val % 11 = 0 :=
  (by decide +kernel : ∀ t : Fin grid0.N, _)

/-- The last reduction step of a block is at the points that leave 10 when divided by 11. -/
theorem hcond1 : ∀ t : Fin cfg0.N, k0_cond2 (grid0.coords t) = 1#1 ↔ t.val % 11 = 10 :=
  (by decide +kernel : ∀ t : Fin grid0.N, _)

/-- Elsewhere the output window is idle and not written back. -/
theorem idle3 : ∀ t : Fin cfg0.N, t.val % 11 ≠ 10 → cfg0.idle 3 (grid0.coords t) = true ∧ (cfg0.win 3).flush t = false := by decide +kernel

/-- At the last reduction step it is live. -/
theorem live3 : ∀ t : Fin cfg0.N, t.val % 11 = 10 → cfg0.idle 3 (grid0.coords t) = false := by decide +kernel

/-- The windows' block indices at every point. -/
theorem idx : ∀ t : Fin cfg0.N, win0_0.index t = ![t.val % 11, 0] ∧ win0_1.index t = ![t.val % 11, t.val / 11]
    ∧ win0_2.index t = ![0, t.val / 11] ∧ win0_3.index t = ![t.val / 11, 0] :=
  (by decide +kernel : ∀ t : Fin grid0.N, _)

variable (m : (ℓ : Loc nD τ sig) → Buf (Elt Ideal) ℓ) (ρ : Dev nD → PrngReg)

/-- The accumulator after the body at position `n`. -/
def accAt (c : Dev nD) : (n : ℕ) → n < cfg0.N → Vec Ideal S2048x768 .f32
  | 0, hn => k0_pay2 k0_pay1 (iblk m c 0 ⟨0, hn⟩) (iblk m c 1 ⟨0, hn⟩)
  | n + 1, hn =>
    if (n + 1) % 11 = 0 then k0_pay2 k0_pay1 (iblk m c 0 ⟨n + 1, hn⟩) (iblk m c 1 ⟨n + 1, hn⟩)
    else k0_pay2 (accAt c n (Nat.lt_of_succ_lt hn)) (iblk m c 0 ⟨n + 1, hn⟩) (iblk m c 1 ⟨n + 1, hn⟩)

/-- At a first reduction step it starts from zero. -/
theorem accAt_first (c : Dev nD) (t : Fin cfg0.N) (h : t.val % 11 = 0) :
    accAt m c t.val t.isLt = k0_pay2 k0_pay1 (iblk m c 0 t) (iblk m c 1 t) := by
  obtain ⟨n, hn⟩ := t
  cases n with
  | zero => rfl
  | succ n => exact if_pos h

/-- At the others it continues. -/
theorem accAt_next (c : Dev nD) (t : Fin cfg0.N) (h : ¬ t.val % 11 = 0) :
    accAt m c t.val t.isLt = k0_pay2 (accAt m c (t.val - 1) (Nat.lt_of_le_of_lt (Nat.sub_le _ _) t.isLt)) (iblk m c 0 t) (iblk m c 1 t) := by
  obtain ⟨n, hn⟩ := t
  cases n with
  | zero => exact absurd (Nat.zero_mod 11) h
  | succ n => exact if_neg h

/-- What is carried between points: the accumulator at its contents, the two scratches and the generator at whatever they hold. -/
def carried (c : Dev nD) (a : Vec Ideal S2048x768 .f32) : sProp 𝕄 :=
  iprop(iprop(owns (c : Thread nD τ) (Memref.whole cc0_scratch0) fullShare a ∗ (∃ d, owns (c : Thread nD τ) (Memref.whole cc0_scratch1) fullShare d)
    ∗ (∃ d, owns (c : Thread nD τ) (Memref.whole cc0_scratch2) fullShare d)) ∗ (∃ r, prngReg c r))

/-- The invariant before position `n`. -/
def PhiS (c : Dev nD) : (n : ℕ) → n ≤ cfg0.N → sProp 𝕄
  | 0, _ => Pipeline.ΦA spec0 c
  | n + 1, hn => carried c (accAt m c n hn)

theorem PhiS_pos (c : Dev nD) (n : ℕ) (h : n ≤ cfg0.N) (hz : n ≠ 0) :
    PhiS m c n h = carried c (accAt m c (n - 1) (by omega)) := by
  cases n with
  | zero => exact absurd rfl hz
  | succ n => rfl

/-- The accumulator, the two scratches and the generator, all at whatever they hold. -/
abbrev anything (c : Dev nD) : sProp 𝕄 :=
  iprop(iprop((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d)) ∗ (∃ r, prngReg c r))

/-- Whatever is carried, forgotten. -/
theorem carried_forget (c : Dev nD) (a) : carried c a ⊢ anything c := by
  unfold carried
  iintro ⟨⟨HS0, HS1, HS2⟩, Hg⟩
  isplitr [Hg]
  · isplitl [HS0]; · iexists _; iexact HS0
    isplitl [HS1]; · iexact HS1
    iexact HS2
  · iexact Hg

/-- The invariant at any position, its accumulator forgotten. -/
theorem Phi_forget (c : Dev nD) (n : ℕ) (h : n ≤ cfg0.N) : PhiS m c n h ⊢ anything c := by
  cases n with
  | zero => show Pipeline.ΦA spec0 c ⊢ anything c
            rw [PhiA_eq]
            try exact Idealize.SL.BI.Entails.refl _
  | succ n => exact carried_forget c _

/-- The proof data: each input's block where it is staged, the output block the rotation of the accumulator. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rot (iblk m c 2 t) (accAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rot (iblk m c 2 t) (accAt m c t.val t.isLt) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1600000 in
/-- The body at every grid point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0_of m (dats m 0 c) (A_eq m c 0) (after0 m c), before0_1_of m (dats m 0 c) (A_eq m c 1) (after1 m c),
    before0_2_of m (dats m 0 c) (A_eq m c 2) (after2 m c)]
  rw [show (dats m 0 c).owesAt () t.succ = (dats m 0 c).owesAt () t.castSucc from rfl,
    show (dats m 0 c).Φ t.succ = carried c (accAt m c t.val t.isLt) from rfl, Phi_castSucc m c t,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    after0, after1, after2]
  by_cases h0 : t.val % 11 = 0
  · have h1 : t.val % 11 ≠ 10 := by omega
    rw [accAt_first m c t h0, Dat.leavesExact_idle (dats m 0 c) 3 t (idle3 t h1).1 (idle3 t h1).2]
    iintro ⟨HΦ, Ho, ⟨%d0, H0⟩, ⟨%d1, H1⟩, ⟨%d2, H2⟩, ⟨%d3, H3⟩⟩
    ihave HΦ := (Phi_forget m c t.val (Nat.le_of_lt t.isLt)) $$ HΦ
    icases HΦ with ⟨⟨⟨%a, HS0⟩, HS1, HS2⟩, Hg⟩
    iapply (wp_wand_r Idealize.ShloMosaic.frame (wpE (defs₀ (F := Ideal)) Variants.none (c : Thread nD τ) none) Set.univ)
    isplitl [HS0 HS1 HS2 H0 H1 H2 H3]
    · iapply (bodyFirst c (grid0.coords t) _ _ _ _ _ _ _ _ _ _ _ _ _ _ ((hcond0 t).2 h0) (fun h => h1 ((hcond1 t).1 h)) (iblk m c 0 t) (iblk m c 1 t) (iblk m c 2 t) _ a)
      isplitl [H0]; · iexact H0
      isplitl [H1]; · iexact H1
      isplitl [H2]; · iexact H2
      isplitl [H3]; · iexact H3
      isplitl [HS0]; · iexact HS0
      isplitl [HS1]; · iexact HS1
      iexact HS2
    · iintro %_ ⟨H0, H1, H2, H3, HS0, HS1, HS2⟩
      unfold carried
      isplitl [HS0 HS1 HS2 Hg]
      · isplitr [Hg]
        · isplitl [HS0]; · iexact HS0
          isplitl [HS1]; · iexact HS1
          iexact HS2
        · iexact Hg
      isplitl [Ho]; · iexact Ho
      isplitl [H0]; · iexact H0
      isplitl [H1]; · iexact H1
      isplitl [H2]; · iexact H2
      iexists d3; iexact H3
  · have hz : t.val ≠ 0 := fun h => h0 (by rw [h])
    rw [PhiS_pos m c _ _ hz, accAt_next m c t h0]
    by_cases h1 : t.val % 11 = 10
    · rw [show (dats m 0 c).leavesExact 3 t = owns (c : Thread nD τ) (st0_3 t) fullShare ((dats m 0 c).after 3 t) from by
        unfold Dat.leavesExact; rw [live3 t h1], after3, accAt_next m c t h0]
      unfold carried
      iintro ⟨⟨⟨HS0, HS1, HS2⟩, Hg⟩, Ho, ⟨%d0, H0⟩, ⟨%d1, H1⟩, ⟨%d2, H2⟩, ⟨%d3, H3⟩⟩
      iapply (wp_wand_r Idealize.ShloMosaic.frame (wpE (defs₀ (F := Ideal)) Variants.none (c : Thread nD τ) none) Set.univ)
      isplitl [HS0 HS1 HS2 H0 H1 H2 H3]
      · iapply (bodyLast c (grid0.coords t) _ _ _ _ _ _ _ _ _ _ _ _ _ _ (fun h => h0 ((hcond0 t).1 h)) ((hcond1 t).2 h1) (iblk m c 0 t) (iblk m c 1 t) (iblk m c 2 t) _ _)
        isplitl [H0]; · iexact H0
        isplitl [H1]; · iexact H1
        isplitl [H2]; · iexact H2
        isplitl [H3]; · iexact H3
        isplitl [HS0]; · iexact HS0
        isplitl [HS1]; · iexact HS1
        iexact HS2
      · iintro %_ ⟨H0, H1, H2, H3, HS0, HS1, HS2⟩
        isplitl [HS0 HS1 HS2 Hg]
        · isplitr [Hg]
          · isplitl [HS0]; · iexact HS0
            isplitl [HS1]; · iexact HS1
            iexact HS2
          · iexact Hg
        isplitl [Ho]; · iexact Ho
        isplitl [H0]; · iexact H0
        isplitl [H1]; · iexact H1
        isplitl [H2]; · iexact H2
        iexact H3
    · rw [Dat.leavesExact_idle (dats m 0 c) 3 t (idle3 t h1).1 (idle3 t h1).2]
      unfold carried
      iintro ⟨⟨⟨HS0, HS1, HS2⟩, Hg⟩, Ho, ⟨%d0, H0⟩, ⟨%d1, H1⟩, ⟨%d2, H2⟩, ⟨%d3, H3⟩⟩
      iapply (wp_wand_r Idealize.ShloMosaic.frame (wpE (defs₀ (F := Ideal)) Variants.none (c : Thread nD τ) none) Set.univ)
      isplitl [HS0 HS1 HS2 H0 H1 H2 H3]
      · iapply (bodyMid c (grid0.coords t) _ _ _ _ _ _ _ _ _ _ _ _ _ _ (fun h => h0 ((hcond0 t).1 h)) (fun h => h1 ((hcond1 t).1 h)) (iblk m c 0 t) (iblk m c 1 t) (iblk m c 2 t) _ _)
        isplitl [H0]; · iexact H0
        isplitl [H1]; · iexact H1
        isplitl [H2]; · iexact H2
        isplitl [H3]; · iexact H3
        isplitl [HS0]; · iexact HS0
        isplitl [HS1]; · iexact HS1
        iexact HS2
      · iintro %_ ⟨H0, H1, H2, H3, HS0, HS1, HS2⟩
        isplitl [HS0 HS1 HS2 Hg]
        · isplitr [Hg]
          · isplitl [HS0]; · iexact HS0
            isplitl [HS1]; · iexact HS1
            iexact HS2
          · iexact Hg
        isplitl [Ho]; · iexact Ho
        isplitl [H0]; · iexact H0
        isplitl [H1]; · iexact H1
        isplitl [H2]; · iexact H2
        iexists d3; iexact H3

/-- The pipeline's obligation of the body. -/
theorem body_obligation (c : Dev nD) : BodyObligation (dats m 0 c) (defs₀ (F := Ideal)) Variants.none () Set.univ := fun t => by
  rw [bigSep_W0, bigSep_W0, show defs₀ (F := Ideal) .tc cfg0.body (cfg0.bodyArgs t (cfg0.slots t)) = bodyAt0 t by unfold defs₀; rw [Defs.onTc_tc]]
  exact triple_restated (sound_body m c t) rfl .rfl fun _ => .rfl

/-- The launch hands over the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- The launch takes back what is left after the last point. -/
theorem hout (c : Dev nD) : (dats m 0 c).Φ (Fin.last cfg0.N) ⊢ Pipeline.ΦA spec0 c := by
  rw [PhiA_eq]
  exact Phi_forget m c cfg0.N (Nat.le_refl _)

set_option backward.isDefEq.respectTransparency.types false in
/-- The launch: every fair execution terminates, every array at what the proof data compute, every counter back at zero. -/
theorem run_main_quiescent : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := Ideal))) (s₀ m ρ) (Pipeline.FramePost cfgs (dats m) 0 (V m)) :=
  (θ_run defs _ _).mono (fun _ h => h.1) (run_main_quiescent m ρ)

/-! ## The result array -/

/-- The reset stores zero. -/
theorem hzero (j) : k0_pay1 (F := Ideal) j = 0 := by pointwise [k0_pay1]

/-- One point adds the product of its two blocks, contracted over the rows of both. -/
theorem hpay (acc : Vec Ideal S2048x768 .f32) (a : Vec Ideal S1024x2048 .bf16) (b : Vec Ideal S1024x768 .bf16) (j) :
    k0_pay2 acc a b j = acc j + ∑ k : Fin 1024, a (ix2 k (j 0)) * b (ix2 k (j 1)) := by
  pointwise [k0_pay2]

/-- Where an entry of the output block lies in the result array. -/
theorem emb3 (t : Fin cfg0.N) (y : S768x2048.Idx) : (win0_3.blk t).view.emb y
    = (ix2 (n0 := 4608) (n1 := 2048) ⟨768 * (t.val / 11) + (y 0).val, by
        have := (y 0).isLt; have h : t.val < 66 := lt_of_lt_of_eq t.isLt N_0; have : S768x2048.size 0 = 768 := rfl; omega⟩
      ⟨(y 1).val, (y 1).isLt⟩ : S4608x2048.Idx) := by
  blk_ext [idx t]

/-- The mask block at a point. -/
theorem mask_at (c : Dev nD) (t : Fin cfg0.N) (a : Fin 64) (b : Fin 768) (b' : Fin 4608) (hb : b'.val = 768 * (t.val / 11) + b.val) :
    iblk m c 2 t (ix2 a b : S64x768.Idx) = m ((c : Thread nD τ).loc main_arg2) (ix2 a b' : S64x4608.Idx) := by
  blk_point [iblk, V, idx t]

/-- The accumulator at a last reduction step: the whole product, at the block's columns. -/
theorem acc_at (c : Dev nD) (t : Fin cfg0.N) (h : (cfg0.win 3).flush t = true) (a : Fin 2048) (b : Fin 768) (b' : Fin 4608)
    (hb : b'.val = 768 * (t.val / 11) + b.val) :
    accAt m c t.val t.isLt (ix2 a b) = Cert.DXRefIdeal.Spec.prod (m ((c : Thread nD τ).loc main_arg0)) (m ((c : Thread nD τ).loc main_arg1)) (ix2 a b') := by
  have h3 : t.val % 11 = 10 := (flush0_3 t).mp h
  rw [Pipeline.eq_sum_fin_of_reset_step_apply_of_flush (fun n h => accAt m c n h) 11 (fun _ => 0) _
    (fun t h j => by rw [accAt_first m c t h, hpay, hzero])
    (fun t h j => by rw [accAt_next m c t h, hpay]) t h3 _, zero_add]
  unfold Cert.DXRefIdeal.Spec.prod
  refine Fin.sum_mul_add_congr fun s k hl => ?_
  blk_point [iblk, V, idx t, idx ⟨_, Pipeline.run_point_lt_of_flush t ((flush0_3 t).mp h) s⟩]

/-- The result array after the run is the reference's. -/
theorem final (c : Dev nD) (h : Cert.Pre_finite_dx.fn (F := Ideal) (m ((c : Thread nD τ).loc main_arg0)) (m ((c : Thread nD τ).loc main_arg1)) (m ((c : Thread nD τ).loc main_arg2)) = fun _ => 1#1) :
    (dats m 0 c).arrAt 3 (cfgs 0).N
      = Cert.DXRefIdeal.Spec.REF (m ((c : Thread nD τ).loc main_arg0)) (m ((c : Thread nD τ).loc main_arg1)) (m ((c : Thread nD τ).loc main_arg2)) := by
  rw [Cert.DXRefIdeal.Spec.ref_eq _ _ _ h]
  refine (dats m 0 c).arrAt_eq_of_covers 3 _ (by decide +kernel) fun t hf y => ?_
  blk_simp
  rw [after3]
  refine Eq.trans ?_ (congrArg _ (emb3 t y).symm)
  unfold rot rotOut
  dsimp only
  have hy1 : (y 1).val < 2048 := (y 1).isLt
  refine congr (congr (congrArg rotAt ?_) (funext fun i => ?_)) ?_
  · exact mask_at m c t _ _ _ rfl
  · exact acc_at m c t hf _ _ _ rfl
  · rfl

end Cert.DXIdeal.RotValue
end
-- ==== Proof.WGateUpFrame.lean ====
module

public import proofs.«01_k».proof.Proof.Gen.WGateUp.Frame
public import proofs.«01_k».proof.Proof.Gen.WGateUp.Loops
public import Idealize.ShloMosaic.Lib.Pipeline.FrameBody
public import Idealize.ShloMosaic.Lib.Tactic

@[expose] public section

set_option maxRecDepth 16384

noncomputable section

namespace Cert.WGateUp.Rot

open Cert.WGateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

section Body

variable (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S64x1024 .i32) (harg5 : arg5.IsWhole) (arg6 : Memref sig .tc .vmem S1024x2048 .bf16) (harg6 : arg6.IsWhole) (arg7 : Memref sig .tc .vmem S2048x1024 .f32) (harg7 : arg7.IsWhole) (arg8 : Memref sig .tc .vmem S288x128 .f32) (harg8 : arg8.IsWhole) (arg9 : Memref sig .tc .vmem S160x128 .i32) (harg9 : arg9.IsWhole)

/-- What the write-out loop touches: the mask block, the output block, the accumulator and the two
    scratches; all but the mask block at whatever they hold. -/
abbrev Held (f5 : Buf (Elt F) (arg5.view.loc (c : Thread nD τ))) : sProp 𝕄 :=
  iprop((arg5.view.loc (c : Thread nD τ) ↦[arg5.view.set]{fullShare} f5) ∗ (∃ f, arg6.view.loc (c : Thread nD τ) ↦[arg6.view.set]{fullShare} f)
    ∗ (∃ f, arg7.view.loc (c : Thread nD τ) ↦[arg7.view.set]{fullShare} f) ∗ (∃ f, arg8.view.loc (c : Thread nD τ) ↦[arg8.view.set]{fullShare} f)
    ∗ (∃ f, arg9.view.loc (c : Thread nD τ) ↦[arg9.view.set]{fullShare} f))

set_option maxHeartbeats 4000000 in
/-- One trip of the write-out loop runs and gives back what it was handed. -/
theorem trip (k0_h2 : k0_cond2 i = 1#1) (f5 : Buf (Elt F) (arg5.view.loc (c : Thread nD τ))) (k : Fin k0_t1_loop.trips) :
    Held c arg5 arg6 arg7 arg8 arg9 f5 ⊢ wp frame (wpE (defs₀ (F := F)) Variants.none (c : Thread nD τ) none) Set.univ
      (k0_t1_body (F := F) i arg3 harg3 arg4 harg4 arg5 harg5 arg6 harg6 arg7 harg7 arg8 harg8 arg9 harg9 k0_h2 k ()) (fun _ => Held c arg5 arg6 arg7 arg8 arg9 f5) := by
  iintro ⟨H5, ⟨%f6, H6⟩, ⟨%f7, H7⟩, ⟨%f8, H8⟩, ⟨%f9, H9⟩⟩
  sl_unfold [k0_t1_body]
  sl_exec
  sl_step
  isplitl [H5]; · iexact H5
  isplitl [H6]; · iexists _; iexact H6
  isplitl [H7]; · iexists _; iexact H7
  isplitl [H8]; · iexists _; iexact H8
  iexists _; iexact H9

set_option warn.classDefReducibility false in
/-- The write-out loop's invariant: what it touches, at whatever it holds. -/
@[sl_loop] def loopInv (k0_h2 : k0_cond2 i = 1#1) (f5 : Buf (Elt F) (arg5.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 k0_h2 where
  inv _ _ := Held c arg5 arg6 arg7 arg8 arg9 f5
  step k _ := trip c i arg3 harg3 arg4 harg4 arg5 harg5 arg6 harg6 arg7 harg7 arg8 harg8 arg9 harg9 k0_h2 f5 k

/-- What the body is handed and hands back: the inputs' blocks, the other buffers at whatever they hold. -/
abbrev All (x0 : Vec F S512x2048 .bf16) (x1 : Vec F S512x1024 .bf16) (x2 : Vec F S64x1024 .i32) : sProp 𝕄 :=
  iprop(owns (c : Thread nD τ) arg3 fullShare x0 ∗ owns (c : Thread nD τ) arg4 fullShare x1 ∗ owns (c : Thread nD τ) arg5 fullShare x2
    ∗ (∃ d, owns (c : Thread nD τ) arg6 fullShare d) ∗ (∃ d, owns (c : Thread nD τ) arg7 fullShare d)
    ∗ (∃ d, owns (c : Thread nD τ) arg8 fullShare d) ∗ (∃ d, owns (c : Thread nD τ) arg9 fullShare d))

set_option maxHeartbeats 4000000 in
/-- The body runs at every grid point, keeping its input blocks. -/
theorem body (x0 : Vec F S512x2048 .bf16) (x1 : Vec F S512x1024 .bf16) (x2 : Vec F S64x1024 .i32) :
    All c arg3 arg4 arg5 arg6 arg7 arg8 arg9 x0 x1 x2 ⊢ wp frame (wpE (defs₀ (F := F)) Variants.none (c : Thread nD τ) none) Set.univ
      (cc0_matmul_rot i arg3 harg3 arg4 harg4 arg5 harg5 arg6 harg6 arg7 harg7 arg8 harg8 arg9 harg9) (fun _ => All c arg3 arg4 arg5 arg6 arg7 arg8 arg9 x0 x1 x2) := by
  unfold All owns
  by_cases hc0 : (Scalar.cmpi .ne (Scalar.extui (Scalar.cmpi .eq (BitVec.ofNat 32 (i 2).val) 0#32)) 0#32) = 1#1 <;>
  by_cases hc1 : k0_cond2 i = 1#1 <;>
  · simp only [cc0_matmul_rot_eq_skeleton]; unfold cc0_matmul_rot_skel
    iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩⟩
    sl_exec (disch := first | sl_exact hc0 | sl_exact hc1)
    sl_step
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    iexists _, _; isplitr; swap; · iexact H9
    ipureintro; rfl

end Body

variable (m : (ℓ : Loc nD τ sig) → Buf (Elt F) ℓ) (ρ : Dev nD → PrngReg)

/-- The proof data of the frame: each input's block where it is staged; nothing is said of the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

theorem A_eq (c : Dev nD) (w : Fin cfg0.W) : (dats m 0 c).A w = V m c (Pipeline.arrRef spec0 w) := rfl

/-- The output window is the one whose contents the frame says nothing about. -/
abbrev fgt : Fin cfg0.W → Bool := fun w => decide (w = 3)

/-- What the body is called with at point `t`: the two scratch-side resources, then each window's buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The launch's invariant, the scratches as memrefs owned at whatever they hold. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The body at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl),
    before0_2_of m (dats m 0 c) (A_eq m c 2) (fun _ => rfl)]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).after 0 t = iblk m c 0 t from rfl, show (dats m 0 c).after 1 t = iblk m c 1 t from rfl,
    show (dats m 0 c).after 2 t = iblk m c 2 t from rfl]
  iintro ⟨⟨⟨HS0, HS1, HS2⟩, Hg⟩, Ho, ⟨%d0, H0⟩, ⟨%d1, H1⟩, ⟨%d2, H2⟩, H3⟩
  iapply (wp_wand_r Idealize.ShloMosaic.frame (wpE (defs₀ (F := F)) Variants.none (c : Thread nD τ) none) Set.univ)
  isplitl [HS0 HS1 HS2 H0 H1 H2 H3]
  · iapply (body c (grid0.coords t) _ _ _ _ _ _ _ _ _ _ _ _ _ _ (iblk m c 0 t) (iblk m c 1 t) (iblk m c 2 t))
    isplitl [H0]; · iexact H0
    isplitl [H1]; · iexact H1
    isplitl [H2]; · iexact H2
    isplitl [H3]; · iexact H3
    isplitl [HS0]; · iexact HS0
    isplitl [HS1]; · iexact HS1
    iexact HS2
  · iintro %_ ⟨H0, H1, H2, H3, HS0, HS1, HS2⟩
    isplitl [HS0 HS1 HS2 Hg]
    · isplitr [Hg]
      · isplitl [HS0]; · iexact HS0
        isplitl [HS1]; · iexact HS1
        iexact HS2
      · iexact Hg
    isplitl [Ho]; · iexact Ho
    isplitl [H0]; · iexact H0
    isplitl [H1]; · iexact H1
    isplitl [H2]; · iexact H2
    iexact H3

/-- The pipeline's obligation of the body. -/
theorem body_obligation (c : Dev nD) : BodyObligation (dats (F := F) m 0 c) (defs₀ (F := F)) Variants.none () Set.univ fgt := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

set_option backward.isDefEq.respectTransparency.types false in
/-- The launch: every fair execution terminates, the inputs' arrays as they were, every counter back at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A staged input's array ends as it began. -/
theorem kept {r : PUnit × MemSt nD τ sig (Elt F)} (h : Pipeline.RDat.FramePost cfg0 (fun c => (dats m 0 c).toRForget fgt) (V m) r) (c : Dev nD)
    (w : Fin cfg0.W) (hw : fgt w = false) (hin : (cfg0.win w).isOut = false) :
    r.2.mem ((cfg0.spec w).arr.view.loc (c.tc : Thread nD τ)) = V m c (Pipeline.arrRef spec0 w) :=
  (((dats m 0 c).toRForget_arrAt_iff hw _ _).mp ((h c).1 w)).trans (((dats m 0 c).arrAt_in w hin _).trans (A_eq m c w))

/-- The frame: the argument arrays end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨kept m h.1 c 0 rfl rfl, kept m h.1 c 1 rfl rfl, kept m h.1 c 2 rfl rfl⟩, h.2⟩) (run_main m ρ)

end Cert.WGateUp.Rot

end
-- ==== Proof.WGateUpIdealFrame.lean ====
module

public import proofs.«01_k».proof.Proof.Gen.WGateUpIdeal.Frame
public import proofs.«01_k».proof.Proof.Gen.WGateUpIdeal.Loops
public import Idealize.ShloMosaic.Lib.Pipeline.FrameBody
public import Idealize.ShloMosaic.Lib.Tactic

@[expose] public section

set_option maxRecDepth 16384

noncomputable section

namespace Cert.WGateUpIdeal.Rot

open Cert.WGateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

section Body

variable (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S64x1024 .i32) (harg5 : arg5.IsWhole) (arg6 : Memref sig .tc .vmem S1024x2048 .bf16) (harg6 : arg6.IsWhole) (arg7 : Memref sig .tc .vmem S2048x1024 .f32) (harg7 : arg7.IsWhole) (arg8 : Memref sig .tc .vmem S288x128 .f32) (harg8 : arg8.IsWhole) (arg9 : Memref sig .tc .vmem S160x2x128 .bf16) (harg9 : arg9.IsWhole)

/-- What the write-out loop touches: the mask block, the output block, the accumulator and the two
    scratches; all but the mask block at whatever they hold. -/
abbrev Held (f5 : Buf (Elt F) (arg5.view.loc (c : Thread nD τ))) : sProp 𝕄 :=
  iprop((arg5.view.loc (c : Thread nD τ) ↦[arg5.view.set]{fullShare} f5) ∗ (∃ f, arg6.view.loc (c : Thread nD τ) ↦[arg6.view.set]{fullShare} f)
    ∗ (∃ f, arg7.view.loc (c : Thread nD τ) ↦[arg7.view.set]{fullShare} f) ∗ (∃ f, arg8.view.loc (c : Thread nD τ) ↦[arg8.view.set]{fullShare} f)
    ∗ (∃ f, arg9.view.loc (c : Thread nD τ) ↦[arg9.view.set]{fullShare} f))

set_option maxHeartbeats 4000000 in
/-- One trip of the write-out loop runs and gives back what it was handed. -/
theorem trip (k0_h2 : k0_cond2 i = 1#1) (f5 : Buf (Elt F) (arg5.view.loc (c : Thread nD τ))) (k : Fin k0_t1_loop.trips) :
    Held c arg5 arg6 arg7 arg8 arg9 f5 ⊢ wp frame (wpE (defs₀ (F := F)) Variants.none (c : Thread nD τ) none) Set.univ
      (k0_t1_body (F := F) i arg3 harg3 arg4 harg4 arg5 harg5 arg6 harg6 arg7 harg7 arg8 harg8 arg9 harg9 k0_h2 k ()) (fun _ => Held c arg5 arg6 arg7 arg8 arg9 f5) := by
  iintro ⟨H5, ⟨%f6, H6⟩, ⟨%f7, H7⟩, ⟨%f8, H8⟩, ⟨%f9, H9⟩⟩
  sl_unfold [k0_t1_body]
  sl_exec
  sl_step
  isplitl [H5]; · iexact H5
  isplitl [H6]; · iexists _; iexact H6
  isplitl [H7]; · iexists _; iexact H7
  isplitl [H8]; · iexists _; iexact H8
  iexists _; iexact H9

set_option warn.classDefReducibility false in
/-- The write-out loop's invariant: what it touches, at whatever it holds. -/
@[sl_loop] def loopInv (k0_h2 : k0_cond2 i = 1#1) (f5 : Buf (Elt F) (arg5.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 k0_h2 where
  inv _ _ := Held c arg5 arg6 arg7 arg8 arg9 f5
  step k _ := trip c i arg3 harg3 arg4 harg4 arg5 harg5 arg6 harg6 arg7 harg7 arg8 harg8 arg9 harg9 k0_h2 f5 k

/-- What the body is handed and hands back: the inputs' blocks, the other buffers at whatever they hold. -/
abbrev All (x0 : Vec F S512x2048 .bf16) (x1 : Vec F S512x1024 .bf16) (x2 : Vec F S64x1024 .i32) : sProp 𝕄 :=
  iprop(owns (c : Thread nD τ) arg3 fullShare x0 ∗ owns (c : Thread nD τ) arg4 fullShare x1 ∗ owns (c : Thread nD τ) arg5 fullShare x2
    ∗ (∃ d, owns (c : Thread nD τ) arg6 fullShare d) ∗ (∃ d, owns (c : Thread nD τ) arg7 fullShare d)
    ∗ (∃ d, owns (c : Thread nD τ) arg8 fullShare d) ∗ (∃ d, owns (c : Thread nD τ) arg9 fullShare d))

set_option maxHeartbeats 4000000 in
/-- The body runs at every grid point, keeping its input blocks. -/
theorem body (x0 : Vec F S512x2048 .bf16) (x1 : Vec F S512x1024 .bf16) (x2 : Vec F S64x1024 .i32) :
    All c arg3 arg4 arg5 arg6 arg7 arg8 arg9 x0 x1 x2 ⊢ wp frame (wpE (defs₀ (F := F)) Variants.none (c : Thread nD τ) none) Set.univ
      (cc0_matmul_rot i arg3 harg3 arg4 harg4 arg5 harg5 arg6 harg6 arg7 harg7 arg8 harg8 arg9 harg9) (fun _ => All c arg3 arg4 arg5 arg6 arg7 arg8 arg9 x0 x1 x2) := by
  unfold All owns
  by_cases hc0 : (Scalar.cmpi .ne (Scalar.extui (Scalar.cmpi .eq (BitVec.ofNat 32 (i 2).val) 0#32)) 0#32) = 1#1 <;>
  by_cases hc1 : k0_cond2 i = 1#1 <;>
  · simp only [cc0_matmul_rot_eq_skeleton]; unfold cc0_matmul_rot_skel
    iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩⟩
    sl_exec (disch := first | sl_exact hc0 | sl_exact hc1)
    sl_step
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    iexists _, _; isplitr; swap; · iexact H9
    ipureintro; rfl

end Body

variable (m : (ℓ : Loc nD τ sig) → Buf (Elt F) ℓ) (ρ : Dev nD → PrngReg)

/-- The proof data of the frame: each input's block where it is staged; nothing is said of the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

theorem A_eq (c : Dev nD) (w : Fin cfg0.W) : (dats m 0 c).A w = V m c (Pipeline.arrRef spec0 w) := rfl

/-- The output window is the one whose contents the frame says nothing about. -/
abbrev fgt : Fin cfg0.W → Bool := fun w => decide (w = 3)

/-- What the body is called with at point `t`: the two scratch-side resources, then each window's buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The launch's invariant, the scratches as memrefs owned at whatever they hold. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The body at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl),
    before0_2_of m (dats m 0 c) (A_eq m c 2) (fun _ => rfl)]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).after 0 t = iblk m c 0 t from rfl, show (dats m 0 c).after 1 t = iblk m c 1 t from rfl,
    show (dats m 0 c).after 2 t = iblk m c 2 t from rfl]
  iintro ⟨⟨⟨HS0, HS1, HS2⟩, Hg⟩, Ho, ⟨%d0, H0⟩, ⟨%d1, H1⟩, ⟨%d2, H2⟩, H3⟩
  iapply (wp_wand_r Idealize.ShloMosaic.frame (wpE (defs₀ (F := F)) Variants.none (c : Thread nD τ) none) Set.univ)
  isplitl [HS0 HS1 HS2 H0 H1 H2 H3]
  · iapply (body c (grid0.coords t) _ _ _ _ _ _ _ _ _ _ _ _ _ _ (iblk m c 0 t) (iblk m c 1 t) (iblk m c 2 t))
    isplitl [H0]; · iexact H0
    isplitl [H1]; · iexact H1
    isplitl [H2]; · iexact H2
    isplitl [H3]; · iexact H3
    isplitl [HS0]; · iexact HS0
    isplitl [HS1]; · iexact HS1
    iexact HS2
  · iintro %_ ⟨H0, H1, H2, H3, HS0, HS1, HS2⟩
    isplitl [HS0 HS1 HS2 Hg]
    · isplitr [Hg]
      · isplitl [HS0]; · iexact HS0
        isplitl [HS1]; · iexact HS1
        iexact HS2
      · iexact Hg
    isplitl [Ho]; · iexact Ho
    isplitl [H0]; · iexact H0
    isplitl [H1]; · iexact H1
    isplitl [H2]; · iexact H2
    iexact H3

/-- The pipeline's obligation of the body. -/
theorem body_obligation (c : Dev nD) : BodyObligation (dats (F := F) m 0 c) (defs₀ (F := F)) Variants.none () Set.univ fgt := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

set_option backward.isDefEq.respectTransparency.types false in
/-- The launch: every fair execution terminates, the inputs' arrays as they were, every counter back at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A staged input's array ends as it began. -/
theorem kept {r : PUnit × MemSt nD τ sig (Elt F)} (h : Pipeline.RDat.FramePost cfg0 (fun c => (dats m 0 c).toRForget fgt) (V m) r) (c : Dev nD)
    (w : Fin cfg0.W) (hw : fgt w = false) (hin : (cfg0.win w).isOut = false) :
    r.2.mem ((cfg0.spec w).arr.view.loc (c.tc : Thread nD τ)) = V m c (Pipeline.arrRef spec0 w) :=
  (((dats m 0 c).toRForget_arrAt_iff hw _ _).mp ((h c).1 w)).trans (((dats m 0 c).arrAt_in w hin _).trans (A_eq m c w))

/-- The frame: the argument arrays end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨kept m h.1 c 0 rfl rfl, kept m h.1 c 1 rfl rfl, kept m h.1 c 2 rfl rfl⟩, h.2⟩) (run_main m ρ)

end Cert.WGateUpIdeal.Rot

end
-- ==== Proof.WGateUpTrip.lean ====
/- What one trip of the write-out loop of the gate and up projection's weight gradient stores: the rotation of its part of the block. -/
module

public import proofs.«01_k».proof.Proof.WGateUpIdealFrame
public import proofs.«01_k».proof.Proof.RotStage
public import proofs.«01_k».proof.Proof.RotSpec
public import Idealize.ShloMosaic.Lib.WritesUnit

@[expose] public section

set_option maxRecDepth 16384

noncomputable section

namespace Cert.WGateUpIdeal.Rot

open Cert.WGateUpIdeal.Gen Cert.Rot Cert.RotStage
open Idealize.ShloMosaic Idealize.ShloMosaic.TcCoe

variable (c : Dev nD) (i : grid0.Coords) (arg5 : Memref sig .tc .vmem S64x1024 .i32) (arg7 : Memref sig .tc .vmem S2048x1024 .f32) (arg8 : Memref sig .tc .vmem S288x128 .f32) (arg9 : Memref sig .tc .vmem S160x2x128 .bf16)
  (k0_h2 : k0_cond2 i = 1#1) (f5 : Buf (Elt Ideal) (arg5.view.loc (c : Thread nD τ))) (k : Fin k0_t1_loop.trips) (f7 : Buf (Elt Ideal) (arg7.view.loc (c : Thread nD τ)))

/-- The masked rows. -/
def ys (x : S8x128.Idx) (i' : ℕ) : EReal :=
  Scalar.select (IntOp.cmpi .slt (IntOp.shli .vector (trip.sl.r (F := Ideal) c i arg5 k0_h2 f5 k x) (BitVec.ofNat 32 (31 - i'))) 0#32)
    (arg8.view.readCov (trip.sl.H8_8 (F := Ideal) c i arg7 k0_h2 k f7) (rowsRect ⟨i' % 32, Nat.mod_lt _ (by decide)⟩) x) (trip.sl.cst_37 (F := Ideal))

/-- The sixteen rows of pairs one trip writes. -/
abbrev packed : Fin 16 → S8x2x128.Idx → Elt Ideal .bf16 :=
  ![trip.sl.k0_w1 (F := Ideal) c i arg5 arg7 arg8 k0_h2 f5 k f7, trip.sl.k0_w2 (F := Ideal) c i arg5 arg7 arg8 k0_h2 f5 k f7,
    trip.sl.k0_w3 (F := Ideal) c i arg5 arg7 arg8 k0_h2 f5 k f7, trip.sl.k0_w4 (F := Ideal) c i arg5 arg7 arg8 k0_h2 f5 k f7,
    trip.sl.k0_w5 (F := Ideal) c i arg5 arg7 arg8 k0_h2 f5 k f7, trip.sl.k0_w6 (F := Ideal) c i arg5 arg7 arg8 k0_h2 f5 k f7,
    trip.sl.k0_w7 (F := Ideal) c i arg5 arg7 arg8 k0_h2 f5 k f7, trip.sl.k0_w8 (F := Ideal) c i arg5 arg7 arg8 k0_h2 f5 k f7,
    trip.sl.k0_w9 (F := Ideal) c i arg5 arg7 arg8 k0_h2 f5 k f7, trip.sl.k0_w10 (F := Ideal) c i arg5 arg7 arg8 k0_h2 f5 k f7,
    trip.sl.k0_w11 (F := Ideal) c i arg5 arg7 arg8 k0_h2 f5 k f7, trip.sl.k0_w12 (F := Ideal) c i arg5 arg7 arg8 k0_h2 f5 k f7,
    trip.sl.k0_w13 (F := Ideal) c i arg5 arg7 arg8 k0_h2 f5 k f7, trip.sl.k0_w14 (F := Ideal) c i arg5 arg7 arg8 k0_h2 f5 k f7,
    trip.sl.k0_w15 (F := Ideal) c i arg5 arg7 arg8 k0_h2 f5 k f7, trip.sl.k0_w16 (F := Ideal) c i arg5 arg7 arg8 k0_h2 f5 k f7]

/-- Each of the thirty-two rows is an entry of the butterfly, scaled. -/
theorem rows_at (x : S8x128.Idx) :
    (trip.sl.r_59 (F := Ideal) c i arg5 arg7 arg8 k0_h2 f5 k f7 x : EReal) = wht (ys c i arg5 arg7 arg8 k0_h2 f5 k f7 x) 0 * (trip.sl.cst_135 (F := Ideal) : EReal)
    ∧ (trip.sl.r_60 (F := Ideal) c i arg5 arg7 arg8 k0_h2 f5 k f7 x : EReal) = wht (ys c i arg5 arg7 arg8 k0_h2 f5 k f7 x) 1 * (trip.sl.cst_135 (F := Ideal) : EReal)
    ∧ (trip.sl.r_61 (F := Ideal) c i arg5 arg7 arg8 k0_h2 f5 k f7 x : EReal) = wht (ys c i arg5 arg7 arg8 k0_h2 f5 k f7 x) 2 * (trip.sl.cst_135 (F := Ideal) : EReal)
    ∧ (trip.sl.r_62 (F := Ideal) c i arg5 arg7 arg8 k0_h2 f5 k f7 x : EReal) = wht (ys c i arg5 arg7 arg8 k0_h2 f5 k f7 x) 3 * (trip.sl.cst_135 (F := Ideal) : EReal)
    ∧ (trip.sl.r_63 (F := Ideal) c i arg5 arg7 arg8 k0_h2 f5 k f7 x : EReal) = wht (ys c i arg5 arg7 arg8 k0_h2 f5 k f7 x) 4 * (trip.sl.cst_135 (F := Ideal) : EReal)
    ∧ (trip.sl.r_64 (F := Ideal) c i arg5 arg7 arg8 k0_h2 f5 k f7 x : EReal) = wht (ys c i arg5 arg7 arg8 k0_h2 f5 k f7 x) 5 * (trip.sl.cst_135 (F := Ideal) : EReal)
    ∧ (trip.sl.r_65 (F := Ideal) c i arg5 arg7 arg8 k0_h2 f5 k f7 x : EReal) = wht (ys c i arg5 arg7 arg8 k0_h2 f5 k f7 x) 6 * (trip.sl.cst_135 (F := Ideal) : EReal)
    ∧ (trip.sl.r_66 (F := Ideal) c i arg5 arg7 arg8 k0_h2 f5 k f7 x : EReal) = wht (ys c i arg5 arg7 arg8 k0_h2 f5 k f7 x) 7 * (trip.sl.cst_135 (F := Ideal) : EReal)
    ∧ (trip.sl.r_67 (F := Ideal) c i arg5 arg7 arg8 k0_h2 f5 k f7 x : EReal) = wht (ys c i arg5 arg7 arg8 k0_h2 f5 k f7 x) 8 * (trip.sl.cst_135 (F := Ideal) : EReal)
    ∧ (trip.sl.r_68 (F := Ideal) c i arg5 arg7 arg8 k0_h2 f5 k f7 x : EReal) = wht (ys c i arg5 arg7 arg8 k0_h2 f5 k f7 x) 9 * (trip.sl.cst_135 (F := Ideal) : EReal)
    ∧ (trip.sl.r_69 (F := Ideal) c i arg5 arg7 arg8 k0_h2 f5 k f7 x : EReal) = wht (ys c i arg5 arg7 arg8 k0_h2 f5 k f7 x) 10 * (trip.sl.cst_135 (F := Ideal) : EReal)
    ∧ (trip.sl.r_70 (F := Ideal) c i arg5 arg7 arg8 k0_h2 f5 k f7 x : EReal) = wht (ys c i arg5 arg7 arg8 k0_h2 f5 k f7 x) 11 * (trip.sl.cst_135 (F := Ideal) : EReal)
    ∧ (trip.sl.r_71 (F := Ideal) c i arg5 arg7 arg8 k0_h2 f5 k f7 x : EReal) = wht (ys c i arg5 arg7 arg8 k0_h2 f5 k f7 x) 12 * (trip.sl.cst_135 (F := Ideal) : EReal)
    ∧ (trip.sl.r_72 (F := Ideal) c i arg5 arg7 arg8 k0_h2 f5 k f7 x : EReal) = wht (ys c i arg5 arg7 arg8 k0_h2 f5 k f7 x) 13 * (trip.sl.cst_135 (F := Ideal) : EReal)
    ∧ (trip.sl.r_73 (F := Ideal) c i arg5 arg7 arg8 k0_h2 f5 k f7 x : EReal) = wht (ys c i arg5 arg7 arg8 k0_h2 f5 k f7 x) 14 * (trip.sl.cst_135 (F := Ideal) : EReal)
    ∧ (trip.sl.r_74 (F := Ideal) c i arg5 arg7 arg8 k0_h2 f5 k f7 x : EReal) = wht (ys c i arg5 arg7 arg8 k0_h2 f5 k f7 x) 15 * (trip.sl.cst_135 (F := Ideal) : EReal)
    ∧ (trip.sl.r_75 (F := Ideal) c i arg5 arg7 arg8 k0_h2 f5 k f7 x : EReal) = wht (ys c i arg5 arg7 arg8 k0_h2 f5 k f7 x) 16 * (trip.sl.cst_135 (F := Ideal) : EReal)
    ∧ (trip.sl.r_76 (F := Ideal) c i arg5 arg7 arg8 k0_h2 f5 k f7 x : EReal) = wht (ys c i arg5 arg7 arg8 k0_h2 f5 k f7 x) 17 * (trip.sl.cst_135 (F := Ideal) : EReal)
    ∧ (trip.sl.r_77 (F := Ideal) c i arg5 arg7 arg8 k0_h2 f5 k f7 x : EReal) = wht (ys c i arg5 arg7 arg8 k0_h2 f5 k f7 x) 18 * (trip.sl.cst_135 (F := Ideal) : EReal)
    ∧ (trip.sl.r_78 (F := Ideal) c i arg5 arg7 arg8 k0_h2 f5 k f7 x : EReal) = wht (ys c i arg5 arg7 arg8 k0_h2 f5 k f7 x) 19 * (trip.sl.cst_135 (F := Ideal) : EReal)
    ∧ (trip.sl.r_79 (F := Ideal) c i arg5 arg7 arg8 k0_h2 f5 k f7 x : EReal) = wht (ys c i arg5 arg7 arg8 k0_h2 f5 k f7 x) 20 * (trip.sl.cst_135 (F := Ideal) : EReal)
    ∧ (trip.sl.r_80 (F := Ideal) c i arg5 arg7 arg8 k0_h2 f5 k f7 x : EReal) = wht (ys c i arg5 arg7 arg8 k0_h2 f5 k f7 x) 21 * (trip.sl.cst_135 (F := Ideal) : EReal)
    ∧ (trip.sl.r_81 (F := Ideal) c i arg5 arg7 arg8 k0_h2 f5 k f7 x : EReal) = wht (ys c i arg5 arg7 arg8 k0_h2 f5 k f7 x) 22 * (trip.sl.cst_135 (F := Ideal) : EReal)
    ∧ (trip.sl.r_82 (F := Ideal) c i arg5 arg7 arg8 k0_h2 f5 k f7 x : EReal) = wht (ys c i arg5 arg7 arg8 k0_h2 f5 k f7 x) 23 * (trip.sl.cst_135 (F := Ideal) : EReal)
    ∧ (trip.sl.r_83 (F := Ideal) c i arg5 arg7 arg8 k0_h2 f5 k f7 x : EReal) = wht (ys c i arg5 arg7 arg8 k0_h2 f5 k f7 x) 24 * (trip.sl.cst_135 (F := Ideal) : EReal)
    ∧ (trip.sl.r_84 (F := Ideal) c i arg5 arg7 arg8 k0_h2 f5 k f7 x : EReal) = wht (ys c i arg5 arg7 arg8 k0_h2 f5 k f7 x) 25 * (trip.sl.cst_135 (F := Ideal) : EReal)
    ∧ (trip.sl.r_85 (F := Ideal) c i arg5 arg7 arg8 k0_h2 f5 k f7 x : EReal) = wht (ys c i arg5 arg7 arg8 k0_h2 f5 k f7 x) 26 * (trip.sl.cst_135 (F := Ideal) : EReal)
    ∧ (trip.sl.r_86 (F := Ideal) c i arg5 arg7 arg8 k0_h2 f5 k f7 x : EReal) = wht (ys c i arg5 arg7 arg8 k0_h2 f5 k f7 x) 27 * (trip.sl.cst_135 (F := Ideal) : EReal)
    ∧ (trip.sl.v548_lo (F := Ideal) c i arg5 arg7 arg8 k0_h2 f5 k f7 x : EReal) = wht (ys c i arg5 arg7 arg8 k0_h2 f5 k f7 x) 28 * (trip.sl.cst_135 (F := Ideal) : EReal)
    ∧ (trip.sl.v548_hi (F := Ideal) c i arg5 arg7 arg8 k0_h2 f5 k f7 x : EReal) = wht (ys c i arg5 arg7 arg8 k0_h2 f5 k f7 x) 29 * (trip.sl.cst_135 (F := Ideal) : EReal)
    ∧ (trip.sl.v549_lo (F := Ideal) c i arg5 arg7 arg8 k0_h2 f5 k f7 x : EReal) = wht (ys c i arg5 arg7 arg8 k0_h2 f5 k f7 x) 30 * (trip.sl.cst_135 (F := Ideal) : EReal)
    ∧ (trip.sl.v549_hi (F := Ideal) c i arg5 arg7 arg8 k0_h2 f5 k f7 x : EReal) = wht (ys c i arg5 arg7 arg8 k0_h2 f5 k f7 x) 31 * (trip.sl.cst_135 (F := Ideal) : EReal) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each of the thirty-two rows, where the sixteen rows of pairs hold it. -/
theorem words_at (g : Fin 8) (n : Fin 128) :
    (trip.sl.k0_w1 (F := Ideal) c i arg5 arg7 arg8 k0_h2 f5 k f7 (ix3 g 0 n) : EReal) = wht (ys c i arg5 arg7 arg8 k0_h2 f5 k f7 (ix2 g n)) 0 * (trip.sl.cst_135 (F := Ideal) : EReal)
    ∧ (trip.sl.k0_w1 (F := Ideal) c i arg5 arg7 arg8 k0_h2 f5 k f7 (ix3 g 1 n) : EReal) = wht (ys c i arg5 arg7 arg8 k0_h2 f5 k f7 (ix2 g n)) 1 * (trip.sl.cst_135 (F := Ideal) : EReal)
    ∧ (trip.sl.k0_w2 (F := Ideal) c i arg5 arg7 arg8 k0_h2 f5 k f7 (ix3 g 0 n) : EReal) = wht (ys c i arg5 arg7 arg8 k0_h2 f5 k f7 (ix2 g n)) 2 * (trip.sl.cst_135 (F := Ideal) : EReal)
    ∧ (trip.sl.k0_w2 (F := Ideal) c i arg5 arg7 arg8 k0_h2 f5 k f7 (ix3 g 1 n) : EReal) = wht (ys c i arg5 arg7 arg8 k0_h2 f5 k f7 (ix2 g n)) 3 * (trip.sl.cst_135 (F := Ideal) : EReal)
    ∧ (trip.sl.k0_w3 (F := Ideal) c i arg5 arg7 arg8 k0_h2 f5 k f7 (ix3 g 0 n) : EReal) = wht (ys c i arg5 arg7 arg8 k0_h2 f5 k f7 (ix2 g n)) 4 * (trip.sl.cst_135 (F := Ideal) : EReal)
    ∧ (trip.sl.k0_w3 (F := Ideal) c i arg5 arg7 arg8 k0_h2 f5 k f7 (ix3 g 1 n) : EReal) = wht (ys c i arg5 arg7 arg8 k0_h2 f5 k f7 (ix2 g n)) 5 * (trip.sl.cst_135 (F := Ideal) : EReal)
    ∧ (trip.sl.k0_w4 (F := Ideal) c i arg5 arg7 arg8 k0_h2 f5 k f7 (ix3 g 0 n) : EReal) = wht (ys c i arg5 arg7 arg8 k0_h2 f5 k f7 (ix2 g n)) 6 * (trip.sl.cst_135 (F := Ideal) : EReal)
    ∧ (trip.sl.k0_w4 (F := Ideal) c i arg5 arg7 arg8 k0_h2 f5 k f7 (ix3 g 1 n) : EReal) = wht (ys c i arg5 arg7 arg8 k0_h2 f5 k f7 (ix2 g n)) 7 * (trip.sl.cst_135 (F := Ideal) : EReal)
    ∧ (trip.sl.k0_w5 (F := Ideal) c i arg5 arg7 arg8 k0_h2 f5 k f7 (ix3 g 0 n) : EReal) = wht (ys c i arg5 arg7 arg8 k0_h2 f5 k f7 (ix2 g n)) 8 * (trip.sl.cst_135 (F := Ideal) : EReal)
    ∧ (trip.sl.k0_w5 (F := Ideal) c i arg5 arg7 arg8 k0_h2 f5 k f7 (ix3 g 1 n) : EReal) = wht (ys c i arg5 arg7 arg8 k0_h2 f5 k f7 (ix2 g n)) 9 * (trip.sl.cst_135 (F := Ideal) : EReal)
    ∧ (trip.sl.k0_w6 (F := Ideal) c i arg5 arg7 arg8 k0_h2 f5 k f7 (ix3 g 0 n) : EReal) = wht (ys c i arg5 arg7 arg8 k0_h2 f5 k f7 (ix2 g n)) 10 * (trip.sl.cst_135 (F := Ideal) : EReal)
    ∧ (trip.sl.k0_w6 (F := Ideal) c i arg5 arg7 arg8 k0_h2 f5 k f7 (ix3 g 1 n) : EReal) = wht (ys c i arg5 arg7 arg8 k0_h2 f5 k f7 (ix2 g n)) 11 * (trip.sl.cst_135 (F := Ideal) : EReal)
    ∧ (trip.sl.k0_w7 (F := Ideal) c i arg5 arg7 arg8 k0_h2 f5 k f7 (ix3 g 0 n) : EReal) = wht (ys c i arg5 arg7 arg8 k0_h2 f5 k f7 (ix2 g n)) 12 * (trip.sl.cst_135 (F := Ideal) : EReal)
    ∧ (trip.sl.k0_w7 (F := Ideal) c i arg5 arg7 arg8 k0_h2 f5 k f7 (ix3 g 1 n) : EReal) = wht (ys c i arg5 arg7 arg8 k0_h2 f5 k f7 (ix2 g n)) 13 * (trip.sl.cst_135 (F := Ideal) : EReal)
    ∧ (trip.sl.k0_w8 (F := Ideal) c i arg5 arg7 arg8 k0_h2 f5 k f7 (ix3 g 0 n) : EReal) = wht (ys c i arg5 arg7 arg8 k0_h2 f5 k f7 (ix2 g n)) 14 * (trip.sl.cst_135 (F := Ideal) : EReal)
    ∧ (trip.sl.k0_w8 (F := Ideal) c i arg5 arg7 arg8 k0_h2 f5 k f7 (ix3 g 1 n) : EReal) = wht (ys c i arg5 arg7 arg8 k0_h2 f5 k f7 (ix2 g n)) 15 * (trip.sl.cst_135 (F := Ideal) : EReal)
    ∧ (trip.sl.k0_w9 (F := Ideal) c i arg5 arg7 arg8 k0_h2 f5 k f7 (ix3 g 0 n) : EReal) = wht (ys c i arg5 arg7 arg8 k0_h2 f5 k f7 (ix2 g n)) 16 * (trip.sl.cst_135 (F := Ideal) : EReal)
    ∧ (trip.sl.k0_w9 (F := Ideal) c i arg5 arg7 arg8 k0_h2 f5 k f7 (ix3 g 1 n) : EReal) = wht (ys c i arg5 arg7 arg8 k0_h2 f5 k f7 (ix2 g n)) 17 * (trip.sl.cst_135 (F := Ideal) : EReal)
    ∧ (trip.sl.k0_w10 (F := Ideal) c i arg5 arg7 arg8 k0_h2 f5 k f7 (ix3 g 0 n) : EReal) = wht (ys c i arg5 arg7 arg8 k0_h2 f5 k f7 (ix2 g n)) 18 * (trip.sl.cst_135 (F := Ideal) : EReal)
    ∧ (trip.sl.k0_w10 (F := Ideal) c i arg5 arg7 arg8 k0_h2 f5 k f7 (ix3 g 1 n) : EReal) = wht (ys c i arg5 arg7 arg8 k0_h2 f5 k f7 (ix2 g n)) 19 * (trip.sl.cst_135 (F := Ideal) : EReal)
    ∧ (trip.sl.k0_w11 (F := Ideal) c i arg5 arg7 arg8 k0_h2 f5 k f7 (ix3 g 0 n) : EReal) = wht (ys c i arg5 arg7 arg8 k0_h2 f5 k f7 (ix2 g n)) 20 * (trip.sl.cst_135 (F := Ideal) : EReal)
    ∧ (trip.sl.k0_w11 (F := Ideal) c i arg5 arg7 arg8 k0_h2 f5 k f7 (ix3 g 1 n) : EReal) = wht (ys c i arg5 arg7 arg8 k0_h2 f5 k f7 (ix2 g n)) 21 * (trip.sl.cst_135 (F := Ideal) : EReal)
    ∧ (trip.sl.k0_w12 (F := Ideal) c i arg5 arg7 arg8 k0_h2 f5 k f7 (ix3 g 0 n) : EReal) = wht (ys c i arg5 arg7 arg8 k0_h2 f5 k f7 (ix2 g n)) 22 * (trip.sl.cst_135 (F := Ideal) : EReal)
    ∧ (trip.sl.k0_w12 (F := Ideal) c i arg5 arg7 arg8 k0_h2 f5 k f7 (ix3 g 1 n) : EReal) = wht (ys c i arg5 arg7 arg8 k0_h2 f5 k f7 (ix2 g n)) 23 * (trip.sl.cst_135 (F := Ideal) : EReal)
    ∧ (trip.sl.k0_w13 (F := Ideal) c i arg5 arg7 arg8 k0_h2 f5 k f7 (ix3 g 0 n) : EReal) = wht (ys c i arg5 arg7 arg8 k0_h2 f5 k f7 (ix2 g n)) 24 * (trip.sl.cst_135 (F := Ideal) : EReal)
    ∧ (trip.sl.k0_w13 (F := Ideal) c i arg5 arg7 arg8 k0_h2 f5 k f7 (ix3 g 1 n) : EReal) = wht (ys c i arg5 arg7 arg8 k0_h2 f5 k f7 (ix2 g n)) 25 * (trip.sl.cst_135 (F := Ideal) : EReal)
    ∧ (trip.sl.k0_w14 (F := Ideal) c i arg5 arg7 arg8 k0_h2 f5 k f7 (ix3 g 0 n) : EReal) = wht (ys c i arg5 arg7 arg8 k0_h2 f5 k f7 (ix2 g n)) 26 * (trip.sl.cst_135 (F := Ideal) : EReal)
    ∧ (trip.sl.k0_w14 (F := Ideal) c i arg5 arg7 arg8 k0_h2 f5 k f7 (ix3 g 1 n) : EReal) = wht (ys c i arg5 arg7 arg8 k0_h2 f5 k f7 (ix2 g n)) 27 * (trip.sl.cst_135 (F := Ideal) : EReal)
    ∧ (trip.sl.k0_w15 (F := Ideal) c i arg5 arg7 arg8 k0_h2 f5 k f7 (ix3 g 0 n) : EReal) = wht (ys c i arg5 arg7 arg8 k0_h2 f5 k f7 (ix2 g n)) 28 * (trip.sl.cst_135 (F := Ideal) : EReal)
    ∧ (trip.sl.k0_w15 (F := Ideal) c i arg5 arg7 arg8 k0_h2 f5 k f7 (ix3 g 1 n) : EReal) = wht (ys c i arg5 arg7 arg8 k0_h2 f5 k f7 (ix2 g n)) 29 * (trip.sl.cst_135 (F := Ideal) : EReal)
    ∧ (trip.sl.k0_w16 (F := Ideal) c i arg5 arg7 arg8 k0_h2 f5 k f7 (ix3 g 0 n) : EReal) = wht (ys c i arg5 arg7 arg8 k0_h2 f5 k f7 (ix2 g n)) 30 * (trip.sl.cst_135 (F := Ideal) : EReal)
    ∧ (trip.sl.k0_w16 (F := Ideal) c i arg5 arg7 arg8 k0_h2 f5 k f7 (ix3 g 1 n) : EReal) = wht (ys c i arg5 arg7 arg8 k0_h2 f5 k f7 (ix2 g n)) 31 * (trip.sl.cst_135 (F := Ideal) : EReal) :=
  have h := rows_at c i arg5 arg7 arg8 k0_h2 f5 k f7 (ix2 g n)
  ⟨(pair_lo _ _ _ _ _ g n : trip.sl.k0_w1 (F := Ideal) c i arg5 arg7 arg8 k0_h2 f5 k f7 (ix3 g 0 n) = _).trans h.1,
    (pair_hi _ _ _ _ _ g n : trip.sl.k0_w1 (F := Ideal) c i arg5 arg7 arg8 k0_h2 f5 k f7 (ix3 g 1 n) = _).trans h.2.1,
    (pair_lo _ _ _ _ _ g n : trip.sl.k0_w2 (F := Ideal) c i arg5 arg7 arg8 k0_h2 f5 k f7 (ix3 g 0 n) = _).trans h.2.2.1,
    (pair_hi _ _ _ _ _ g n : trip.sl.k0_w2 (F := Ideal) c i arg5 arg7 arg8 k0_h2 f5 k f7 (ix3 g 1 n) = _).trans h.2.2.2.1,
    (pair_lo _ _ _ _ _ g n : trip.sl.k0_w3 (F := Ideal) c i arg5 arg7 arg8 k0_h2 f5 k f7 (ix3 g 0 n) = _).trans h.2.2.2.2.1,
    (pair_hi _ _ _ _ _ g n : trip.sl.k0_w3 (F := Ideal) c i arg5 arg7 arg8 k0_h2 f5 k f7 (ix3 g 1 n) = _).trans h.2.2.2.2.2.1,
    (pair_lo _ _ _ _ _ g n : trip.sl.k0_w4 (F := Ideal) c i arg5 arg7 arg8 k0_h2 f5 k f7 (ix3 g 0 n) = _).trans h.2.2.2.2.2.2.1,
    (pair_hi _ _ _ _ _ g n : trip.sl.k0_w4 (F := Ideal) c i arg5 arg7 arg8 k0_h2 f5 k f7 (ix3 g 1 n) = _).trans h.2.2.2.2.2.2.2.1,
    (pair_lo _ _ _ _ _ g n : trip.sl.k0_w5 (F := Ideal) c i arg5 arg7 arg8 k0_h2 f5 k f7 (ix3 g 0 n) = _).trans h.2.2.2.2.2.2.2.2.1,
    (pair_hi _ _ _ _ _ g n : trip.sl.k0_w5 (F := Ideal) c i arg5 arg7 arg8 k0_h2 f5 k f7 (ix3 g 1 n) = _).trans h.2.2.2.2.2.2.2.2.2.1,
    (pair_lo _ _ _ _ _ g n : trip.sl.k0_w6 (F := Ideal) c i arg5 arg7 arg8 k0_h2 f5 k f7 (ix3 g 0 n) = _).trans h.2.2.2.2.2.2.2.2.2.2.1,
    (pair_hi _ _ _ _ _ g n : trip.sl.k0_w6 (F := Ideal) c i arg5 arg7 arg8 k0_h2 f5 k f7 (ix3 g 1 n) = _).trans h.2.2.2.2.2.2.2.2.2.2.2.1,
    (pair_lo _ _ _ _ _ g n : trip.sl.k0_w7 (F := Ideal) c i arg5 arg7 arg8 k0_h2 f5 k f7 (ix3 g 0 n) = _).trans h.2.2.2.2.2.2.2.2.2.2.2.2.1,
    (pair_hi _ _ _ _ _ g n : trip.sl.k0_w7 (F := Ideal) c i arg5 arg7 arg8 k0_h2 f5 k f7 (ix3 g 1 n) = _).trans h.2.2.2.2.2.2.2.2.2.2.2.2.2.1,
    (pair_lo _ _ _ _ _ g n : trip.sl.k0_w8 (F := Ideal) c i arg5 arg7 arg8 k0_h2 f5 k f7 (ix3 g 0 n) = _).trans h.2.2.2.2.2.2.2.2.2.2.2.2.2.2.1,
    (pair_hi _ _ _ _ _ g n : trip.sl.k0_w8 (F := Ideal) c i arg5 arg7 arg8 k0_h2 f5 k f7 (ix3 g 1 n) = _).trans h.2.2.2.2.2.2.2.2.2.2.2.2.2.2.2.1,
    (pair_lo _ _ _ _ _ g n : trip.sl.k0_w9 (F := Ideal) c i arg5 arg7 arg8 k0_h2 f5 k f7 (ix3 g 0 n) = _).trans h.2.2.2.2.2.2.2.2.2.2.2.2.2.2.2.2.1,
    (pair_hi _ _ _ _ _ g n : trip.sl.k0_w9 (F := Ideal) c i arg5 arg7 arg8 k0_h2 f5 k f7 (ix3 g 1 n) = _).trans h.2.2.2.2.2.2.2.2.2.2.2.2.2.2.2.2.2.1,
    (pair_lo _ _ _ _ _ g n : trip.sl.k0_w10 (F := Ideal) c i arg5 arg7 arg8 k0_h2 f5 k f7 (ix3 g 0 n) = _).trans h.2.2.2.2.2.2.2.2.2.2.2.2.2.2.2.2.2.2.1,
    (pair_hi _ _ _ _ _ g n : trip.sl.k0_w10 (F := Ideal) c i arg5 arg7 arg8 k0_h2 f5 k f7 (ix3 g 1 n) = _).trans h.2.2.2.2.2.2.2.2.2.2.2.2.2.2.2.2.2.2.2.1,
    (pair_lo _ _ _ _ _ g n : trip.sl.k0_w11 (F := Ideal) c i arg5 arg7 arg8 k0_h2 f5 k f7 (ix3 g 0 n) = _).trans h.2.2.2.2.2.2.2.2.2.2.2.2.2.2.2.2.2.2.2.2.1,
    (pair_hi _ _ _ _ _ g n : trip.sl.k0_w11 (F := Ideal) c i arg5 arg7 arg8 k0_h2 f5 k f7 (ix3 g 1 n) = _).trans h.2.2.2.2.2.2.2.2.2.2.2.2.2.2.2.2.2.2.2.2.2.1,
    (pair_lo _ _ _ _ _ g n : trip.sl.k0_w12 (F := Ideal) c i arg5 arg7 arg8 k0_h2 f5 k f7 (ix3 g 0 n) = _).trans h.2.2.2.2.2.2.2.2.2.2.2.2.2.2.2.2.2.2.2.2.2.2.1,
    (pair_hi _ _ _ _ _ g n : trip.sl.k0_w12 (F := Ideal) c i arg5 arg7 arg8 k0_h2 f5 k f7 (ix3 g 1 n) = _).trans h.2.2.2.2.2.2.2.2.2.2.2.2.2.2.2.2.2.2.2.2.2.2.2.1,
    (pair_lo _ _ _ _ _ g n : trip.sl.k0_w13 (F := Ideal) c i arg5 arg7 arg8 k0_h2 f5 k f7 (ix3 g 0 n) = _).trans h.2.2.2.2.2.2.2.2.2.2.2.2.2.2.2.2.2.2.2.2.2.2.2.2.1,
    (pair_hi _ _ _ _ _ g n : trip.sl.k0_w13 (F := Ideal) c i arg5 arg7 arg8 k0_h2 f5 k f7 (ix3 g 1 n) = _).trans h.2.2.2.2.2.2.2.2.2.2.2.2.2.2.2.2.2.2.2.2.2.2.2.2.2.1,
    (pair_lo _ _ _ _ _ g n : trip.sl.k0_w14 (F := Ideal) c i arg5 arg7 arg8 k0_h2 f5 k f7 (ix3 g 0 n) = _).trans h.2.2.2.2.2.2.2.2.2.2.2.2.2.2.2.2.2.2.2.2.2.2.2.2.2.2.1,
    (pair_hi _ _ _ _ _ g n : trip.sl.k0_w14 (F := Ideal) c i arg5 arg7 arg8 k0_h2 f5 k f7 (ix3 g 1 n) = _).trans h.2.2.2.2.2.2.2.2.2.2.2.2.2.2.2.2.2.2.2.2.2.2.2.2.2.2.2.1,
    (pair_lo _ _ _ _ _ g n : trip.sl.k0_w15 (F := Ideal) c i arg5 arg7 arg8 k0_h2 f5 k f7 (ix3 g 0 n) = _).trans h.2.2.2.2.2.2.2.2.2.2.2.2.2.2.2.2.2.2.2.2.2.2.2.2.2.2.2.2.1,
    (pair_hi _ _ _ _ _ g n : trip.sl.k0_w15 (F := Ideal) c i arg5 arg7 arg8 k0_h2 f5 k f7 (ix3 g 1 n) = _).trans h.2.2.2.2.2.2.2.2.2.2.2.2.2.2.2.2.2.2.2.2.2.2.2.2.2.2.2.2.2.1,
    (pair_lo _ _ _ _ _ g n : trip.sl.k0_w16 (F := Ideal) c i arg5 arg7 arg8 k0_h2 f5 k f7 (ix3 g 0 n) = _).trans h.2.2.2.2.2.2.2.2.2.2.2.2.2.2.2.2.2.2.2.2.2.2.2.2.2.2.2.2.2.2.1,
    (pair_hi _ _ _ _ _ g n : trip.sl.k0_w16 (F := Ideal) c i arg5 arg7 arg8 k0_h2 f5 k f7 (ix3 g 1 n) = _).trans h.2.2.2.2.2.2.2.2.2.2.2.2.2.2.2.2.2.2.2.2.2.2.2.2.2.2.2.2.2.2.2⟩

/-- The first half of each row of pairs, at an index. -/
theorem packed_lo (g : Fin 8) (n : Fin 128) : ∀ p : Fin 16, (packed c i arg5 arg7 arg8 k0_h2 f5 k f7 p (ix3 g 0 n) : EReal)
    = wht (ys c i arg5 arg7 arg8 k0_h2 f5 k f7 (ix2 g n)) (2 * p.val) * (trip.sl.cst_135 (F := Ideal) : EReal) := by
  have h := words_at c i arg5 arg7 arg8 k0_h2 f5 k f7 g n
  intro p
  match p with
  | 0 => exact h.1
  | 1 => exact h.2.2.1
  | 2 => exact h.2.2.2.2.1
  | 3 => exact h.2.2.2.2.2.2.1
  | 4 => exact h.2.2.2.2.2.2.2.2.1
  | 5 => exact h.2.2.2.2.2.2.2.2.2.2.1
  | 6 => exact h.2.2.2.2.2.2.2.2.2.2.2.2.1
  | 7 => exact h.2.2.2.2.2.2.2.2.2.2.2.2.2.2.1
  | 8 => exact h.2.2.2.2.2.2.2.2.2.2.2.2.2.2.2.2.1
  | 9 => exact h.2.2.2.2.2.2.2.2.2.2.2.2.2.2.2.2.2.2.1
  | 10 => exact h.2.2.2.2.2.2.2.2.2.2.2.2.2.2.2.2.2.2.2.2.1
  | 11 => exact h.2.2.2.2.2.2.2.2.2.2.2.2.2.2.2.2.2.2.2.2.2.2.1
  | 12 => exact h.2.2.2.2.2.2.2.2.2.2.2.2.2.2.2.2.2.2.2.2.2.2.2.2.1
  | 13 => exact h.2.2.2.2.2.2.2.2.2.2.2.2.2.2.2.2.2.2.2.2.2.2.2.2.2.2.1
  | 14 => exact h.2.2.2.2.2.2.2.2.2.2.2.2.2.2.2.2.2.2.2.2.2.2.2.2.2.2.2.2.1
  | 15 => exact h.2.2.2.2.2.2.2.2.2.2.2.2.2.2.2.2.2.2.2.2.2.2.2.2.2.2.2.2.2.2.1
  | ⟨q + 16, hq⟩ => exact absurd hq (by omega)

/-- The second half of each row of pairs, at an index. -/
theorem packed_hi (g : Fin 8) (n : Fin 128) : ∀ p : Fin 16, (packed c i arg5 arg7 arg8 k0_h2 f5 k f7 p (ix3 g 1 n) : EReal)
    = wht (ys c i arg5 arg7 arg8 k0_h2 f5 k f7 (ix2 g n)) (2 * p.val + 1) * (trip.sl.cst_135 (F := Ideal) : EReal) := by
  have h := words_at c i arg5 arg7 arg8 k0_h2 f5 k f7 g n
  intro p
  match p with
  | 0 => exact h.2.1
  | 1 => exact h.2.2.2.1
  | 2 => exact h.2.2.2.2.2.1
  | 3 => exact h.2.2.2.2.2.2.2.1
  | 4 => exact h.2.2.2.2.2.2.2.2.2.1
  | 5 => exact h.2.2.2.2.2.2.2.2.2.2.2.1
  | 6 => exact h.2.2.2.2.2.2.2.2.2.2.2.2.2.1
  | 7 => exact h.2.2.2.2.2.2.2.2.2.2.2.2.2.2.2.1
  | 8 => exact h.2.2.2.2.2.2.2.2.2.2.2.2.2.2.2.2.2.1
  | 9 => exact h.2.2.2.2.2.2.2.2.2.2.2.2.2.2.2.2.2.2.2.1
  | 10 => exact h.2.2.2.2.2.2.2.2.2.2.2.2.2.2.2.2.2.2.2.2.2.1
  | 11 => exact h.2.2.2.2.2.2.2.2.2.2.2.2.2.2.2.2.2.2.2.2.2.2.2.1
  | 12 => exact h.2.2.2.2.2.2.2.2.2.2.2.2.2.2.2.2.2.2.2.2.2.2.2.2.2.1
  | 13 => exact h.2.2.2.2.2.2.2.2.2.2.2.2.2.2.2.2.2.2.2.2.2.2.2.2.2.2.2.1
  | 14 => exact h.2.2.2.2.2.2.2.2.2.2.2.2.2.2.2.2.2.2.2.2.2.2.2.2.2.2.2.2.2.1
  | 15 => exact h.2.2.2.2.2.2.2.2.2.2.2.2.2.2.2.2.2.2.2.2.2.2.2.2.2.2.2.2.2.2.2
  | ⟨q + 16, hq⟩ => exact absurd hq (by omega)

/-- The rows of pairs, at an index. -/
theorem packed_at (g : Fin 8) (p : Fin 16) (b : Fin 2) (n : Fin 128) : (packed c i arg5 arg7 arg8 k0_h2 f5 k f7 p (ix3 g b n) : EReal)
    = wht (ys c i arg5 arg7 arg8 k0_h2 f5 k f7 (ix2 g n)) (2 * p.val + b.val) * (trip.sl.cst_135 (F := Ideal) : EReal) := by
  match b with
  | 0 => exact packed_lo c i arg5 arg7 arg8 k0_h2 f5 k f7 g n p
  | 1 => exact packed_hi c i arg5 arg7 arg8 k0_h2 f5 k f7 g n p

set_option maxHeartbeats 4000000 in
/-- What one trip stores into the output block: entry (n, 32·g + 2·p + b) is entry 2·p + b of group `g`'s butterfly. -/
theorem stored_at (f9 : Buf (Elt Ideal) (arg9.view.loc (c : Thread nD τ))) (g : Fin 8) (p : Fin 16) (b : Fin 2) (n : Fin 128) :
    (trip.sl.r_87 (F := Ideal) c i arg5 arg7 arg8 arg9 k0_h2 f5 k f7 f9 (ix2 n ⟨32 * g.val + 2 * p.val + b.val, by omega⟩) : EReal)
      = wht (ys c i arg5 arg7 arg8 k0_h2 f5 k f7 (ix2 g n)) (2 * p.val + b.val) * (trip.sl.cst_135 (F := Ideal) : EReal) := by
  refine Eq.trans ?_ (packed_at c i arg5 arg7 arg8 k0_h2 f5 k f7 g p b n)
  refine (unpack_at (α := Elt Ideal .bf16) (fun g => arg9.view.readAt (Elt Ideal) (packRect g).toLoadRect
      (arg9.view.writes (Elt Ideal) (![arg9.view.junk, f9, f9, f9, f9, f9, f9, f9] g) (pairs (packed c i arg5 arg7 arg8 k0_h2 f5 k f7))))
    bitcasts_S16x2x128_w16_S16x1x128_w32 shapeCasts_S16x1x128_S16x128 _ rfl
    concatenates_S16x128_S16x128_S16x128_S16x128_S16x128_S16x128_S16x128_S16x128_S128x128_d0 bitcasts_S256x128_w16_S128x128_w32
    transposes_S256x128_p1_0_S128x256 g p b n).trans ?_
  exact read_pack arg9.view _ (packed c i arg5 arg7 arg8 k0_h2 f5 k f7) g p b n

/-- The eight groups of 32 rows one trip stages. -/
abbrev staged : Fin 8 → S32x128.Idx → Elt Ideal .f32 :=
  ![trip.sl.v57 (F := Ideal) c i arg7 k0_h2 k f7, trip.sl.v61 (F := Ideal) c i arg7 k0_h2 k f7, trip.sl.v65 (F := Ideal) c i arg7 k0_h2 k f7,
    trip.sl.v69 (F := Ideal) c i arg7 k0_h2 k f7, trip.sl.v73 (F := Ideal) c i arg7 k0_h2 k f7, trip.sl.v77 (F := Ideal) c i arg7 k0_h2 k f7,
    trip.sl.v81 (F := Ideal) c i arg7 k0_h2 k f7, trip.sl.v85 (F := Ideal) c i arg7 k0_h2 k f7]

/-- A staged row is the accumulator's. -/
theorem staged_at (j : Fin 32) (n : Fin 128) : ∀ g : Fin 8, staged c i arg7 k0_h2 k f7 g (ix2 j n)
    = trip.sl.r_1 (F := Ideal) c i arg7 k0_h2 k f7 (ix2 ⟨32 * g.val + j.val, by omega⟩ n) := by
  intro g
  match g with
  | 0 => show trip.sl.v57 (F := Ideal) c i arg7 k0_h2 k f7 (ix2 j n) = _; pointwise [trip.sl.v57, trip.sl.v54, trip.sl.r_1]
  | 1 => show trip.sl.v61 (F := Ideal) c i arg7 k0_h2 k f7 (ix2 j n) = _; pointwise [trip.sl.v61, trip.sl.v58]
  | 2 => show trip.sl.v65 (F := Ideal) c i arg7 k0_h2 k f7 (ix2 j n) = _; pointwise [trip.sl.v65, trip.sl.v62]
  | 3 => show trip.sl.v69 (F := Ideal) c i arg7 k0_h2 k f7 (ix2 j n) = _; pointwise [trip.sl.v69, trip.sl.v66]
  | 4 => show trip.sl.v73 (F := Ideal) c i arg7 k0_h2 k f7 (ix2 j n) = _; pointwise [trip.sl.v73, trip.sl.v70]
  | 5 => show trip.sl.v77 (F := Ideal) c i arg7 k0_h2 k f7 (ix2 j n) = _; pointwise [trip.sl.v77, trip.sl.v74]
  | 6 => show trip.sl.v81 (F := Ideal) c i arg7 k0_h2 k f7 (ix2 j n) = _; pointwise [trip.sl.v81, trip.sl.v78]
  | 7 => show trip.sl.v85 (F := Ideal) c i arg7 k0_h2 k f7 (ix2 j n) = _; pointwise [trip.sl.v85, trip.sl.v82]

/-- A masked row, from the mask block and the accumulator. -/
theorem ys_at (g : Fin 8) (n : Fin 128) (i' : ℕ) : ys c i arg5 arg7 arg8 k0_h2 f5 k f7 (ix2 g n) i'
    = masked (trip.sl.r (F := Ideal) c i arg5 k0_h2 f5 k (ix2 g n)) i' (trip.sl.r_1 (F := Ideal) c i arg7 k0_h2 k f7 (ix2 ⟨32 * g.val + i' % 32, by omega⟩ n)) := by
  have e : arg8.view.readCov (trip.sl.H8_8 (F := Ideal) c i arg7 k0_h2 k f7) (rowsRect ⟨i' % 32, Nat.mod_lt _ (by decide)⟩) (ix2 g n)
      = trip.sl.r_1 (F := Ideal) c i arg7 k0_h2 k f7 (ix2 ⟨32 * g.val + i' % 32, by omega⟩ n) :=
    (read_rows arg8.view (staged c i arg7 k0_h2 k f7) ⟨i' % 32, Nat.mod_lt _ (by decide)⟩ g n).trans (staged_at c i arg7 k0_h2 k f7 _ _ g)
  have z : (trip.sl.cst_37 (F := Ideal) : EReal) = 0 := Ideal.ofBits_zero_f32
  unfold ys masked
  rw [e, z]

/-- The scale. -/
theorem scale_eq : (trip.sl.cst_135 (F := Ideal) : EReal) = ((scale : ℝ) : EReal) :=
  IdealRules.named_const.ideal_named_scalar _ _ _ _ rfl

/-- Where trip `k` reads and stores. -/
theorem offs : ∀ k : Fin k0_t1_loop.trips, k0_off1 k = ![8 * (k.val / 8), 128 * (k.val % 8)] ∧ k0_off2 k = ![256 * (k.val / 8), 128 * (k.val % 8)]
    ∧ k0_off3 k = ![128 * (k.val % 8), 256 * (k.val / 8)] := by decide +kernel

/-- What one trip stores is the rotation of the block it is the trip of. -/
theorem stored_eq (f9 : Buf (Elt Ideal) (arg9.view.loc (c : Thread nD τ))) (x : S128x256.Idx) (y : S1024x2048.Idx)
    (h0 : (y 0).val = 128 * (k.val % 8) + (x 0).val) (h1 : (y 1).val = 256 * (k.val / 8) + (x 1).val) :
    (trip.sl.r_87 (F := Ideal) c i arg5 arg7 arg8 arg9 k0_h2 f5 k f7 f9 x : EReal)
      = rotOut (G := 64) (N := 1024) (M := 2048) rfl (arg5.view.read (Elt Ideal) f5) (arg7.view.read (Elt Ideal) f7) y := by
  have hx0 : (x 0).val < 128 := (x 0).isLt
  have hx1 : (x 1).val < 256 := (x 1).isLt
  have hy1 : (y 1).val < 2048 := (y 1).isLt
  have hy0 : (y 0).val < 1024 := (y 0).isLt
  obtain ⟨o1, o2, o3⟩ := offs k
  have hx : x = ix2 ⟨(x 0).val, hx0⟩ ⟨32 * ((x 1).val / 32) + 2 * ((x 1).val % 32 / 2) + (x 1).val % 2, by omega⟩ :=
    (ix2_eta (n0 := 128) (n1 := 256) x).symm.trans (congrArg _ (Fin.ext (by dsimp only; omega)))
  rw [hx]
  refine (stored_at c i arg5 arg7 arg8 arg9 k0_h2 f5 k f7 f9 ⟨(x 1).val / 32, by omega⟩ ⟨(x 1).val % 32 / 2, by omega⟩ ⟨(x 1).val % 2, by omega⟩
    ⟨(x 0).val, hx0⟩).trans ?_
  unfold rotOut rotAt
  rw [scale_eq]
  refine congrArg (· * ((scale : ℝ) : EReal)) ?_
  have hj : 2 * ((x 1).val % 32 / 2) + (x 1).val % 2 = (y 1).val % 32 := by omega
  dsimp only
  rw [hj]
  refine congrArg (fun f => wht f ((y 1).val % 32)) (funext fun i' => ?_)
  rw [ys_at]
  have e1 : trip.sl.r (F := Ideal) c i arg5 k0_h2 f5 k (ix2 ⟨(x 1).val / 32, by omega⟩ ⟨(x 0).val, hx0⟩)
      = arg5.view.read (Elt Ideal) f5 (ix2 ⟨(y 1).val / 32, by omega⟩ (y 0)) := by
    refine congrArg (arg5.view.read (Elt Ideal) f5) (funext fun a => Fin.ext ?_)
    match a with
    | ⟨0, _⟩ => show k0_off1 k 0 + 1 * ((x 1).val / 32) = (y 1).val / 32; rw [o1]; show 8 * (k.val / 8) + _ = _; omega
    | ⟨1, _⟩ => show k0_off1 k 1 + 1 * (x 0).val = (y 0).val; rw [o1]; show 128 * (k.val % 8) + _ = _; omega
  have e2 : trip.sl.r_1 (F := Ideal) c i arg7 k0_h2 k f7 (ix2 ⟨32 * ((x 1).val / 32) + i' % 32, by omega⟩ ⟨(x 0).val, hx0⟩)
      = arg7.view.read (Elt Ideal) f7 (ix2 ⟨32 * ((y 1).val / 32) + i' % 32 % 32, by omega⟩ (y 0)) := by
    refine congrArg (arg7.view.read (Elt Ideal) f7) (funext fun a => Fin.ext ?_)
    match a with
    | ⟨0, _⟩ => show k0_off2 k 0 + 1 * (32 * ((x 1).val / 32) + i' % 32) = 32 * ((y 1).val / 32) + i' % 32 % 32; rw [o2]; show 256 * (k.val / 8) + _ = _; omega
    | ⟨1, _⟩ => show k0_off2 k 1 + 1 * (x 0).val = (y 0).val; rw [o2]; show 128 * (k.val % 8) + _ = _; omega
  rw [e1]
  exact congrArg _ e2

end Cert.WGateUpIdeal.Rot
end
-- ==== Proof.WGateUpSpec.lean ====
/- The reference's result, entry by entry, and what its precondition says: every operand is real. -/
module

public import proofs.«01_k».proof.Proof.Gen.WGateUpRefIdeal.Run
public import proofs.«01_k».proof.Proof.Gen.Pre_finite_w_gate_up
public import proofs.«01_k».proof.Proof.RotSpec
public import Idealize.ShloMosaic.Lib.Pipeline.ValueKit
public import Idealize.ShloMosaic.Lib.Pointwise
public import Idealize.ShloMosaic.Lib.ReduceAll

@[expose] public section

set_option maxRecDepth 16384

noncomputable section

open Idealize.ShloMosaic Idealize.ShloMosaic.TcCoe

namespace Cert.WGateUpRefIdeal.Spec

open Cert.WGateUpRefIdeal Cert.Rot

/-- The reference's result from its three arguments. -/
abbrev REF (A : FVec Ideal S4608x2048 .bf16) (B : FVec Ideal S4608x11264 .bf16) (W : IVec S64x11264 32) : FVec Ideal S11264x2048 .bf16 :=
  truncf .bf16 (shapeCast _ (Host.dotGeneral dot_S11264x64x32_S32x32_S11264x64x32_2_0_01_1_n_n (some .fp32) (shapeCast _ (mulf (mulf (broadcastInDim S11264x2048 ![] Gen.bcast_S_S11264x2048 (Host.divf (constant S_ .f32 0x41800000#32) (constant S_ .f32 0x41100000#32))) (Host.dotGeneral dot_S11264x4608_S2048x4608_S11264x2048_1_1_0_0_n_n none (transpose S11264x4608 [1, 0] B Gen.transposes_S4608x11264_S11264x4608_1_0) (transpose S2048x4608 [1, 0] A Gen.transposes_S4608x2048_S2048x4608_1_0))) (sitofp .f32 (shapeCast _ (andi (Host.shrsi (broadcastInDim S11264x64x32 ![0, 1, 2] Gen.bcast_S11264x64x1_S11264x64x32_0_1_2 (broadcastInDim S11264x64x1 ![0, 1] Gen.bcast_S11264x64_S11264x64x1_0_1 (transpose S11264x64 [1, 0] W Gen.transposes_S64x11264_S11264x64_1_0))) (broadcastInDim S11264x64x32 ![0, 1, 2] Gen.bcast_S1x1x32_S11264x64x32_0_1_2 (broadcastInDim S1x1x32 ![2] Gen.bcast_S32_S1x1x32_2 (iotaInDim S32 32 0)))) (broadcastInDim S11264x64x32 ![] Gen.bcast_S_S11264x64x32 (constantI S_ 32 1#32))) Gen.shapeCasts_S11264x64x32_S11264x2048))) Gen.shapeCasts_S11264x2048_S11264x64x32) (mulf (sitofp .f32 (subi (broadcastInDim S32x32 ![] Gen.bcast_S_S32x32 (constantI S_ 32 1#32)) (muli (broadcastInDim S32x32 ![] Gen.bcast_S_S32x32 (constantI S_ 32 2#32)) (andi (ctpop (andi (broadcastInDim S32x32 ![0, 1] Gen.bcast_S32x1_S32x32_0_1 (broadcastInDim S32x1 ![0] Gen.bcast_S32_S32x1_0 (iotaInDim S32 32 0))) (broadcastInDim S32x32 ![0, 1] Gen.bcast_S1x32_S32x32_0_1 (broadcastInDim S1x32 ![1] Gen.bcast_S32_S1x32_1 (iotaInDim S32 32 0))))) (broadcastInDim S32x32 ![] Gen.bcast_S_S32x32 (constantI S_ 32 1#32)))))) (broadcastInDim S32x32 ![] Gen.bcast_S_S32x32 (constant S_ .f32 0x3E3504F3#32)))) Gen.shapeCasts_S11264x64x32_S11264x2048) Gen.bitsLt_bf16_f32

/-- The product the rotation is taken of. -/
def prod (A : FVec Ideal S4608x2048 .bf16) (B : FVec Ideal S4608x11264 .bf16) (y : (⟨2, ![2048, 11264]⟩ : Shape).Idx) : EReal :=
  ∑ t : Fin 4608, (A (ix2 t (y 0)) : EReal) * (B (ix2 t (y 1)) : EReal)

/-- The reference at an index: the masked product times the Walsh-Hadamard matrix. -/
theorem href (A : FVec Ideal S4608x2048 .bf16) (B : FVec Ideal S4608x11264 .bf16) (W : IVec S64x11264 32) (j : S11264x2048.Idx)
    (h1 : (j 1).val < 2048) :
    REF A B W j = refAt (W (ix2 ⟨(j 1).val / 32, by omega⟩ (j 0)))
      (fun i => prod A B (ix2 ⟨32 * ((j 1).val / 32) + i % 32, by omega⟩ (j 0))) ((j 1).val % 32) := by
  have e : refAt (W (ix2 ⟨(j 1).val / 32, by omega⟩ (j 0)))
      (fun i => prod A B (ix2 ⟨32 * ((j 1).val / 32) + i % 32, by omega⟩ (j 0))) ((j 1).val % 32)
    = ∑ k : Fin 32, (Ideal.div (Ideal.ofBits .f32 0x41800000#32) (Ideal.ofBits .f32 0x41100000#32)
        * ∑ t : Fin 4608, (B (ix2 t (j 0)) : EReal) * (A (ix2 t ⟨(j 1).val / 32 * 32 + k.val, by omega⟩) : EReal))
      * FloatOps.sitofp (F := Ideal) .f32 (IntOp.andi (IntOp.shrsi .host
          (W (ix2 ⟨((j 1).val / 32 * 32 + k.val) / 32, by omega⟩ (j 0))) (BitVec.ofNat 32 k.val)) 1#32)
      * (FloatOps.sitofp (F := Ideal) .f32 (IntOp.subi 1#32 (IntOp.muli 2#32 (IntOp.andi (IntOp.ctpop (IntOp.andi (BitVec.ofNat 32 k.val)
        (BitVec.ofNat 32 ((j 1).val % 32)))) 1#32))) * Ideal.ofBits .f32 0x3E3504F3#32) := by
    unfold refAt
    refine Finset.sum_congr rfl fun k _ => ?_
    have a : (⟨((j 1).val / 32 * 32 + k.val) / 32, by omega⟩ : Fin 64) = ⟨(j 1).val / 32, by omega⟩ := Fin.ext (by dsimp only; omega)
    have b : (⟨32 * ((j 1).val / 32) + k.val % 32, by omega⟩ : Fin 2048) = ⟨(j 1).val / 32 * 32 + k.val, by omega⟩ :=
      Fin.ext (by dsimp only; omega)
    have p : prod A B (ix2 ⟨32 * ((j 1).val / 32) + k.val % 32, by omega⟩ (j 0))
        = ∑ t : Fin 4608, (B (ix2 t (j 0)) : EReal) * (A (ix2 t ⟨(j 1).val / 32 * 32 + k.val, by omega⟩) : EReal) := by
      rw [b]
      exact Finset.sum_congr rfl fun t _ => mul_comm _ _
    rw [a, ← p]
  rw [e]
  pointwise [REF]

/-- The precondition: every entry of both operands is real. -/
theorem real (A : FVec Ideal S4608x2048 .bf16) (B : FVec Ideal S4608x11264 .bf16) (W : IVec S64x11264 32)
    (h : Cert.Pre_finite_w_gate_up.fn (F := Ideal) A B W = fun _ => 1#1) :
    (∀ i, ∃ r : ℝ, A i = (r : EReal)) ∧ (∀ i, ∃ r : ℝ, B i = (r : EReal)) := by
  have h0 := congrFun h default
  unfold Cert.Pre_finite_w_gate_up.fn at h0
  dsimp only at h0
  have h1 := IntOp.andi_eq_one.1 h0
  have hs : Subsingleton Cert.Pre_finite_w_gate_up.S_.Idx := ⟨fun a b => funext fun k => k.elim0⟩
  exact ⟨fun i => real_of_lt _ (Host.reduce_andi_all _ _ _ _ _ h1.1 i), fun i => real_of_lt _ (Host.reduce_andi_all _ _ _ _ _ h1.2 i)⟩

/-- The reference's result is the rotation of the product. -/
theorem ref_eq (A : FVec Ideal S4608x2048 .bf16) (B : FVec Ideal S4608x11264 .bf16) (W : IVec S64x11264 32)
    (h : Cert.Pre_finite_w_gate_up.fn (F := Ideal) A B W = fun _ => 1#1) :
    REF A B W = rotOut (G := 64) (N := 11264) (M := 2048) rfl W (prod A B) := by
  obtain ⟨ha, hb⟩ := real A B W h
  funext j
  rw [href A B W j (j 1).isLt]
  unfold rotOut
  exact (rotAt_eq_refAt _ _ (fun i => real_sum _ _ (fun t => ha _) fun t => hb _) _ (Nat.mod_lt _ (by decide))).symm

end Cert.WGateUpRefIdeal.Spec

end
-- ==== Proof.WGateUpValue.lean ====
/- What the result array of the gate and up projection's weight gradient holds after the run: the rotation of the masked product,
   block by block of nine grid points. -/
module

public import proofs.«01_k».proof.Proof.WGateUpTrip
public import proofs.«01_k».proof.Proof.WGateUpSpec
public import Idealize.ShloMosaic.Lib.VecWindow
public import Idealize.ShloMosaic.Lib.Pipeline.ValueKit
public import Idealize.ShloMosaic.Lib.Pipeline.ReadBack

@[expose] public section

set_option maxRecDepth 16384

noncomputable section

namespace Cert.WGateUpIdeal.RotValue

open Cert.WGateUpIdeal Cert.WGateUpIdeal.Gen Cert.WGateUpIdeal.Rot Cert.Rot
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- What the write-out loop makes of a mask block and the accumulator. -/
abbrev rot (w : Vec Ideal S64x1024 .i32) (acc : Vec Ideal S2048x1024 .f32) : Vec Ideal S1024x2048 .bf16 :=
  rotOut (G := 64) (N := 1024) (M := 2048) rfl w acc

section Body

variable (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S64x1024 .i32) (harg5 : arg5.IsWhole) (arg6 : Memref sig .tc .vmem S1024x2048 .bf16) (harg6 : arg6.IsWhole) (arg7 : Memref sig .tc .vmem S2048x1024 .f32) (harg7 : arg7.IsWhole) (arg8 : Memref sig .tc .vmem S288x128 .f32) (harg8 : arg8.IsWhole) (arg9 : Memref sig .tc .vmem S160x2x128 .bf16) (harg9 : arg9.IsWhole)

/-- Whether one of the first `n` trips stores the entry `y` of the output block. -/
abbrev stores (n : ℕ) (y : S1024x2048.Idx) : Prop := 8 * ((y 1).val / 256) + (y 0).val / 128 < n

/-- A block cut down to what the first `n` trips store. -/
def upTo : ℕ → Vec Ideal S1024x2048 .bf16 → S1024x2048.Idx → EReal
  | 0, _ => fun _ => 0
  | n + 1, o => fun y => if stores (n + 1) y then o y else 0

/-- Before trip `n`: the parts of the output block that the earlier trips store hold their values. -/
abbrev Done (n : ℕ) (w : Vec Ideal S64x1024 .i32) (acc : Vec Ideal S2048x1024 .f32) (o : Vec Ideal S1024x2048 .bf16) : Prop :=
  upTo n o = upTo n (rot w acc)

/-- The same, entry by entry. -/
theorem done_iff (n : ℕ) (w : Vec Ideal S64x1024 .i32) (acc : Vec Ideal S2048x1024 .f32) (o : Vec Ideal S1024x2048 .bf16) :
    Done n w acc o ↔ ∀ y, stores n y → o y = rot w acc y := by
  cases n with
  | zero => exact ⟨fun _ y h => absurd h (Nat.not_lt_zero _), fun _ => rfl⟩
  | succ n =>
    refine ⟨fun h y hy => ?_, fun h => funext fun y => ?_⟩
    · have e := congrFun h y
      simp only [upTo, if_pos hy] at e
      exact e
    · simp only [upTo]
      split
      · next hy => exact h y hy
      · rfl

/-- One trip stores its own part of the block and keeps the others. -/
theorem done_step (k : Fin k0_t1_loop.trips) (w : Vec Ideal S64x1024 .i32) (acc : Vec Ideal S2048x1024 .f32)
    (f6 : arg6.view.ty.Contents (Elt Ideal)) (h : Done k.val w acc (arg6.view.read (Elt Ideal) f6)) (inb)
    (p : S128x256.Idx → Elt Ideal .bf16)
    (hp : ∀ (x : S128x256.Idx) (y : S1024x2048.Idx), (y 0).val = 128 * (k.val % 8) + (x 0).val → (y 1).val = 256 * (k.val / 8) + (x 1).val
      → p x = rot w acc y) :
    Done (k.val + 1) w acc (arg6.view.read (Elt Ideal) (arg6.view.writes (Elt Ideal) f6 [⟨Rect.unit (s := S1024x2048) (k0_off3 k) S128x256.size inb, p⟩])) := by
  refine (done_iff _ _ _ _).2 fun y hy => ?_
  have hy : 8 * ((y 1).val / 256) + (y 0).val / 128 < k.val + 1 := hy
  have hy0 : (y 0).val < 1024 := (y 0).isLt
  have hy1 : (y 1).val < 2048 := (y 1).isLt
  by_cases e : 8 * ((y 1).val / 256) + (y 0).val / 128 = k.val
  · have hx0 : (y 0).val = 128 * (k.val % 8) + (y 0).val % 128 := by omega
    have hx1 : (y 1).val = 256 * (k.val / 8) + (y 1).val % 256 := by omega
    rw [View.read_writes_cons_unit_of_mem arg6.view f6 inb p [] y
      (ix2 (n0 := 128) (n1 := 256) ⟨(y 0).val % 128, by omega⟩ ⟨(y 1).val % 256, by omega⟩) (offs k).2.2 (fun a => by
        match a with
        | ⟨0, _⟩ => exact hx0
        | ⟨1, _⟩ => exact hx1)]
    exact hp _ y hx0 hx1
  · have hk : ¬ ((y 0).val / 128 = k.val % 8 ∧ (y 1).val / 256 = k.val / 8) := by omega
    have hm : View.read (Elt Ideal) arg6.view (arg6.view.writes (Elt Ideal) f6 [⟨Rect.unit (s := S1024x2048) (k0_off3 k) S128x256.size inb, p⟩]) y
        = arg6.view.read (Elt Ideal) f6 y := by
      by_cases h0 : (y 0).val / 128 = k.val % 8
      · refine (View.read_writes_cons_unit_of_not_mem arg6.view f6 inb p [] y (offs k).2.2 1 ?_).trans rfl
        show (y 1).val < 256 * (k.val / 8) ∨ 256 * (k.val / 8) + 256 ≤ (y 1).val
        omega
      · refine (View.read_writes_cons_unit_of_not_mem arg6.view f6 inb p [] y (offs k).2.2 0 ?_).trans rfl
        show (y 0).val < 128 * (k.val % 8) ∨ 128 * (k.val % 8) + 128 ≤ (y 0).val
        omega
    rw [hm]
    exact (done_iff _ _ _ _).1 h y (show 8 * ((y 1).val / 256) + (y 0).val / 128 < k.val by omega)

/-- What the write-out loop touches before trip `n`: the mask block and the accumulator as they are, the output block with its
    first `n` parts stored, the two scratches at whatever they hold. -/
abbrev HeldV (f5 : Buf (Elt Ideal) (arg5.view.loc (c : Thread nD τ))) (f7 : Buf (Elt Ideal) (arg7.view.loc (c : Thread nD τ))) (n : ℕ) : sProp 𝕄 :=
  iprop((arg5.view.loc (c : Thread nD τ) ↦[arg5.view.set]{fullShare} f5)
    ∗ (∃ f, ⌜Done n (arg5.view.read (Elt Ideal) f5) (arg7.view.read (Elt Ideal) f7) (arg6.view.read (Elt Ideal) f)⌝
        ∗ arg6.view.loc (c : Thread nD τ) ↦[arg6.view.set]{fullShare} f)
    ∗ (arg7.view.loc (c : Thread nD τ) ↦[arg7.view.set]{fullShare} f7) ∗ (∃ f, arg8.view.loc (c : Thread nD τ) ↦[arg8.view.set]{fullShare} f)
    ∗ (∃ f, arg9.view.loc (c : Thread nD τ) ↦[arg9.view.set]{fullShare} f))

set_option maxHeartbeats 4000000 in
/-- One trip of the write-out loop stores its part. -/
theorem tripV (k0_h2 : k0_cond2 i = 1#1) (f5 : Buf (Elt Ideal) (arg5.view.loc (c : Thread nD τ))) (f7 : Buf (Elt Ideal) (arg7.view.loc (c : Thread nD τ))) (k : Fin k0_t1_loop.trips) :
    HeldV c arg5 arg6 arg7 arg8 arg9 f5 f7 k.val ⊢ wp frame (wpE (defs₀ (F := Ideal)) Variants.none (c : Thread nD τ) none) Set.univ
      (k0_t1_body (F := Ideal) i arg3 harg3 arg4 harg4 arg5 harg5 arg6 harg6 arg7 harg7 arg8 harg8 arg9 harg9 k0_h2 k ()) (fun _ => HeldV c arg5 arg6 arg7 arg8 arg9 f5 f7 (k.val + 1)) := by
  iintro ⟨H5, ⟨%f6, %h6, H6⟩, H7, ⟨%f8, H8⟩, ⟨%f9, H9⟩⟩
  sl_unfold [k0_t1_body]
  sl_exec
  sl_step
  isplitl [H5]; · iexact H5
  isplitl [H6]
  · iexists _
    isplitr; swap; · iexact H6
    ipureintro
    refine done_step arg6 k _ _ f6 h6 _ _ fun x y h0 h1 => ?_
    refine Eq.trans (congrFun ?_ x) (stored_eq c i arg5 arg7 arg8 arg9 k0_h2 f5 k f7 f9 x y h0 h1)
    sl_kernel_rfl
  isplitl [H7]; · iexact H7
  isplitl [H8]; · iexists _; iexact H8
  iexists _; iexact H9

set_option warn.classDefReducibility false in
/-- The write-out loop's invariant: the parts stored so far hold their values. -/
@[sl_loop] def loopInvV (k0_h2 : k0_cond2 i = 1#1) (f5 : Buf (Elt Ideal) (arg5.view.loc (c : Thread nD τ))) (f7 : Buf (Elt Ideal) (arg7.view.loc (c : Thread nD τ))) :
    LoopInvTy_k0_t1 (F := Ideal) Unit ℕ (UR sig nD τ) ℕ Variants.none c none Set.univ i arg3 harg3 arg4 harg4 arg5 harg5 arg6 harg6 arg7 harg7 arg8 harg8 arg9 harg9 k0_h2 where
  inv k _ := HeldV c arg5 arg6 arg7 arg8 arg9 f5 f7 k
  step k _ := tripV c i arg3 harg3 arg4 harg4 arg5 harg5 arg6 harg6 arg7 harg7 arg8 harg8 arg9 harg9 k0_h2 f5 f7 k

/-- What the body keeps: its input blocks, the output block `o`, the accumulator `a`, the two scratches at whatever they hold. -/
abbrev AllV (x0 : Vec Ideal S512x2048 .bf16) (x1 : Vec Ideal S512x1024 .bf16) (x2 : Vec Ideal S64x1024 .i32)
    (o : Vec Ideal S1024x2048 .bf16) (a : Vec Ideal S2048x1024 .f32) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare o ∗ owns (c : Thread nD τ) arg7 fullShare a
    ∗ (∃ d, owns (c : Thread nD τ) arg8 fullShare d) ∗ (∃ d, owns (c : Thread nD τ) arg9 fullShare d))

set_option maxHeartbeats 4000000 in
/-- The body at a first reduction step: the accumulator is zeroed and takes the product of the blocks. -/
theorem bodyFirst (hc0 : (Scalar.cmpi .ne (Scalar.extui (Scalar.cmpi .eq (BitVec.ofNat 32 (i 2).val) 0#32)) 0#32) = 1#1)
    (hc1 : ¬ k0_cond2 i = 1#1) (x0 : Vec Ideal S512x2048 .bf16) (x1 : Vec Ideal S512x1024 .bf16) (x2 : Vec Ideal S64x1024 .i32) (o a) :
    AllV c arg3 arg4 arg5 arg6 arg7 arg8 arg9 x0 x1 x2 o a ⊢ wp frame (wpE (defs₀ (F := Ideal)) Variants.none (c : Thread nD τ) none) Set.univ
      (cc0_matmul_rot i arg3 harg3 arg4 harg4 arg5 harg5 arg6 harg6 arg7 harg7 arg8 harg8 arg9 harg9)
      (fun _ => AllV c arg3 arg4 arg5 arg6 arg7 arg8 arg9 x0 x1 x2 (o) (k0_pay2 k0_pay1 x0 x1)) := by
  unfold AllV owns
  simp only [cc0_matmul_rot_eq_skeleton]; unfold cc0_matmul_rot_skel
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩⟩
  sl_exec (disch := first | sl_exact hc0 | sl_exact hc1)
  sl_step
  have e : bodyFirst.sl.v3 arg7 = k0_pay1 (F := Ideal) := by
    unfold bodyFirst.sl.v3 bodyFirst.sl.H7_1
    exact View.readCov_full arg7.view _ _ _ _
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists _; isplitr; swap; · iexact H6
                  ipureintro; exact h6
  isplitl [H7]; · iexists _; isplitr; swap; · iexact H7
                  ipureintro; rw [View.read_writes_full, e, View.readAt_full, View.readAt_full, h3, h4]
  isplitl [H8]; · iexists _, _; isplitr; swap; · iexact H8
                  ipureintro; rfl
  iexists _, _; isplitr; swap; · iexact H9
  ipureintro; rfl

set_option maxHeartbeats 4000000 in
/-- The body at a reduction step between: the accumulator takes the product of the blocks. -/
theorem bodyMid (hc0 : ¬ (Scalar.cmpi .ne (Scalar.extui (Scalar.cmpi .eq (BitVec.ofNat 32 (i 2).val) 0#32)) 0#32) = 1#1)
    (hc1 : ¬ k0_cond2 i = 1#1) (x0 : Vec Ideal S512x2048 .bf16) (x1 : Vec Ideal S512x1024 .bf16) (x2 : Vec Ideal S64x1024 .i32) (o a) :
    AllV c arg3 arg4 arg5 arg6 arg7 arg8 arg9 x0 x1 x2 o a ⊢ wp frame (wpE (defs₀ (F := Ideal)) Variants.none (c : Thread nD τ) none) Set.univ
      (cc0_matmul_rot i arg3 harg3 arg4 harg4 arg5 harg5 arg6 harg6 arg7 harg7 arg8 harg8 arg9 harg9)
      (fun _ => AllV c arg3 arg4 arg5 arg6 arg7 arg8 arg9 x0 x1 x2 (o) (k0_pay2 a x0 x1)) := by
  unfold AllV owns
  simp only [cc0_matmul_rot_eq_skeleton]; unfold cc0_matmul_rot_skel
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩⟩
  sl_exec (disch := first | sl_exact hc0 | sl_exact hc1)
  sl_step
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists _; isplitr; swap; · iexact H6
                  ipureintro; exact h6
  isplitl [H7]; · iexists _; isplitr; swap; · iexact H7
                  ipureintro; rw [View.read_writes_full, View.readAt_full, View.readAt_full, View.readAt_full, h7, h3, h4]
  isplitl [H8]; · iexists _, _; isplitr; swap; · iexact H8
                  ipureintro; rfl
  iexists _, _; isplitr; swap; · iexact H9
  ipureintro; rfl

set_option maxHeartbeats 4000000 in
/-- The body at a last reduction step: the accumulator takes the product of the blocks, the output block its rotation. -/
theorem bodyLast (hc0 : ¬ (Scalar.cmpi .ne (Scalar.extui (Scalar.cmpi .eq (BitVec.ofNat 32 (i 2).val) 0#32)) 0#32) = 1#1)
    (hc1 : k0_cond2 i = 1#1) (x0 : Vec Ideal S512x2048 .bf16) (x1 : Vec Ideal S512x1024 .bf16) (x2 : Vec Ideal S64x1024 .i32) (o a) :
    AllV c arg3 arg4 arg5 arg6 arg7 arg8 arg9 x0 x1 x2 o a ⊢ wp frame (wpE (defs₀ (F := Ideal)) Variants.none (c : Thread nD τ) none) Set.univ
      (cc0_matmul_rot i arg3 harg3 arg4 harg4 arg5 harg5 arg6 harg6 arg7 harg7 arg8 harg8 arg9 harg9)
      (fun _ => AllV c arg3 arg4 arg5 arg6 arg7 arg8 arg9 x0 x1 x2 (rot x2 (k0_pay2 a x0 x1)) (k0_pay2 a x0 x1)) := by
  unfold AllV owns
  simp only [cc0_matmul_rot_eq_skeleton]; unfold cc0_matmul_rot_skel
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩⟩
  sl_exec (disch := first | sl_exact hc0 | sl_exact hc1)
  sl_step
  have hacc : ∀ f, arg7.view.read (Elt Ideal) (arg7.view.writes (Elt Ideal) f (bodyLast.sl.H7_1 arg3 arg4 arg7 f3 f4 f7)) = k0_pay2 a x0 x1 := fun f => by
    unfold bodyLast.sl.H7_1
    rw [View.read_writes_full, View.readAt_full, View.readAt_full, View.readAt_full, h7, h3, h4]
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists _; isplitr; swap; · iexact H6
                  ipureintro;
                  rw [hacc, h5] at hL1
                  funext y
                  refine (done_iff _ _ _ _).1 hL1 y ?_
                  have hy0 : (y 0).val < 1024 := (y 0).isLt
                  have hy1 : (y 1).val < 2048 := (y 1).isLt
                  show 8 * ((y 1).val / 256) + (y 0).val / 128 < 64
                  omega
  isplitl [H7]; · iexists _; isplitr; swap; · iexact H7
                  ipureintro; exact hacc _
  isplitl [H8]; · iexists _, _; isplitr; swap; · iexact H8
                  ipureintro; rfl
  iexists _, _; isplitr; swap; · iexact H9
  ipureintro; rfl

end Body

/-! ## The points of the grid -/

/-- The first reduction step of a block is at the points divisible by 9. -/
theorem hcond0 : ∀ t : Fin cfg0.N, (Scalar.cmpi .ne (Scalar.extui (Scalar.cmpi .eq (BitVec.ofNat 32 (grid0.coords t 2).val) 0#32)) 0#32) = 1#1 ↔ t.val % 9 = 0 :=
  (by decide +kernel : ∀ t : Fin grid0.N, _)

/-- The last reduction step of a block is at the points that leave 8 when divided by 9. -/
theorem hcond1 : ∀ t : Fin cfg0.N, k0_cond2 (grid0.coords t) = 1#1 ↔ t.val % 9 = 8 :=
  (by decide +kernel : ∀ t : Fin grid0.N, _)

/-- Elsewhere the output window is idle and not written back. -/
theorem idle3 : ∀ t : Fin cfg0.N, t.val % 9 ≠ 8 → cfg0.idle 3 (grid0.coords t) = true ∧ (cfg0.win 3).flush t = false := by decide +kernel

/-- At the last reduction step it is live. -/
theorem live3 : ∀ t : Fin cfg0.N, t.val % 9 = 8 → cfg0.idle 3 (grid0.coords t) = false := by decide +kernel

/-- The windows' block indices at every point. -/
theorem idx : ∀ t : Fin cfg0.N, win0_0.index t = ![t.val % 9, 0] ∧ win0_1.index t = ![t.val % 9, t.val / 9]
    ∧ win0_2.index t = ![0, t.val / 9] ∧ win0_3.index t = ![t.val / 9, 0] :=
  (by decide +kernel : ∀ t : Fin grid0.N, _)

variable (m : (ℓ : Loc nD τ sig) → Buf (Elt Ideal) ℓ) (ρ : Dev nD → PrngReg)

/-- The accumulator after the body at position `n`. -/
def accAt (c : Dev nD) : (n : ℕ) → n < cfg0.N → Vec Ideal S2048x1024 .f32
  | 0, hn => k0_pay2 k0_pay1 (iblk m c 0 ⟨0, hn⟩) (iblk m c 1 ⟨0, hn⟩)
  | n + 1, hn =>
    if (n + 1) % 9 = 0 then k0_pay2 k0_pay1 (iblk m c 0 ⟨n + 1, hn⟩) (iblk m c 1 ⟨n + 1, hn⟩)
    else k0_pay2 (accAt c n (Nat.lt_of_succ_lt hn)) (iblk m c 0 ⟨n + 1, hn⟩) (iblk m c 1 ⟨n + 1, hn⟩)

/-- At a first reduction step it starts from zero. -/
theorem accAt_first (c : Dev nD) (t : Fin cfg0.N) (h : t.val % 9 = 0) :
    accAt m c t.val t.isLt = k0_pay2 k0_pay1 (iblk m c 0 t) (iblk m c 1 t) := by
  obtain ⟨n, hn⟩ := t
  cases n with
  | zero => rfl
  | succ n => exact if_pos h

/-- At the others it continues. -/
theorem accAt_next (c : Dev nD) (t : Fin cfg0.N) (h : ¬ t.val % 9 = 0) :
    accAt m c t.val t.isLt = k0_pay2 (accAt m c (t.val - 1) (Nat.lt_of_le_of_lt (Nat.sub_le _ _) t.isLt)) (iblk m c 0 t) (iblk m c 1 t) := by
  obtain ⟨n, hn⟩ := t
  cases n with
  | zero => exact absurd (Nat.zero_mod 9) h
  | succ n => exact if_neg h

/-- What is carried between points: the accumulator at its contents, the two scratches and the generator at whatever they hold. -/
def carried (c : Dev nD) (a : Vec Ideal S2048x1024 .f32) : sProp 𝕄 :=
  iprop(iprop(owns (c : Thread nD τ) (Memref.whole cc0_scratch0) fullShare a ∗ (∃ d, owns (c : Thread nD τ) (Memref.whole cc0_scratch1) fullShare d)
    ∗ (∃ d, owns (c : Thread nD τ) (Memref.whole cc0_scratch2) fullShare d)) ∗ (∃ r, prngReg c r))

/-- The invariant before position `n`. -/
def PhiS (c : Dev nD) : (n : ℕ) → n ≤ cfg0.N → sProp 𝕄
  | 0, _ => Pipeline.ΦA spec0 c
  | n + 1, hn => carried c (accAt m c n hn)

theorem PhiS_pos (c : Dev nD) (n : ℕ) (h : n ≤ cfg0.N) (hz : n ≠ 0) :
    PhiS m c n h = carried c (accAt m c (n - 1) (by omega)) := by
  cases n with
  | zero => exact absurd rfl hz
  | succ n => rfl

/-- The accumulator, the two scratches and the generator, all at whatever they hold. -/
abbrev anything (c : Dev nD) : sProp 𝕄 :=
  iprop(iprop((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d)) ∗ (∃ r, prngReg c r))

/-- Whatever is carried, forgotten. -/
theorem carried_forget (c : Dev nD) (a) : carried c a ⊢ anything c := by
  unfold carried
  iintro ⟨⟨HS0, HS1, HS2⟩, Hg⟩
  isplitr [Hg]
  · isplitl [HS0]; · iexists _; iexact HS0
    isplitl [HS1]; · iexact HS1
    iexact HS2
  · iexact Hg

/-- The invariant at any position, its accumulator forgotten. -/
theorem Phi_forget (c : Dev nD) (n : ℕ) (h : n ≤ cfg0.N) : PhiS m c n h ⊢ anything c := by
  cases n with
  | zero => show Pipeline.ΦA spec0 c ⊢ anything c
            rw [PhiA_eq]
            try exact Idealize.SL.BI.Entails.refl _
  | succ n => exact carried_forget c _

/-- The proof data: each input's block where it is staged, the output block the rotation of the accumulator. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rot (iblk m c 2 t) (accAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rot (iblk m c 2 t) (accAt m c t.val t.isLt) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1600000 in
/-- The body at every grid point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0_of m (dats m 0 c) (A_eq m c 0) (after0 m c), before0_1_of m (dats m 0 c) (A_eq m c 1) (after1 m c),
    before0_2_of m (dats m 0 c) (A_eq m c 2) (after2 m c)]
  rw [show (dats m 0 c).owesAt () t.succ = (dats m 0 c).owesAt () t.castSucc from rfl,
    show (dats m 0 c).Φ t.succ = carried c (accAt m c t.val t.isLt) from rfl, Phi_castSucc m c t,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    after0, after1, after2]
  by_cases h0 : t.val % 9 = 0
  · have h1 : t.val % 9 ≠ 8 := by omega
    rw [accAt_first m c t h0, Dat.leavesExact_idle (dats m 0 c) 3 t (idle3 t h1).1 (idle3 t h1).2]
    iintro ⟨HΦ, Ho, ⟨%d0, H0⟩, ⟨%d1, H1⟩, ⟨%d2, H2⟩, ⟨%d3, H3⟩⟩
    ihave HΦ := (Phi_forget m c t.val (Nat.le_of_lt t.isLt)) $$ HΦ
    icases HΦ with ⟨⟨⟨%a, HS0⟩, HS1, HS2⟩, Hg⟩
    iapply (wp_wand_r Idealize.ShloMosaic.frame (wpE (defs₀ (F := Ideal)) Variants.none (c : Thread nD τ) none) Set.univ)
    isplitl [HS0 HS1 HS2 H0 H1 H2 H3]
    · iapply (bodyFirst c (grid0.coords t) _ _ _ _ _ _ _ _ _ _ _ _ _ _ ((hcond0 t).2 h0) (fun h => h1 ((hcond1 t).1 h)) (iblk m c 0 t) (iblk m c 1 t) (iblk m c 2 t) _ a)
      isplitl [H0]; · iexact H0
      isplitl [H1]; · iexact H1
      isplitl [H2]; · iexact H2
      isplitl [H3]; · iexact H3
      isplitl [HS0]; · iexact HS0
      isplitl [HS1]; · iexact HS1
      iexact HS2
    · iintro %_ ⟨H0, H1, H2, H3, HS0, HS1, HS2⟩
      unfold carried
      isplitl [HS0 HS1 HS2 Hg]
      · isplitr [Hg]
        · isplitl [HS0]; · iexact HS0
          isplitl [HS1]; · iexact HS1
          iexact HS2
        · iexact Hg
      isplitl [Ho]; · iexact Ho
      isplitl [H0]; · iexact H0
      isplitl [H1]; · iexact H1
      isplitl [H2]; · iexact H2
      iexists d3; iexact H3
  · have hz : t.val ≠ 0 := fun h => h0 (by rw [h])
    rw [PhiS_pos m c _ _ hz, accAt_next m c t h0]
    by_cases h1 : t.val % 9 = 8
    · rw [show (dats m 0 c).leavesExact 3 t = owns (c : Thread nD τ) (st0_3 t) fullShare ((dats m 0 c).after 3 t) from by
        unfold Dat.leavesExact; rw [live3 t h1], after3, accAt_next m c t h0]
      unfold carried
      iintro ⟨⟨⟨HS0, HS1, HS2⟩, Hg⟩, Ho, ⟨%d0, H0⟩, ⟨%d1, H1⟩, ⟨%d2, H2⟩, ⟨%d3, H3⟩⟩
      iapply (wp_wand_r Idealize.ShloMosaic.frame (wpE (defs₀ (F := Ideal)) Variants.none (c : Thread nD τ) none) Set.univ)
      isplitl [HS0 HS1 HS2 H0 H1 H2 H3]
      · iapply (bodyLast c (grid0.coords t) _ _ _ _ _ _ _ _ _ _ _ _ _ _ (fun h => h0 ((hcond0 t).1 h)) ((hcond1 t).2 h1) (iblk m c 0 t) (iblk m c 1 t) (iblk m c 2 t) _ _)
        isplitl [H0]; · iexact H0
        isplitl [H1]; · iexact H1
        isplitl [H2]; · iexact H2
        isplitl [H3]; · iexact H3
        isplitl [HS0]; · iexact HS0
        isplitl [HS1]; · iexact HS1
        iexact HS2
      · iintro %_ ⟨H0, H1, H2, H3, HS0, HS1, HS2⟩
        isplitl [HS0 HS1 HS2 Hg]
        · isplitr [Hg]
          · isplitl [HS0]; · iexact HS0
            isplitl [HS1]; · iexact HS1
            iexact HS2
          · iexact Hg
        isplitl [Ho]; · iexact Ho
        isplitl [H0]; · iexact H0
        isplitl [H1]; · iexact H1
        isplitl [H2]; · iexact H2
        iexact H3
    · rw [Dat.leavesExact_idle (dats m 0 c) 3 t (idle3 t h1).1 (idle3 t h1).2]
      unfold carried
      iintro ⟨⟨⟨HS0, HS1, HS2⟩, Hg⟩, Ho, ⟨%d0, H0⟩, ⟨%d1, H1⟩, ⟨%d2, H2⟩, ⟨%d3, H3⟩⟩
      iapply (wp_wand_r Idealize.ShloMosaic.frame (wpE (defs₀ (F := Ideal)) Variants.none (c : Thread nD τ) none) Set.univ)
      isplitl [HS0 HS1 HS2 H0 H1 H2 H3]
      · iapply (bodyMid c (grid0.coords t) _ _ _ _ _ _ _ _ _ _ _ _ _ _ (fun h => h0 ((hcond0 t).1 h)) (fun h => h1 ((hcond1 t).1 h)) (iblk m c 0 t) (iblk m c 1 t) (iblk m c 2 t) _ _)
        isplitl [H0]; · iexact H0
        isplitl [H1]; · iexact H1
        isplitl [H2]; · iexact H2
        isplitl [H3]; · iexact H3
        isplitl [HS0]; · iexact HS0
        isplitl [HS1]; · iexact HS1
        iexact HS2
      · iintro %_ ⟨H0, H1, H2, H3, HS0, HS1, HS2⟩
        isplitl [HS0 HS1 HS2 Hg]
        · isplitr [Hg]
          · isplitl [HS0]; · iexact HS0
            isplitl [HS1]; · iexact HS1
            iexact HS2
          · iexact Hg
        isplitl [Ho]; · iexact Ho
        isplitl [H0]; · iexact H0
        isplitl [H1]; · iexact H1
        isplitl [H2]; · iexact H2
        iexists d3; iexact H3

/-- The pipeline's obligation of the body. -/
theorem body_obligation (c : Dev nD) : BodyObligation (dats m 0 c) (defs₀ (F := Ideal)) Variants.none () Set.univ := fun t => by
  rw [bigSep_W0, bigSep_W0, show defs₀ (F := Ideal) .tc cfg0.body (cfg0.bodyArgs t (cfg0.slots t)) = bodyAt0 t by unfold defs₀; rw [Defs.onTc_tc]]
  exact triple_restated (sound_body m c t) rfl .rfl fun _ => .rfl

/-- The launch hands over the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- The launch takes back what is left after the last point. -/
theorem hout (c : Dev nD) : (dats m 0 c).Φ (Fin.last cfg0.N) ⊢ Pipeline.ΦA spec0 c := by
  rw [PhiA_eq]
  exact Phi_forget m c cfg0.N (Nat.le_refl _)

set_option backward.isDefEq.respectTransparency.types false in
/-- The launch: every fair execution terminates, every array at what the proof data compute, every counter back at zero. -/
theorem run_main_quiescent : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := Ideal))) (s₀ m ρ) (Pipeline.FramePost cfgs (dats m) 0 (V m)) :=
  (θ_run defs _ _).mono (fun _ h => h.1) (run_main_quiescent m ρ)

/-! ## The result array -/

/-- The reset stores zero. -/
theorem hzero (j) : k0_pay1 (F := Ideal) j = 0 := by pointwise [k0_pay1]

/-- One point adds the product of its two blocks, contracted over the rows of both. -/
theorem hpay (acc : Vec Ideal S2048x1024 .f32) (a : Vec Ideal S512x2048 .bf16) (b : Vec Ideal S512x1024 .bf16) (j) :
    k0_pay2 acc a b j = acc j + ∑ k : Fin 512, a (ix2 k (j 0)) * b (ix2 k (j 1)) := by
  pointwise [k0_pay2]

/-- Where an entry of the output block lies in the result array. -/
theorem emb3 (t : Fin cfg0.N) (y : S1024x2048.Idx) : (win0_3.blk t).view.emb y
    = (ix2 (n0 := 11264) (n1 := 2048) ⟨1024 * (t.val / 9) + (y 0).val, by
        have := (y 0).isLt; have h : t.val < 99 := lt_of_lt_of_eq t.isLt N_0; have : S1024x2048.size 0 = 1024 := rfl; omega⟩
      ⟨(y 1).val, (y 1).isLt⟩ : S11264x2048.Idx) := by
  blk_ext [idx t]

/-- The mask block at a point. -/
theorem mask_at (c : Dev nD) (t : Fin cfg0.N) (a : Fin 64) (b : Fin 1024) (b' : Fin 11264) (hb : b'.val = 1024 * (t.val / 9) + b.val) :
    iblk m c 2 t (ix2 a b : S64x1024.Idx) = m ((c : Thread nD τ).loc main_arg2) (ix2 a b' : S64x11264.Idx) := by
  blk_point [iblk, V, idx t]

/-- The accumulator at a last reduction step: the whole product, at the block's columns. -/
theorem acc_at (c : Dev nD) (t : Fin cfg0.N) (h : (cfg0.win 3).flush t = true) (a : Fin 2048) (b : Fin 1024) (b' : Fin 11264)
    (hb : b'.val = 1024 * (t.val / 9) + b.val) :
    accAt m c t.val t.isLt (ix2 a b) = Cert.WGateUpRefIdeal.Spec.prod (m ((c : Thread nD τ).loc main_arg0)) (m ((c : Thread nD τ).loc main_arg1)) (ix2 a b') := by
  have h3 : t.val % 9 = 8 := (flush0_3 t).mp h
  rw [Pipeline.eq_sum_fin_of_reset_step_apply_of_flush (fun n h => accAt m c n h) 9 (fun _ => 0) _
    (fun t h j => by rw [accAt_first m c t h, hpay, hzero])
    (fun t h j => by rw [accAt_next m c t h, hpay]) t h3 _, zero_add]
  unfold Cert.WGateUpRefIdeal.Spec.prod
  refine Fin.sum_mul_add_congr fun s k hl => ?_
  blk_point [iblk, V, idx t, idx ⟨_, Pipeline.run_point_lt_of_flush t ((flush0_3 t).mp h) s⟩]

/-- The result array after the run is the reference's. -/
theorem final (c : Dev nD) (h : Cert.Pre_finite_w_gate_up.fn (F := Ideal) (m ((c : Thread nD τ).loc main_arg0)) (m ((c : Thread nD τ).loc main_arg1)) (m ((c : Thread nD τ).loc main_arg2)) = fun _ => 1#1) :
    (dats m 0 c).arrAt 3 (cfgs 0).N
      = Cert.WGateUpRefIdeal.Spec.REF (m ((c : Thread nD τ).loc main_arg0)) (m ((c : Thread nD τ).loc main_arg1)) (m ((c : Thread nD τ).loc main_arg2)) := by
  rw [Cert.WGateUpRefIdeal.Spec.ref_eq _ _ _ h]
  refine (dats m 0 c).arrAt_eq_of_covers 3 _ (by decide +kernel) fun t hf y => ?_
  blk_simp
  rw [after3]
  refine Eq.trans ?_ (congrArg _ (emb3 t y).symm)
  unfold rot rotOut
  dsimp only
  have hy1 : (y 1).val < 2048 := (y 1).isLt
  refine congr (congr (congrArg rotAt ?_) (funext fun i => ?_)) ?_
  · exact mask_at m c t _ _ _ rfl
  · exact acc_at m c t hf _ _ _ rfl
  · rfl

end Cert.WGateUpIdeal.RotValue
end
-- ==== Proof.lean ====
module

public import Idealize.ShloMosaic.Lib.Claim
public import Idealize.ShloMosaic.Lib.Bf16PairInverse
public import proofs.«01_k».proof.Defs
public import proofs.«01_k».proof.Proof.YValue
public import proofs.«01_k».proof.Proof.Gen.Y.Frame
public import proofs.«01_k».proof.Proof.Gen.YIdeal.Value
public import proofs.«01_k».proof.Proof.Gen.YRefIdeal.Run
public import proofs.«01_k».proof.Proof.WDownFrame
public import proofs.«01_k».proof.Proof.WDownIdealFrame
public import proofs.«01_k».proof.Proof.Gen.WDownRefIdeal.Run
public import proofs.«01_k».proof.Proof.Gen.Pre_finite_w_down
public import proofs.«01_k».proof.Proof.WDownValue
public import proofs.«01_k».proof.Proof.DXFrame
public import proofs.«01_k».proof.Proof.DXIdealFrame
public import proofs.«01_k».proof.Proof.Gen.DXRefIdeal.Run
public import proofs.«01_k».proof.Proof.Gen.Pre_finite_dx
public import proofs.«01_k».proof.Proof.DXValue
public import proofs.«01_k».proof.Proof.WGateUpFrame
public import proofs.«01_k».proof.Proof.WGateUpIdealFrame
public import proofs.«01_k».proof.Proof.Gen.WGateUpRefIdeal.Run
public import proofs.«01_k».proof.Proof.Gen.Pre_finite_w_gate_up
public import proofs.«01_k».proof.Proof.WGateUpValue
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The plain product's reference runs, keeps its arguments and leaves every counter at zero. -/
theorem quiescent_YRefIdeal : quiescent_YRefIdeal := fun m ρ _ =>
  (θ_run Cert.YRefIdeal.defs _ _).mono (fun r h => ⟨fun c => (h c).2, sem_eq_zero_of_no_sems (by decide) r.2⟩)
    (Cert.YRefIdeal.Value.run (F := Ideal) m ρ)

/-- The plain product: both programs end with the same array. -/
theorem algebraic_YIdeal_YRefIdeal : algebraic_YIdeal_YRefIdeal := by
  pair_intro
  · run_from Cert.YIdeal.Gen.run_main m g
  · hlo_run
    exact (Cert.YIdeal.Value.final m c).symm

/-- The reference of `WDown` runs, keeps its arguments and leaves every counter at zero. -/
theorem quiescent_WDownRefIdeal : quiescent_WDownRefIdeal := fun m ρ _ =>
  (θ_run Cert.WDownRefIdeal.defs _ _).mono (fun r h => ⟨fun c => (h c).2, sem_eq_zero_of_no_sems (by decide) r.2⟩)
    (Cert.WDownRefIdeal.Value.run (F := Ideal) m ρ)

/-- What the idealisation of `WDown` rests on: the scratch of packed words re-typed as pairs, the named factor, the packing of
    two rows, and words read as rows at the three shapes. -/
theorem preserves_WDown : preserves_WDown_WDownIdeal :=
  open Cert.WDownIdeal IdealRules.bf16_pair in
  ⟨bufferStatement S160x2x128 S160x1x128, IdealRules.named_const.statement κ "bwd_rot" .f32 0x3EA0E7F4#32 ((11863283 / 37748736 : ℝ) : EReal) rfl,
    packStatement S8x128, statement S8x2x128 S8x1x128, statement S16x2x128 S16x1x128, statement S256x128 S128x128⟩

/-- `WDown`: on finite operands both programs end with the same array. -/
theorem algebraic_WDown : algebraic_WDownIdeal_WDownRefIdeal_pre_finite_w_down := by
  pair_intro
  · run_from Cert.WDownIdeal.RotValue.run_main m g
  · hlo_run
    exact (Cert.WDownIdeal.RotValue.final m c (‹Pre_WDownIdeal_finite_w_down m› c)).symm

/-- The reference of `DX` runs, keeps its arguments and leaves every counter at zero. -/
theorem quiescent_DXRefIdeal : quiescent_DXRefIdeal := fun m ρ _ =>
  (θ_run Cert.DXRefIdeal.defs _ _).mono (fun r h => ⟨fun c => (h c).2, sem_eq_zero_of_no_sems (by decide) r.2⟩)
    (Cert.DXRefIdeal.Value.run (F := Ideal) m ρ)

/-- What the idealisation of `DX` rests on: the scratch of packed words re-typed as pairs, the named factor, the packing of
    two rows, and words read as rows at the three shapes. -/
theorem preserves_DX : preserves_DX_DXIdeal :=
  open Cert.DXIdeal IdealRules.bf16_pair in
  ⟨bufferStatement S160x2x128 S160x1x128, IdealRules.named_const.statement κ "bwd_rot" .f32 0x3EA0E7F4#32 ((11863283 / 37748736 : ℝ) : EReal) rfl,
    packStatement S8x128, statement S8x2x128 S8x1x128, statement S16x2x128 S16x1x128, statement S256x128 S128x128⟩

/-- `DX`: on finite operands both programs end with the same array. -/
theorem algebraic_DX : algebraic_DXIdeal_DXRefIdeal_pre_finite_dx := by
  pair_intro
  · run_from Cert.DXIdeal.RotValue.run_main m g
  · hlo_run
    exact (Cert.DXIdeal.RotValue.final m c (‹Pre_DXIdeal_finite_dx m› c)).symm

/-- The reference of `WGateUp` runs, keeps its arguments and leaves every counter at zero. -/
theorem quiescent_WGateUpRefIdeal : quiescent_WGateUpRefIdeal := fun m ρ _ =>
  (θ_run Cert.WGateUpRefIdeal.defs _ _).mono (fun r h => ⟨fun c => (h c).2, sem_eq_zero_of_no_sems (by decide) r.2⟩)
    (Cert.WGateUpRefIdeal.Value.run (F := Ideal) m ρ)

/-- What the idealisation of `WGateUp` rests on: the scratch of packed words re-typed as pairs, the named factor, the packing of
    two rows, and words read as rows at the three shapes. -/
theorem preserves_WGateUp : preserves_WGateUp_WGateUpIdeal :=
  open Cert.WGateUpIdeal IdealRules.bf16_pair in
  ⟨bufferStatement S160x2x128 S160x1x128, IdealRules.named_const.statement κ "bwd_rot" .f32 0x3EA0E7F4#32 ((11863283 / 37748736 : ℝ) : EReal) rfl,
    packStatement S8x128, statement S8x2x128 S8x1x128, statement S16x2x128 S16x1x128, statement S256x128 S128x128⟩

/-- `WGateUp`: on finite operands both programs end with the same array. -/
theorem algebraic_WGateUp : algebraic_WGateUpIdeal_WGateUpRefIdeal_pre_finite_w_gate_up := by
  pair_intro
  · run_from Cert.WGateUpIdeal.RotValue.run_main m g
  · hlo_run
    exact (Cert.WGateUpIdeal.RotValue.final m c (‹Pre_WGateUpIdeal_finite_w_gate_up m› c)).symm

/-- Every claim. -/
theorem claim : Cert.Claim := ⟨Cert.Y.Gen.facts, Cert.YIdeal.Gen.facts, Cert.YRefIdeal.Gen.facts, Cert.WDown.Gen.facts, Cert.WDownIdeal.Gen.facts, Cert.WDownRefIdeal.Gen.facts, Cert.DX.Gen.facts, Cert.DXIdeal.Gen.facts, Cert.DXRefIdeal.Gen.facts, Cert.WGateUp.Gen.facts, Cert.WGateUpIdeal.Gen.facts, Cert.WGateUpRefIdeal.Gen.facts, Cert.Pre_finite_w_down.Gen.facts, Cert.Pre_finite_dx.Gen.facts, Cert.Pre_finite_w_gate_up.Gen.facts,
  fun m ρ _ => Cert.Y.Gen.frame m ρ,
  fun m ρ _ => Cert.YIdeal.Gen.frame m ρ,
  quiescent_YRefIdeal,
  fun m ρ _ => Cert.WDown.Rot.frame m ρ,
  fun m ρ _ => Cert.WDownIdeal.Rot.frame m ρ,
  fun m ρ _ => Cert.WDownIdeal.Rot.frame m ρ,
  quiescent_WDownRefIdeal,
  fun m ρ _ => quiescent_WDownRefIdeal m ρ trivial,
  fun m ρ _ => Cert.DX.Rot.frame m ρ,
  fun m ρ _ => Cert.DXIdeal.Rot.frame m ρ,
  fun m ρ _ => Cert.DXIdeal.Rot.frame m ρ,
  quiescent_DXRefIdeal,
  fun m ρ _ => quiescent_DXRefIdeal m ρ trivial,
  fun m ρ _ => Cert.WGateUp.Rot.frame m ρ,
  fun m ρ _ => Cert.WGateUpIdeal.Rot.frame m ρ,
  fun m ρ _ => Cert.WGateUpIdeal.Rot.frame m ρ,
  quiescent_WGateUpRefIdeal,
  fun m ρ _ => quiescent_WGateUpRefIdeal m ρ trivial,
  (trivial : preserves_Y_YIdeal),
  algebraic_YIdeal_YRefIdeal,
  preserves_WDown,
  algebraic_WDown,
  preserves_DX,
  algebraic_DX,
  preserves_WGateUp,
  algebraic_WGateUp⟩

end Cert.Proof

end
